-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_router [hPre_finite_router : Cert.Pre_finite_router.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_router.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_router [hPre_finite_router : Cert.Pre_finite_router.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_router.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_heads [hPre_finite_heads : Cert.Pre_finite_heads.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_heads.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_heads [hPre_finite_heads : Cert.Pre_finite_heads.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_heads.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Kernel6Ideal_pre_finite_router [hKernel6Ideal : Cert.Kernel6Ideal.Facts] [hPre_finite_router : Cert.Pre_finite_router.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_router m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Reference6Ideal_pre_finite_router [hReference6Ideal : Cert.Reference6Ideal.Facts] [hPre_finite_router : Cert.Pre_finite_router.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_router m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_heads [hKernel7Ideal : Cert.Kernel7Ideal.Facts] [hPre_finite_heads : Cert.Pre_finite_heads.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_heads m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_heads [hReference7Ideal : Cert.Reference7Ideal.Facts] [hPre_finite_heads : Cert.Pre_finite_heads.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_heads m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  IdealRules.bf16_pair.BufferStatement Cert.Kernel3Ideal.S32768x2x512 Cert.Kernel3Ideal.S32768x1x512
  ∧ IdealRules.bf16_pair.BufferStatement Cert.Kernel3Ideal.S256x2x512 Cert.Kernel3Ideal.S256x1x512
  ∧ IdealRules.bf16_pair.Statement Cert.Kernel3Ideal.S256x2x512 Cert.Kernel3Ideal.S256x1x512
  ∧ IdealRules.bf16_pack.Statement Cert.Kernel3Ideal.S256x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)) →
    ∃ (v0 : (c : Dev Cert.Kernel3Ideal.nD) → Buf (Elt Ideal) ((c.tc : Thread Cert.Kernel3Ideal.nD Cert.Kernel3Ideal.τ).loc Cert.Kernel3Ideal.main_v9_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v111) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite_router [hKernel6Ideal : Cert.Kernel6Ideal.Facts] [hReference6Ideal : Cert.Reference6Ideal.Facts] [hPre_finite_router : Cert.Pre_finite_router.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_router m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_heads [hKernel7Ideal : Cert.Kernel7Ideal.Facts] [hReference7Ideal : Cert.Reference7Ideal.Facts] [hPre_finite_heads : Cert.Pre_finite_heads.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_heads m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v52_0)) (v1 : (c : Dev Cert.Kernel7Ideal.nD) → Buf (Elt Ideal) ((c.tc : Thread Cert.Kernel7Ideal.nD Cert.Kernel7Ideal.τ).loc Cert.Kernel7Ideal.main_v52_1)) (v2 : (c : Dev Cert.Kernel7Ideal.nD) → Buf (Elt Ideal) ((c.tc : Thread Cert.Kernel7Ideal.nD Cert.Kernel7Ideal.τ).loc Cert.Kernel7Ideal.main_v52_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v52_0) = v0 c
          ∧ r.2.mem ((c.tc : Thread Cert.Kernel7Ideal.nD Cert.Kernel7Ideal.τ).loc Cert.Kernel7Ideal.main_v52_1) = v1 c
          ∧ r.2.mem ((c.tc : Thread Cert.Kernel7Ideal.nD Cert.Kernel7Ideal.τ).loc Cert.Kernel7Ideal.main_v52_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v157) = v0 c
          ∧ r.2.mem ((c.tc : Thread Cert.Reference7Ideal.nD Cert.Reference7Ideal.τ).loc Cert.Reference7Ideal.main_v159) = v1 c
          ∧ r.2.mem ((c.tc : Thread Cert.Reference7Ideal.nD Cert.Reference7Ideal.τ).loc Cert.Reference7Ideal.main_v161) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite_scores : Cert.Pre_finite_scores.Facts) (hPre_finite_router : Cert.Pre_finite_router.Facts) (hPre_finite_heads : Cert.Pre_finite_heads.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_router (hKernel6Ideal := hKernel6Ideal) (hPre_finite_router := hPre_finite_router)
    ∧ quiescent_Reference6Ideal (hReference6Ideal := hReference6Ideal)
    ∧ quiescent_Reference6Ideal_pre_finite_router (hReference6Ideal := hReference6Ideal) (hPre_finite_router := hPre_finite_router)
    ∧ quiescent_Kernel7 (hKernel7 := hKernel7)
    ∧ quiescent_Kernel7Ideal (hKernel7Ideal := hKernel7Ideal)
    ∧ quiescent_Kernel7Ideal_pre_finite_heads (hKernel7Ideal := hKernel7Ideal) (hPre_finite_heads := hPre_finite_heads)
    ∧ quiescent_Reference7Ideal (hReference7Ideal := hReference7Ideal)
    ∧ quiescent_Reference7Ideal_pre_finite_heads (hReference7Ideal := hReference7Ideal) (hPre_finite_heads := hPre_finite_heads)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_router (hKernel6Ideal := hKernel6Ideal) (hReference6Ideal := hReference6Ideal) (hPre_finite_router := hPre_finite_router)
    ∧ preserves_Kernel7_Kernel7Ideal
    ∧ algebraic_Kernel7Ideal_Reference7Ideal_pre_finite_heads (hKernel7Ideal := hKernel7Ideal) (hReference7Ideal := hReference7Ideal) (hPre_finite_heads := hPre_finite_heads)
-- ==== Pre_finite_heads.lean ====
abbrev S32768x3840 : Shape := ⟨2, ![32768, 3840]⟩
abbrev S64 : Shape := ⟨1, ![64]⟩
abbrev S_ : Shape := ⟨0, ![]⟩

class Facts : Prop where
  bcast_S_S32768x3840 : S_.BroadcastsInDim S32768x3840 (![] : Fin 0 → Fin S32768x3840.rank)
  reducesTo_S32768x3840_S_d0_1 : S32768x3840.ReducesTo [0, 1] S_
  h_S_ : 0 < S_.numel

variable [Facts]

def fn {F : FTy → Type} [FloatOps F] (main_arg0 : FVec F S32768x3840 .f32) (main_arg1 : FVec F S64 .f32) (main_arg2 : FVec F S64 .f32) : IVec S_ 1 :=
  let main_v0 : FVec F S32768x3840 .f32 := Host.absf main_arg0
  let main_cst : FVec F S_ .f32 := constant S_ .f32 0x7F800000#32
  let main_v1 : FVec F S32768x3840 .f32 := broadcastInDim S32768x3840 ![] bcast_S_S32768x3840 main_cst
  let main_v2 : IVec S32768x3840 1 := cmpf .olt main_v0 main_v1
  let main_c : IVec S_ 1 := constantI S_ 1 1#1
  let main_v3 : IVec S_ 1 := (fun x v => Host.reduce IntOp.andi x v reducesTo_S32768x3840_S_d0_1 h_S_) main_v2 main_c
  main_v3
-- ==== Pre_finite_router.lean ====
abbrev S32768x1024 : Shape := ⟨2, ![32768, 1024]⟩
abbrev S1024x16 : Shape := ⟨2, ![1024, 16]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S32768x1024 .f32) (main_arg1 : FVec F S1024x16 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Pre_finite_scores.lean ====
abbrev S8x4x128x4096 : Shape := ⟨4, ![8, 4, 128, 4096]⟩
abbrev S32768x128 : Shape := ⟨2, ![32768, 128]⟩
abbrev S8x128x4096 : Shape := ⟨3, ![8, 128, 4096]⟩
abbrev S_ : Shape := ⟨0, ![]⟩

class Facts : Prop where
  bitsLt_bf16_f32 : FTy.bits .bf16 < FTy.bits .f32
  bcast_S_S8x4x128x4096 : S_.BroadcastsInDim S8x4x128x4096 (![] : Fin 0 → Fin S8x4x128x4096.rank)
  reducesTo_S8x4x128x4096_S_d0_1_2_3 : S8x4x128x4096.ReducesTo [0, 1, 2, 3] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn {F : FTy → Type} [FloatOps F] (main_arg0 : FVec F S8x4x128x4096 .bf16) (main_arg1 : FVec F S32768x128 .bf16) (main_arg2 : FVec F S8x128x4096 .bf16) : IVec S_ 1 :=
  let main_v0 : FVec F S8x4x128x4096 .f32 := (extf .f32 · bitsLt_bf16_f32) main_arg0
  let main_v1 : FVec F S8x4x128x4096 .f32 := Host.absf main_v0
  let main_cst : FVec F S_ .f32 := constant S_ .f32 0x7F800000#32
  let main_v2 : FVec F S8x4x128x4096 .f32 := broadcastInDim S8x4x128x4096 ![] bcast_S_S8x4x128x4096 main_cst
  let main_v3 : IVec S8x4x128x4096 1 := cmpf .olt main_v1 main_v2
  let main_c : IVec S_ 1 := constantI S_ 1 1#1
  let main_v4 : IVec S_ 1 := (fun x v => Host.reduce IntOp.andi x v reducesTo_S8x4x128x4096_S_d0_1_2_3 h_S_) main_v3 main_c
  let main_v5 : FVec F S32768x128 .f32 := (extf .f32 · bitsLt_bf16_f32) main_arg1
  let main_v6 : FVec F S32768x128 .f32 := Host.absf main_v5
  let main_cst_0 : FVec F S_ .f32 := constant S_ .f32 0x7F800000#32
  let main_v7 : FVec F S32768x128 .f32 := broadcastInDim S32768x128 ![] bcast_S_S32768x128 main_cst_0
  let main_v8 : IVec S32768x128 1 := cmpf .olt main_v6 main_v7
  let main_c_1 : IVec S_ 1 := constantI S_ 1 1#1
  let main_v9 : IVec S_ 1 := (fun x v => Host.reduce IntOp.andi x v reducesTo_S32768x128_S_d0_1 h_S_) main_v8 main_c_1
  let main_v10 : IVec S_ 1 := andi main_v4 main_v9
  main_v10
-- ==== Kernel.lean ====
abbrev S8x4x128x4096 : Shape := ⟨4, ![8, 4, 128, 4096]⟩
abbrev S32768x128 : Shape := ⟨2, ![32768, 128]⟩
abbrev S8x128x4096 : Shape := ⟨3, ![8, 128, 4096]⟩
abbrev S8x4096x128 : Shape := ⟨3, ![8, 4096, 128]⟩
abbrev S8x4096x256 : Shape := ⟨3, ![8, 4096, 256]⟩
abbrev S1x2x128x256 : Shape := ⟨4, ![1, 2, 128, 256]⟩
abbrev S1x4096x128 : Shape := ⟨3, ![1, 4096, 128]⟩
abbrev S1x64x4096 : Shape := ⟨3, ![1, 64, 4096]⟩
abbrev S1x256x128 : Shape := ⟨3, ![1, 256, 128]⟩
abbrev S1x256 : Shape := ⟨2, ![1, 256]⟩
abbrev S64x256 : Shape := ⟨2, ![64, 256]⟩
abbrev S1x1024x128 : Shape := ⟨3, ![1, 1024, 128]⟩
abbrev S1024x128 : Shape := ⟨2, ![1024, 128]⟩
abbrev S1x1x128x256 : Shape := ⟨4, ![1, 1, 128, 256]⟩
abbrev S128x256 : Shape := ⟨2, ![128, 256]⟩
abbrev S1024x256 : Shape := ⟨2, ![1024, 256]⟩
abbrev S1x64x1024 : Shape := ⟨3, ![1, 64, 1024]⟩
abbrev S64x1024 : Shape := ⟨2, ![64, 1024]⟩
abbrev S16x8x8x256 : Shape := ⟨4, ![16, 8, 8, 256]⟩
abbrev S16x8x256 : Shape := ⟨3, ![16, 8, 256]⟩
abbrev S8x256 : Shape := ⟨2, ![8, 256]⟩
abbrev S256 : Shape := ⟨1, ![256]⟩
abbrev S256x128 : Shape := ⟨2, ![256, 128]⟩

abbrev nBuf : Space → Nat
  | .hbm => 5
  | .vmem => 8
  | .smem => 0
  | _ => 0

abbrev bufTy : (tb : Table) → Fin (tcTables nBuf tb) → BufTy
  | .hbm, ⟨0, _⟩ => ⟨S8x4x128x4096, .bf16⟩
  | .hbm, ⟨1, _⟩ => ⟨S32768x128, .bf16⟩
  | .hbm, ⟨2, _⟩ => ⟨S8x128x4096, .bf16⟩
  | .hbm, ⟨3, _⟩ => ⟨S8x4096x128, .bf16⟩
  | .hbm, ⟨4, _⟩ => ⟨S8x4096x256, .f32⟩
  | .local _ .vmem, ⟨0, _⟩ => ⟨S1x2x128x256, .bf16⟩
  | .local _ .vmem, ⟨1, _⟩ => ⟨S1x2x128x256, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x64x4096, .bf16⟩
  | .local _ .vmem, ⟨5, _⟩ => ⟨S1x64x4096, .bf16⟩
  | .local _ .vmem, ⟨6, _⟩ => ⟨S1x256x128, .f32⟩
  | .local _ .vmem, ⟨7, _⟩ => ⟨S1x256x128, .f32⟩
  | _, _ => ⟨S8x4x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference.lean ====
abbrev S8x4x128x4096 : Shape := ⟨4, ![8, 4, 128, 4096]⟩
abbrev S32768x128 : Shape := ⟨2, ![32768, 128]⟩
abbrev S8x128x4096 : Shape := ⟨3, ![8, 128, 4096]⟩
abbrev S8x2x2x128x4096 : Shape := ⟨5, ![8, 2, 2, 128, 4096]⟩
abbrev S8x4096x128 : Shape := ⟨3, ![8, 4096, 128]⟩
abbrev S8x2x64x4096 : Shape := ⟨4, ![8, 2, 64, 4096]⟩
abbrev S8x2x2x4096x4096 : Shape := ⟨5, ![8, 2, 2, 4096, 4096]⟩
abbrev S_ : Shape := ⟨0, ![]⟩
abbrev S8x2x2x4096 : Shape := ⟨4, ![8, 2, 2, 4096]⟩
abbrev S8x2x2x4096x1 : Shape := ⟨5, ![8, 2, 2, 4096, 1]⟩
abbrev S8x2x2x4096x64 : Shape := ⟨5, ![8, 2, 2, 4096, 64]⟩
abbrev S8x4096x2x2x64 : Shape := ⟨5, ![8, 4096, 2, 2, 64]⟩
abbrev S8x4096x256 : Shape := ⟨3, ![8, 4096, 256]⟩

abbrev nBuf : Space → Nat
  | .hbm => 31
  | .vmem => 0
  | .smem => 0
  | _ => 0

abbrev bufTy : (tb : Table) → Fin (tcTables nBuf tb) → BufTy
  | .hbm, ⟨0, _⟩ => ⟨S8x4x128x4096, .bf16⟩
  | .hbm, ⟨1, _⟩ => ⟨S32768x128, .bf16⟩
  | .hbm, ⟨2, _⟩ => ⟨S8x128x4096, .bf16⟩
  | .hbm, ⟨3, _⟩ => ⟨S8x4x128x4096, .f32⟩
  | .hbm, ⟨4, _⟩ => ⟨S8x2x2x128x4096, .f32⟩
  | .hbm, ⟨5, _⟩ => ⟨S32768x128, .f32⟩
  | .hbm, ⟨6, _⟩ => ⟨S8x4096x128, .f32⟩
  | .hbm, ⟨7, _⟩ => ⟨S8x128x4096, .f32⟩
  | .hbm, ⟨8, _⟩ => ⟨S8x2x64x4096, .f32⟩
  | .hbm, ⟨9, _⟩ => ⟨S8x2x2x4096x4096, .f32⟩
  | .hbm, ⟨10, _⟩ => ⟨S_, .f32⟩
  | .hbm, ⟨11, _⟩ => ⟨S_, .f32⟩
  | .hbm, ⟨12, _⟩ => ⟨S8x2x2x4096x4096, .f32⟩
  | .hbm, ⟨13, _⟩ => ⟨S8x2x2x4096x4096, .f32⟩
  | .hbm, ⟨14, _⟩ => ⟨S_, .f32⟩
  | .hbm, ⟨15, _⟩ => ⟨S8x2x2x4096, .f32⟩
  | .hbm, ⟨16, _⟩ => ⟨S_, .f32⟩
  | .hbm, ⟨17, _⟩ => ⟨S8x2x2x4096, .f32⟩
  | .hbm, ⟨18, _⟩ => ⟨S8x2x2x4096, .f32⟩
  | .hbm, ⟨19, _⟩ => ⟨S8x2x2x4096x1, .f32⟩
  | .hbm, ⟨20, _⟩ => ⟨S8x2x2x4096x4096, .f32⟩
  | .hbm, ⟨21, _⟩ => ⟨S8x2x2x4096x4096, .f32⟩
  | .hbm, ⟨22, _⟩ => ⟨S8x2x2x4096x4096, .f32⟩
  | .hbm, ⟨23, _⟩ => ⟨S_, .f32⟩
  | .hbm, ⟨24, _⟩ => ⟨S8x2x2x4096, .f32⟩
  | .hbm, ⟨25, _⟩ => ⟨S8x2x2x4096x1, .f32⟩
  | .hbm, ⟨26, _⟩ => ⟨S8x2x2x4096x4096, .f32⟩
  | .hbm, ⟨27, _⟩ => ⟨S8x2x2x4096x4096, .f32⟩
  | .hbm, ⟨28, _⟩ => ⟨S8x2x2x4096x64, .f32⟩
  | .hbm, ⟨29, _⟩ => ⟨S8x4096x2x2x64, .f32⟩
  | .hbm, ⟨30, _⟩ => ⟨S8x4096x256, .f32⟩
  | _, _ => ⟨S8x4x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel2.lean ====
abbrev S32768x1024 : Shape := ⟨2, ![32768, 1024]⟩
abbrev S1024x7936 : Shape := ⟨2, ![1024, 7936]⟩
abbrev S1024x3840 : Shape := ⟨2, ![1024, 3840]⟩
abbrev S32768x3840 : Shape := ⟨2, ![32768, 3840]⟩
abbrev S1024x1024 : Shape := ⟨2, ![1024, 1024]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024x7936, .f32⟩
  | .hbm, ⟨2, _⟩ => ⟨S1024x3840, .f32⟩
  | .hbm, ⟨3, _⟩ => ⟨S1024x3840, .bf16⟩
  | .hbm, ⟨4, _⟩ => ⟨S32768x3840, .f32⟩
  | .local _ .vmem, ⟨0, _⟩ => ⟨S1024x1024, .f32⟩
  | .local _ .vmem, ⟨1, _⟩ => ⟨S1024x1024, .f32⟩
  | .local _ .vmem, ⟨2, _⟩ => ⟨S1024x1280, .bf16⟩
  | .local _ .vmem, ⟨3, _⟩ => ⟨S1024x1280, .bf16⟩
  | .local _ .vmem, ⟨4, _⟩ => ⟨S1024x1280, .f32⟩
  | .local _ .vmem, ⟨5, _⟩ => ⟨S1024x1280, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x1024 : Shape := ⟨2, ![32768, 1024]⟩
abbrev S1024x7936 : Shape := ⟨2, ![1024, 7936]⟩
abbrev S32768x7936 : Shape := ⟨2, ![32768, 7936]⟩
abbrev S32768x3840 : Shape := ⟨2, ![32768, 3840]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x7936, .f32⟩
  | .hbm, ⟨2, _⟩ => ⟨S32768x7936, .f32⟩
  | .hbm, ⟨3, _⟩ => ⟨S32768x3840, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel3.lean ====
abbrev S32768x1024 : Shape := ⟨2, ![32768, 1024]⟩
abbrev S32768x256 : Shape := ⟨2, ![32768, 256]⟩
abbrev S32768x3840 : Shape := ⟨2, ![32768, 3840]⟩
abbrev S1024x7936 : Shape := ⟨2, ![1024, 7936]⟩
abbrev S4x256x1024 : Shape := ⟨3, ![4, 256, 1024]⟩
abbrev S1024x1024 : Shape := ⟨2, ![1024, 1024]⟩
abbrev S256x256 : Shape := ⟨2, ![256, 256]⟩
abbrev S256 : Shape := ⟨1, ![256]⟩
abbrev S1024 : Shape := ⟨1, ![1024]⟩
abbrev S1024x4096 : Shape := ⟨2, ![1024, 4096]⟩
abbrev S1x256 : Shape := ⟨2, ![1, 256]⟩
abbrev S1x1024 : Shape := ⟨2, ![1, 1024]⟩
abbrev S32768x512 : Shape := ⟨2, ![32768, 512]⟩
abbrev S256x1024 : Shape := ⟨2, ![256, 1024]⟩
abbrev S256x512 : Shape := ⟨2, ![256, 512]⟩
abbrev S1x256x1024 : Shape := ⟨3, ![1, 256, 1024]⟩
abbrev S256x1 : Shape := ⟨2, ![256, 1]⟩

abbrev nBuf : Space → Nat
  | .hbm => 26
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x3840, .f32⟩
  | .hbm, ⟨6, _⟩ => ⟨S32768x256, .f32⟩
  | .hbm, ⟨7, _⟩ => ⟨S1024x7936, .f32⟩
  | .hbm, ⟨8, _⟩ => ⟨S4x256x1024, .f32⟩
  | .hbm, ⟨9, _⟩ => ⟨S1024x1024, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S4x256x1024, .bf16⟩
  | .hbm, ⟨18, _⟩ => ⟨S1024x1024, .bf16⟩
  | .hbm, ⟨19, _⟩ => ⟨S256x256, .bf16⟩
  | .hbm, ⟨20, _⟩ => ⟨S1x256, .f32⟩
  | .hbm, ⟨21, _⟩ => ⟨S1x256, .f32⟩
  | .hbm, ⟨22, _⟩ => ⟨S1x1024, .f32⟩
  | .hbm, ⟨23, _⟩ => ⟨S1x1024, .f32⟩
  | .hbm, ⟨24, _⟩ => ⟨S32768x1024, .f32⟩
  | .hbm, ⟨25, _⟩ => ⟨S32768x512, .i32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1024x4096, .bf16⟩
  | .local _ .vmem, ⟨15, _⟩ => ⟨S4x256x1024, .bf16⟩
  | .local _ .vmem, ⟨16, _⟩ => ⟨S1024x1024, .bf16⟩
  | .local _ .vmem, ⟨17, _⟩ => ⟨S256x256, .bf16⟩
  | .local _ .vmem, ⟨18, _⟩ => ⟨S1x256, .f32⟩
  | .local _ .vmem, ⟨19, _⟩ => ⟨S1x256, .f32⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x512, .i32⟩
  | .local _ .vmem, ⟨25, _⟩ => ⟨S256x512, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [BitOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel3Ideal.lean ====
abbrev S32768x1024 : Shape := ⟨2, ![32768, 1024]⟩
abbrev S32768x256 : Shape := ⟨2, ![32768, 256]⟩
abbrev S32768x3840 : Shape := ⟨2, ![32768, 3840]⟩
abbrev S1024x7936 : Shape := ⟨2, ![1024, 7936]⟩
abbrev S4x256x1024 : Shape := ⟨3, ![4, 256, 1024]⟩
abbrev S1024x1024 : Shape := ⟨2, ![1024, 1024]⟩
abbrev S256x256 : Shape := ⟨2, ![256, 256]⟩
abbrev S256 : Shape := ⟨1, ![256]⟩
abbrev S1024 : Shape := ⟨1, ![1024]⟩
abbrev S1024x4096 : Shape := ⟨2, ![1024, 4096]⟩
abbrev S1x256 : Shape := ⟨2, ![1, 256]⟩
abbrev S1x1024 : Shape := ⟨2, ![1, 1024]⟩
abbrev S32768x2x512 : Shape := ⟨3, ![32768, 2, 512]⟩
abbrev S32768x1x512 : Shape := ⟨3, ![32768, 1, 512]⟩
abbrev S32768x512 : Shape := ⟨2, ![32768, 512]⟩
abbrev S256x1024 : Shape := ⟨2, ![256, 1024]⟩
abbrev S256x512 : Shape := ⟨2, ![256, 512]⟩
abbrev S256x2x512 : Shape := ⟨3, ![256, 2, 512]⟩
abbrev S256x1x512 : Shape := ⟨3, ![256, 1, 512]⟩
abbrev S1x256x1024 : Shape := ⟨3, ![1, 256, 1024]⟩
abbrev S256x1 : Shape := ⟨2, ![256, 1]⟩

abbrev nBuf : Space → Nat
  | .hbm => 26
  | .vmem => 26
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S32768x3840, .f32⟩
  | .hbm, ⟨6, _⟩ => ⟨S32768x256, .f32⟩
  | .hbm, ⟨7, _⟩ => ⟨S1024x7936, .f32⟩
  | .hbm, ⟨8, _⟩ => ⟨S4x256x1024, .f32⟩
  | .hbm, ⟨9, _⟩ => ⟨S1024x1024, .f32⟩
  | .hbm, ⟨10, _⟩ => ⟨S256x256, .f32⟩
  | .hbm, ⟨11, _⟩ => ⟨S256, .f32⟩
  | .hbm, ⟨12, _⟩ => ⟨S256, .f32⟩
  | .hbm, ⟨13, _⟩ => ⟨S1024, .f32⟩
  | .hbm, ⟨14, _⟩ => ⟨S1024, .f32⟩
  | .hbm, ⟨15, _⟩ => ⟨S1024x4096, .f32⟩
  | .hbm, ⟨16, _⟩ => ⟨S1024x4096, .bf16⟩
  | .hbm, ⟨17, _⟩ => ⟨S4x256x1024, .bf16⟩
  | .hbm, ⟨18, _⟩ => ⟨S1024x1024, .bf16⟩
  | .hbm, ⟨19, _⟩ => ⟨S256x256, .bf16⟩
  | .hbm, ⟨20, _⟩ => ⟨S1x256, .f32⟩
  | .hbm, ⟨21, _⟩ => ⟨S1x256, .f32⟩
  | .hbm, ⟨22, _⟩ => ⟨S1x1024, .f32⟩
  | .hbm, ⟨23, _⟩ => ⟨S1x1024, .f32⟩
  | .hbm, ⟨24, _⟩ => ⟨S32768x1024, .f32⟩
  | .hbm, ⟨25, _⟩ => ⟨S32768x2x512, .bf16⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S1024x4096, .bf16⟩
  | .local _ .vmem, ⟨15, _⟩ => ⟨S4x256x1024, .bf16⟩
  | .local _ .vmem, ⟨16, _⟩ => ⟨S1024x1024, .bf16⟩
  | .local _ .vmem, ⟨17, _⟩ => ⟨S256x256, .bf16⟩
  | .local _ .vmem, ⟨18, _⟩ => ⟨S1x256, .f32⟩
  | .local _ .vmem, ⟨19, _⟩ => ⟨S1x256, .f32⟩
  | .local _ .vmem, ⟨20, _⟩ => ⟨S1x1024, .f32⟩
  | .local _ .vmem, ⟨21, _⟩ => ⟨S1x1024, .f32⟩
  | .local _ .vmem, ⟨22, _⟩ => ⟨S256x1024, .f32⟩
  | .local _ .vmem, ⟨23, _⟩ => ⟨S256x1024, .f32⟩
  | .local _ .vmem, ⟨24, _⟩ => ⟨S256x2x512, .bf16⟩
  | .local _ .vmem, ⟨25, _⟩ => ⟨S256x2x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9_0 : Ref sig .tc := ⟨.hbm, 24, rfl⟩
abbrev main_v9_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference3Ideal.lean ====
abbrev S32768x1024 : Shape := ⟨2, ![32768, 1024]⟩
abbrev S32768x256 : Shape := ⟨2, ![32768, 256]⟩
abbrev S32768x3840 : Shape := ⟨2, ![32768, 3840]⟩
abbrev S1024x7936 : Shape := ⟨2, ![1024, 7936]⟩
abbrev S4x256x1024 : Shape := ⟨3, ![4, 256, 1024]⟩
abbrev S1024x1024 : Shape := ⟨2, ![1024, 1024]⟩
abbrev S256x256 : Shape := ⟨2, ![256, 256]⟩
abbrev S256 : Shape := ⟨1, ![256]⟩
abbrev S1024 : Shape := ⟨1, ![1024]⟩
abbrev S1x256 : Shape := ⟨2, ![1, 256]⟩
abbrev S_ : Shape := ⟨0, ![]⟩
abbrev S32768x7936 : Shape := ⟨2, ![32768, 7936]⟩
abbrev S32768x4096 : Shape := ⟨2, ![32768, 4096]⟩
abbrev S32768x4x1024 : Shape := ⟨3, ![32768, 4, 1024]⟩
abbrev S32768x1x1024 : Shape := ⟨3, ![32768, 1, 1024]⟩
abbrev S1x256x1024 : Shape := ⟨3, ![1, 256, 1024]⟩
abbrev S256x1024 : Shape := ⟨2, ![256, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 147
  | .vmem => 0
  | .smem => 0
  | _ => 0

abbrev hbmTy0_0 (i : Nat) : BufTy := match i % 128 with
  | 0 => ⟨S32768x1024, .f32⟩
  | 1 => ⟨S32768x256, .f32⟩
  | 2 => ⟨S32768x256, .f32⟩
  | 3 => ⟨S32768x256, .f32⟩
  | 4 => ⟨S32768x256, .f32⟩
  | 5 => ⟨S32768x3840, .f32⟩
  | 6 => ⟨S32768x256, .f32⟩
  | 7 => ⟨S1024x7936, .f32⟩
  | 8 => ⟨S4x256x1024, .f32⟩
  | 9 => ⟨S1024x1024, .f32⟩
  | 10 => ⟨S256x256, .f32⟩
  | 11 => ⟨S256, .f32⟩
  | 12 => ⟨S256, .f32⟩
  | 13 => ⟨S1024, .f32⟩
  | 14 => ⟨S1024, .f32⟩
  | 15 => ⟨S32768x256, .f32⟩
  | 16 => ⟨S1x256, .f32⟩
  | 17 => ⟨S32768x256, .f32⟩
  | 18 => ⟨S32768x256, .f32⟩
  | 19 => ⟨S32768x256, .f32⟩
  | 20 => ⟨S32768x256, .f32⟩
  | 21 => ⟨S32768x256, .f32⟩
  | 22 => ⟨S32768x256, .f32⟩
  | 23 => ⟨S_, .f32⟩
  | 24 => ⟨S32768x256, .f32⟩
  | 25 => ⟨S32768x256, .f32⟩
  | 26 => ⟨S32768x256, .f32⟩
  | 27 => ⟨S_, .f32⟩
  | 28 => ⟨S32768x256, .f32⟩
  | 29 => ⟨S32768x256, .f32⟩
  | 30 => ⟨S32768x256, .f32⟩
  | 31 => ⟨S_, .f32⟩
  | 32 => ⟨S32768x256, .f32⟩
  | 33 => ⟨S32768x256, .f32⟩
  | 34 => ⟨S_, .f32⟩
  | 35 => ⟨S32768x256, .f32⟩
  | 36 => ⟨S32768x256, .f32⟩
  | 37 => ⟨S32768x256, .f32⟩
  | 38 => ⟨S32768x256, .f32⟩
  | 39 => ⟨S1x256, .f32⟩
  | 40 => ⟨S32768x256, .f32⟩
  | 41 => ⟨S32768x256, .f32⟩
  | 42 => ⟨S32768x256, .f32⟩
  | 43 => ⟨S32768x256, .f32⟩
  | 44 => ⟨S_, .f32⟩
  | 45 => ⟨S32768x256, .f32⟩
  | 46 => ⟨S32768x256, .f32⟩
  | 47 => ⟨S_, .f32⟩
  | 48 => ⟨S32768x256, .f32⟩
  | 49 => ⟨S32768x256, .f32⟩
  | 50 => ⟨S32768x256, .f32⟩
  | 51 => ⟨S32768x7936, .f32⟩
  | 52 => ⟨S32768x4096, .f32⟩
  | 53 => ⟨S32768x4x1024, .f32⟩
  | 54 => ⟨S32768x1x1024, .f32⟩
  | 55 => ⟨S32768x1024, .f32⟩
  | 56 => ⟨S32768x1024, .f32⟩
  | 57 => ⟨S32768x1024, .f32⟩
  | 58 => ⟨S_, .f32⟩
  | 59 => ⟨S32768x1024, .f32⟩
  | 60 => ⟨S32768x1024, .f32⟩
  | 61 => ⟨S_, .f32⟩
  | 62 => ⟨S32768x1024, .f32⟩
  | 63 => ⟨S32768x1024, .f32⟩
  | 64 => ⟨S1x256x1024, .f32⟩
  | 65 => ⟨S256x1024, .f32⟩
  | 66 => ⟨S32768x1024, .f32⟩
  | 67 => ⟨S32768x1024, .f32⟩
  | 68 => ⟨S32768x1x1024, .f32⟩
  | 69 => ⟨S32768x1024, .f32⟩
  | 70 => ⟨S32768x1024, .f32⟩
  | 71 => ⟨S32768x1024, .f32⟩
  | 72 => ⟨S_, .f32⟩
  | 73 => ⟨S32768x1024, .f32⟩
  | 74 => ⟨S32768x1024, .f32⟩
  | 75 => ⟨S_, .f32⟩
  | 76 => ⟨S32768x1024, .f32⟩
  | 77 => ⟨S32768x1024, .f32⟩
  | 78 => ⟨S1x256x1024, .f32⟩
  | 79 => ⟨S256x1024, .f32⟩
  | 80 => ⟨S32768x1024, .f32⟩
  | 81 => ⟨S32768x1024, .f32⟩
  | 82 => ⟨S32768x1024, .f32⟩
  | 83 => ⟨S32768x1x1024, .f32⟩
  | 84 => ⟨S32768x1024, .f32⟩
  | 85 => ⟨S32768x1024, .f32⟩
  | 86 => ⟨S32768x1024, .f32⟩
  | 87 => ⟨S_, .f32⟩
  | 88 => ⟨S32768x1024, .f32⟩
  | 89 => ⟨S32768x1024, .f32⟩
  | 90 => ⟨S_, .f32⟩
  | 91 => ⟨S32768x1024, .f32⟩
  | 92 => ⟨S32768x1024, .f32⟩
  | 93 => ⟨S1x256x1024, .f32⟩
  | 94 => ⟨S256x1024, .f32⟩
  | 95 => ⟨S32768x1024, .f32⟩
  | 96 => ⟨S32768x1024, .f32⟩
  | 97 => ⟨S32768x1024, .f32⟩
  | 98 => ⟨S32768x1x1024, .f32⟩
  | 99 => ⟨S32768x1024, .f32⟩
  | 100 => ⟨S32768x1024, .f32⟩
  | 101 => ⟨S32768x1024, .f32⟩
  | 102 => ⟨S_, .f32⟩
  | 103 => ⟨S32768x1024, .f32⟩
  | 104 => ⟨S32768x1024, .f32⟩
  | 105 => ⟨S_, .f32⟩
  | 106 => ⟨S32768x1024, .f32⟩
  | 107 => ⟨S32768x1024, .f32⟩
  | 108 => ⟨S1x256x1024, .f32⟩
  | 109 => ⟨S256x1024, .f32⟩
  | 110 => ⟨S32768x1024, .f32⟩
  | 111 => ⟨S32768x1024, .f32⟩
  | 112 => ⟨S32768x1024, .f32⟩
  | 113 => ⟨S_, .f32⟩
  | 114 => ⟨S32768x1024, .f32⟩
  | 115 => ⟨S32768x1024, .f32⟩
  | 116 => ⟨S32768x1024, .f32⟩
  | 117 => ⟨S32768x1024, .f32⟩
  | 118 => ⟨S_, .f32⟩
  | 119 => ⟨S32768, .f32⟩
  | 120 => ⟨S32768x1, .f32⟩
  | 121 => ⟨S_, .f32⟩
  | 122 => ⟨S32768x1, .f32⟩
  | 123 => ⟨S32768x1, .f32⟩
  | 124 => ⟨S32768x1024, .f32⟩
  | 125 => ⟨S32768x1024, .f32⟩
  | 126 => ⟨S32768x1024, .f32⟩
  | 127 => ⟨S_, .f32⟩
  | _ => ⟨S32768x1024, .f32⟩

abbrev hbmTy0_1 (i : Nat) : BufTy := match i % 128 with
  | 0 => ⟨S32768, .f32⟩
  | 1 => ⟨S32768x1, .f32⟩
  | 2 => ⟨S_, .f32⟩
  | 3 => ⟨S32768x1, .f32⟩
  | 4 => ⟨S32768x1, .f32⟩
  | 5 => ⟨S32768x1024, .f32⟩
  | 6 => ⟨S32768x1024, .f32⟩
  | 7 => ⟨S_, .f32⟩
  | 8 => ⟨S32768x1, .f32⟩
  | 9 => ⟨S32768x1, .f32⟩
  | 10 => ⟨S32768x1, .f32⟩
  | 11 => ⟨S32768x1024, .f32⟩
  | 12 => ⟨S32768x1024, .f32⟩
  | 13 => ⟨S1x1024, .f32⟩
  | 14 => ⟨S32768x1024, .f32⟩
  | 15 => ⟨S32768x1024, .f32⟩
  | 16 => ⟨S1x1024, .f32⟩
  | 17 => ⟨S32768x1024, .f32⟩
  | 18 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_cst_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_11 : Ref sig .tc := ⟨.hbm, 102, rfl⟩
abbrev main_v75 : Ref sig .tc := ⟨.hbm, 103, rfl⟩
abbrev main_v76 : Ref sig .tc := ⟨.hbm, 104, rfl⟩
abbrev main_cst_12 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_13 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_14 : Ref sig .tc := ⟨.hbm, 118, rfl⟩
abbrev main_v88 : Ref sig .tc := ⟨.hbm, 119, rfl⟩
abbrev main_v89 : Ref sig .tc := ⟨.hbm, 120, rfl⟩
abbrev main_cst_15 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_16 : Ref sig .tc := ⟨.hbm, 127, rfl⟩
abbrev main_v95 : Ref sig .tc := ⟨.hbm, 128, rfl⟩
abbrev main_v96 : Ref sig .tc := ⟨.hbm, 129, rfl⟩
abbrev main_cst_17 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_cst_18 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩

abbrev nD : Nat := 1
abbrev τ : Topo := Topo.v7x

variable {F : FTy → Type} [FloatOps F]
-- ==== Kernel4.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S1x1024, .f32⟩
  | .hbm, ⟨35, _⟩ => ⟨S32768x1024, .f32⟩
  | .hbm, ⟨36, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel5.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel6.lean ====
abbrev S32768x1024 : Shape := ⟨2, ![32768, 1024]⟩
abbrev S1024x16 : Shape := ⟨2, ![1024, 16]⟩
abbrev S16x1024 : Shape := ⟨2, ![16, 1024]⟩
abbrev S16x32768 : Shape := ⟨2, ![16, 32768]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024x16, .f32⟩
  | .hbm, ⟨2, _⟩ => ⟨S16x1024, .f32⟩
  | .hbm, ⟨3, _⟩ => ⟨S16x32768, .f32⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S32768x1024 : Shape := ⟨2, ![32768, 1024]⟩
abbrev S1024x16 : Shape := ⟨2, ![1024, 16]⟩
abbrev S32768x16 : Shape := ⟨2, ![32768, 16]⟩
abbrev S_ : Shape := ⟨0, ![]⟩
abbrev S32768 : Shape := ⟨1, ![32768]⟩
abbrev S32768x1 : Shape := ⟨2, ![32768, 1]⟩
abbrev S16x32768 : Shape := ⟨2, ![16, 32768]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x16, .f32⟩
  | .hbm, ⟨2, _⟩ => ⟨S32768x16, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | .hbm, ⟨9, _⟩ => ⟨S32768x16, .f32⟩
  | .hbm, ⟨10, _⟩ => ⟨S32768x16, .f32⟩
  | .hbm, ⟨11, _⟩ => ⟨S32768x16, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x16, .f32⟩
  | .hbm, ⟨16, _⟩ => ⟨S32768x16, .f32⟩
  | .hbm, ⟨17, _⟩ => ⟨S16x32768, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S32768x3840 : Shape := ⟨2, ![32768, 3840]⟩
abbrev S64 : Shape := ⟨1, ![64]⟩
abbrev S128x128 : Shape := ⟨2, ![128, 128]⟩
abbrev S64x64 : Shape := ⟨2, ![64, 64]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8x4x128x4096 : Shape := ⟨4, ![8, 4, 128, 4096]⟩
abbrev S32768x128 : Shape := ⟨2, ![32768, 128]⟩
abbrev S8x128x4096 : Shape := ⟨3, ![8, 128, 4096]⟩
abbrev S1024x256 : Shape := ⟨2, ![1024, 256]⟩
abbrev S1024x128 : Shape := ⟨2, ![1024, 128]⟩
abbrev S1x4x128x1024 : Shape := ⟨4, ![1, 4, 128, 1024]⟩
abbrev S1x128x1024 : Shape := ⟨3, ![1, 128, 1024]⟩
abbrev S128x1024 : Shape := ⟨2, ![128, 1024]⟩
abbrev S1x1x128x1024 : Shape := ⟨4, ![1, 1, 128, 1024]⟩

abbrev nBuf : Space → Nat
  | .hbm => 84
  | .vmem => 19
  | .smem => 0
  | _ => 0

abbrev bufTy : (tb : Table) → Fin (tcTables nBuf tb) → BufTy
  | .hbm, ⟨0, _⟩ => ⟨S32768x3840, .f32⟩
  | .hbm, ⟨1, _⟩ => ⟨S64, .f32⟩
  | .hbm, ⟨2, _⟩ => ⟨S64, .f32⟩
  | .hbm, ⟨3, _⟩ => ⟨S128x128, .bf16⟩
  | .hbm, ⟨4, _⟩ => ⟨S64, .f32⟩
  | .hbm, ⟨5, _⟩ => ⟨S64x64, .f32⟩
  | .hbm, ⟨6, _⟩ => ⟨S4096, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i1⟩
  | .hbm, ⟨22, _⟩ => ⟨S_, .i32⟩
  | .hbm, ⟨23, _⟩ => ⟨S_, .i1⟩
  | .hbm, ⟨24, _⟩ => ⟨S4096, .i1⟩
  | .hbm, ⟨25, _⟩ => ⟨S4096, .i1⟩
  | .hbm, ⟨26, _⟩ => ⟨S4096, .i1⟩
  | .hbm, ⟨27, _⟩ => ⟨S4096, .i32⟩
  | .hbm, ⟨28, _⟩ => ⟨S4096, .i32⟩
  | .hbm, ⟨29, _⟩ => ⟨S4096, .i32⟩
  | .hbm, ⟨30, _⟩ => ⟨S4096, .f32⟩
  | .hbm, ⟨31, _⟩ => ⟨S16, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S4096x1, .f32⟩
  | .hbm, ⟨46, _⟩ => ⟨S1x16, .f32⟩
  | .hbm, ⟨47, _⟩ => ⟨S4096x16, .f32⟩
  | .hbm, ⟨48, _⟩ => ⟨S4096x16, .f32⟩
  | .hbm, ⟨49, _⟩ => ⟨S4096x16, .f32⟩
  | .hbm, ⟨50, _⟩ => ⟨S4096x1, .f32⟩
  | .hbm, ⟨51, _⟩ => ⟨S1x16, .f32⟩
  | .hbm, ⟨52, _⟩ => ⟨S4096x16, .f32⟩
  | .hbm, ⟨53, _⟩ => ⟨S4096x16, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x64, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S4096x16, .f32⟩
  | .hbm, ⟨65, _⟩ => ⟨S4096x16, .f32⟩
  | .hbm, ⟨66, _⟩ => ⟨S4096x64, .f32⟩
  | .hbm, ⟨67, _⟩ => ⟨S1x4096x1x64, .f32⟩
  | .hbm, ⟨68, _⟩ => ⟨S1x4096x2x64, .f32⟩
  | .hbm, ⟨69, _⟩ => ⟨S4096x128, .f32⟩
  | .hbm, ⟨70, _⟩ => ⟨S1x4096x1x64, .f32⟩
  | .hbm, ⟨71, _⟩ => ⟨S1x4096x2x64, .f32⟩
  | .hbm, ⟨72, _⟩ => ⟨S4096x128, .f32⟩
  | .hbm, ⟨73, _⟩ => ⟨S1x64, .f32⟩
  | .hbm, ⟨74, _⟩ => ⟨S2x64, .f32⟩
  | .hbm, ⟨75, _⟩ => ⟨S128, .f32⟩
  | .hbm, ⟨76, _⟩ => ⟨S1x128, .f32⟩
  | .hbm, ⟨77, _⟩ => ⟨S1x64, .f32⟩
  | .hbm, ⟨78, _⟩ => ⟨S2x64, .f32⟩
  | .hbm, ⟨79, _⟩ => ⟨S128, .f32⟩
  | .hbm, ⟨80, _⟩ => ⟨S1x128, .f32⟩
  | .hbm, ⟨81, _⟩ => ⟨S8x4x128x4096, .bf16⟩
  | .hbm, ⟨82, _⟩ => ⟨S32768x128, .bf16⟩
  | .hbm, ⟨83, _⟩ => ⟨S8x128x4096, .bf16⟩
  | .local _ .vmem, ⟨0, _⟩ => ⟨S1024x256, .f32⟩
  | .local _ .vmem, ⟨1, _⟩ => ⟨S1024x256, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S1x4x128x1024, .bf16⟩
  | .local _ .vmem, ⟨14, _⟩ => ⟨S1x4x128x1024, .bf16⟩
  | .local _ .vmem, ⟨15, _⟩ => ⟨S1024x128, .bf16⟩
  | .local _ .vmem, ⟨16, _⟩ => ⟨S1024x128, .bf16⟩
  | .local _ .vmem, ⟨17, _⟩ => ⟨S1x128x1024, .bf16⟩
  | .local _ .vmem, ⟨18, _⟩ => ⟨S1x128x1024, .bf16⟩
  | _, _ => ⟨S32768x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_cst_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_2 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52_0 : Ref sig .tc := ⟨.hbm, 81, rfl⟩
abbrev main_v52_1 : Ref sig .tc := ⟨.hbm, 82, rfl⟩
abbrev main_v52_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_1 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_2 (i : grid0.Coords) : Fin 2 → Nat :=
  let arg0 : BitVec 32 := BitVec.ofNat 32 (i 0).val
  let c29_i32 : BitVec 32 := 29#32
  let c0_i32 : BitVec 32 := 0#32
  ![arg0.toNat, c29_i32.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x4x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference7Ideal.lean ====
abbrev S32768x3840 : Shape := ⟨2, ![32768, 3840]⟩
abbrev S64 : Shape := ⟨1, ![64]⟩
abbrev S32768x256 : Shape := ⟨2, ![32768, 256]⟩
abbrev S8x4096x4x64 : Shape := ⟨4, ![8, 4096, 4, 64]⟩
abbrev S32768x128 : Shape := ⟨2, ![32768, 128]⟩
abbrev S8x4096x2x64 : Shape := ⟨4, ![8, 4096, 2, 64]⟩
abbrev S8x4096x128 : Shape := ⟨3, ![8, 4096, 128]⟩
abbrev S64x64 : Shape := ⟨2, ![64, 64]⟩
abbrev S4096 : Shape := ⟨1, ![4096]⟩
abbrev S_ : Shape := ⟨0, ![]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S8x4096x4 : Shape := ⟨3, ![8, 4096, 4]⟩
abbrev S8x4096x4x1 : Shape := ⟨4, ![8, 4096, 4, 1]⟩
abbrev S1x1x1x64 : Shape := ⟨4, ![1, 1, 1, 64]⟩
abbrev S8x4096x4x32 : Shape := ⟨4, ![8, 4096, 4, 32]⟩
abbrev S4096x1x16 : Shape := ⟨3, ![4096, 1, 16]⟩
abbrev S8x4096x4x16 : Shape := ⟨4, ![8, 4096, 4, 16]⟩
abbrev S1x4096x1x16 : Shape := ⟨4, ![1, 4096, 1, 16]⟩
abbrev S8x4096x2 : Shape := ⟨3, ![8, 4096, 2]⟩
abbrev S8x4096x2x1 : Shape := ⟨4, ![8, 4096, 2, 1]⟩
abbrev S8x4096x2x32 : Shape := ⟨4, ![8, 4096, 2, 32]⟩
abbrev S8x4096x2x16 : Shape := ⟨4, ![8, 4096, 2, 16]⟩
abbrev S8x4x64x4096 : Shape := ⟨4, ![8, 4, 64, 4096]⟩
abbrev S8x2x64x4096 : Shape := ⟨4, ![8, 2, 64, 4096]⟩
abbrev S8x2x128x4096 : Shape := ⟨4, ![8, 2, 128, 4096]⟩
abbrev S8x4x128x4096 : Shape := ⟨4, ![8, 4, 128, 4096]⟩
abbrev S8x128x4096 : Shape := ⟨3, ![8, 128, 4096]⟩

abbrev nBuf : Space → Nat
  | .hbm => 198
  | .vmem => 0
  | .smem => 0
  | _ => 0

abbrev hbmTy0_0 (i : Nat) : BufTy := match i % 128 with
  | 0 => ⟨S32768x3840, .f32⟩
  | 1 => ⟨S64, .f32⟩
  | 2 => ⟨S64, .f32⟩
  | 3 => ⟨S32768x256, .f32⟩
  | 4 => ⟨S8x4096x4x64, .f32⟩
  | 5 => ⟨S32768x128, .f32⟩
  | 6 => ⟨S8x4096x2x64, .f32⟩
  | 7 => ⟨S32768x128, .f32⟩
  | 8 => ⟨S8x4096x128, .f32⟩
  | 9 => ⟨S64, .f32⟩
  | 10 => ⟨S64x64, .f32⟩
  | 11 => ⟨S4096, .f32⟩
  | 12 => ⟨S4096, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i1⟩
  | 27 => ⟨S_, .i32⟩
  | 28 => ⟨S_, .i1⟩
  | 29 => ⟨S4096, .i1⟩
  | 30 => ⟨S4096, .i1⟩
  | 31 => ⟨S4096, .i1⟩
  | 32 => ⟨S4096, .i32⟩
  | 33 => ⟨S4096, .i32⟩
  | 34 => ⟨S4096, .i32⟩
  | 35 => ⟨S4096, .f32⟩
  | 36 => ⟨S16, .f32⟩
  | 37 => ⟨S_, .f32⟩
  | 38 => ⟨S16, .f32⟩
  | 39 => ⟨S16, .f32⟩
  | 40 => ⟨S_, .f32⟩
  | 41 => ⟨S16, .f32⟩
  | 42 => ⟨S16, .f32⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S4096x1, .f32⟩
  | 51 => ⟨S1x16, .f32⟩
  | 52 => ⟨S4096x16, .f32⟩
  | 53 => ⟨S4096x16, .f32⟩
  | 54 => ⟨S4096x16, .f32⟩
  | 55 => ⟨S4096x1, .f32⟩
  | 56 => ⟨S1x16, .f32⟩
  | 57 => ⟨S4096x16, .f32⟩
  | 58 => ⟨S4096x16, .f32⟩
  | 59 => ⟨S4096x16, .f32⟩
  | 60 => ⟨S8x4096x4x64, .f32⟩
  | 61 => ⟨S_, .f32⟩
  | 62 => ⟨S8x4096x4, .f32⟩
  | 63 => ⟨S8x4096x4x1, .f32⟩
  | 64 => ⟨S_, .f32⟩
  | 65 => ⟨S8x4096x4x1, .f32⟩
  | 66 => ⟨S8x4096x4x1, .f32⟩
  | 67 => ⟨S_, .f32⟩
  | 68 => ⟨S8x4096x4x1, .f32⟩
  | 69 => ⟨S8x4096x4x1, .f32⟩
  | 70 => ⟨S8x4096x4x1, .f32⟩
  | 71 => ⟨S8x4096x4x64, .f32⟩
  | 72 => ⟨S8x4096x4x64, .f32⟩
  | 73 => ⟨S1x1x1x64, .f32⟩
  | 74 => ⟨S8x4096x4x64, .f32⟩
  | 75 => ⟨S8x4096x4x64, .f32⟩
  | 76 => ⟨S8x4096x4x32, .f32⟩
  | 77 => ⟨S4096x16, .f32⟩
  | 78 => ⟨S4096x1x16, .f32⟩
  | 79 => ⟨S4096x16, .f32⟩
  | 80 => ⟨S4096x1x16, .f32⟩
  | 81 => ⟨S8x4096x4x16, .f32⟩
  | 82 => ⟨S8x4096x4x16, .f32⟩
  | 83 => ⟨S1x4096x1x16, .f32⟩
  | 84 => ⟨S8x4096x4x16, .f32⟩
  | 85 => ⟨S8x4096x4x16, .f32⟩
  | 86 => ⟨S1x4096x1x16, .f32⟩
  | 87 => ⟨S8x4096x4x16, .f32⟩
  | 88 => ⟨S8x4096x4x16, .f32⟩
  | 89 => ⟨S8x4096x4x16, .f32⟩
  | 90 => ⟨S1x4096x1x16, .f32⟩
  | 91 => ⟨S8x4096x4x16, .f32⟩
  | 92 => ⟨S8x4096x4x16, .f32⟩
  | 93 => ⟨S1x4096x1x16, .f32⟩
  | 94 => ⟨S8x4096x4x16, .f32⟩
  | 95 => ⟨S8x4096x4x16, .f32⟩
  | 96 => ⟨S8x4096x4x16, .f32⟩
  | 97 => ⟨S8x4096x4x32, .f32⟩
  | 98 => ⟨S8x4096x4x32, .f32⟩
  | 99 => ⟨S4096x16, .f32⟩
  | 100 => ⟨S4096x1x16, .f32⟩
  | 101 => ⟨S4096x16, .f32⟩
  | 102 => ⟨S4096x1x16, .f32⟩
  | 103 => ⟨S8x4096x4x16, .f32⟩
  | 104 => ⟨S8x4096x4x16, .f32⟩
  | 105 => ⟨S1x4096x1x16, .f32⟩
  | 106 => ⟨S8x4096x4x16, .f32⟩
  | 107 => ⟨S8x4096x4x16, .f32⟩
  | 108 => ⟨S1x4096x1x16, .f32⟩
  | 109 => ⟨S8x4096x4x16, .f32⟩
  | 110 => ⟨S8x4096x4x16, .f32⟩
  | 111 => ⟨S8x4096x4x16, .f32⟩
  | 112 => ⟨S1x4096x1x16, .f32⟩
  | 113 => ⟨S8x4096x4x16, .f32⟩
  | 114 => ⟨S8x4096x4x16, .f32⟩
  | 115 => ⟨S1x4096x1x16, .f32⟩
  | 116 => ⟨S8x4096x4x16, .f32⟩
  | 117 => ⟨S8x4096x4x16, .f32⟩
  | 118 => ⟨S8x4096x4x16, .f32⟩
  | 119 => ⟨S8x4096x4x32, .f32⟩
  | 120 => ⟨S8x4096x4x64, .f32⟩
  | 121 => ⟨S_, .f32⟩
  | 122 => ⟨S8x4096x4x64, .f32⟩
  | 123 => ⟨S8x4096x4x64, .f32⟩
  | 124 => ⟨S8x4096x2x64, .f32⟩
  | 125 => ⟨S_, .f32⟩
  | 126 => ⟨S8x4096x2, .f32⟩
  | 127 => ⟨S8x4096x2x1, .f32⟩
  | _ => ⟨S32768x3840, .f32⟩

abbrev hbmTy0_1 (i : Nat) : BufTy := match i % 128 with
  | 0 => ⟨S_, .f32⟩
  | 1 => ⟨S8x4096x2x1, .f32⟩
  | 2 => ⟨S8x4096x2x1, .f32⟩
  | 3 => ⟨S_, .f32⟩
  | 4 => ⟨S8x4096x2x1, .f32⟩
  | 5 => ⟨S8x4096x2x1, .f32⟩
  | 6 => ⟨S8x4096x2x1, .f32⟩
  | 7 => ⟨S8x4096x2x64, .f32⟩
  | 8 => ⟨S8x4096x2x64, .f32⟩
  | 9 => ⟨S1x1x1x64, .f32⟩
  | 10 => ⟨S8x4096x2x64, .f32⟩
  | 11 => ⟨S8x4096x2x64, .f32⟩
  | 12 => ⟨S8x4096x2x32, .f32⟩
  | 13 => ⟨S4096x16, .f32⟩
  | 14 => ⟨S4096x1x16, .f32⟩
  | 15 => ⟨S4096x16, .f32⟩
  | 16 => ⟨S4096x1x16, .f32⟩
  | 17 => ⟨S8x4096x2x16, .f32⟩
  | 18 => ⟨S8x4096x2x16, .f32⟩
  | 19 => ⟨S1x4096x1x16, .f32⟩
  | 20 => ⟨S8x4096x2x16, .f32⟩
  | 21 => ⟨S8x4096x2x16, .f32⟩
  | 22 => ⟨S1x4096x1x16, .f32⟩
  | 23 => ⟨S8x4096x2x16, .f32⟩
  | 24 => ⟨S8x4096x2x16, .f32⟩
  | 25 => ⟨S8x4096x2x16, .f32⟩
  | 26 => ⟨S1x4096x1x16, .f32⟩
  | 27 => ⟨S8x4096x2x16, .f32⟩
  | 28 => ⟨S8x4096x2x16, .f32⟩
  | 29 => ⟨S1x4096x1x16, .f32⟩
  | 30 => ⟨S8x4096x2x16, .f32⟩
  | 31 => ⟨S8x4096x2x16, .f32⟩
  | 32 => ⟨S8x4096x2x16, .f32⟩
  | 33 => ⟨S8x4096x2x32, .f32⟩
  | 34 => ⟨S8x4096x2x32, .f32⟩
  | 35 => ⟨S4096x16, .f32⟩
  | 36 => ⟨S4096x1x16, .f32⟩
  | 37 => ⟨S4096x16, .f32⟩
  | 38 => ⟨S4096x1x16, .f32⟩
  | 39 => ⟨S8x4096x2x16, .f32⟩
  | 40 => ⟨S8x4096x2x16, .f32⟩
  | 41 => ⟨S1x4096x1x16, .f32⟩
  | 42 => ⟨S8x4096x2x16, .f32⟩
  | 43 => ⟨S8x4096x2x16, .f32⟩
  | 44 => ⟨S1x4096x1x16, .f32⟩
  | 45 => ⟨S8x4096x2x16, .f32⟩
  | 46 => ⟨S8x4096x2x16, .f32⟩
  | 47 => ⟨S8x4096x2x16, .f32⟩
  | 48 => ⟨S1x4096x1x16, .f32⟩
  | 49 => ⟨S8x4096x2x16, .f32⟩
  | 50 => ⟨S8x4096x2x16, .f32⟩
  | 51 => ⟨S1x4096x1x16, .f32⟩
  | 52 => ⟨S8x4096x2x16, .f32⟩
  | 53 => ⟨S8x4096x2x16, .f32⟩
  | 54 => ⟨S8x4096x2x16, .f32⟩
  | 55 => ⟨S8x4096x2x32, .f32⟩
  | 56 => ⟨S8x4096x2x64, .f32⟩
  | 57 => ⟨S8x4x64x4096, .f32⟩
  | 58 => ⟨S_, .f32⟩
  | 59 => ⟨S8x2x64x4096, .f32⟩
  | 60 => ⟨S8x2x64x4096, .f32⟩
  | 61 => ⟨S8x2x128x4096, .f32⟩
  | 62 => ⟨S8x2x64x4096, .f32⟩
  | 63 => ⟨S8x2x128x4096, .f32⟩
  | 64 => ⟨S8x4x128x4096, .f32⟩
  | 65 => ⟨S8x4x128x4096, .bf16⟩
  | 66 => ⟨S32768x128, .f32⟩
  | 67 => ⟨S32768x128, .bf16⟩
  | 68 => ⟨S8x128x4096, .f32⟩
  | 69 => ⟨S8x128x4096, .bf16⟩
  | _ => ⟨S32768x3840, .f32⟩

abbrev hbmTy (i : Nat) : BufTy := match i / 128 with
  | 0 => hbmTy0_0 i
  | 1 => hbmTy0_1 i
  | _ => ⟨S32768x3840, .f32⟩

abbrev bufTy : (tb : Table) → Fin (tcTables nBuf tb) → BufTy
  | .hbm, ⟨i, _⟩ => hbmTy i
  | _, _ => ⟨S32768x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_3 : Ref sig .tc := ⟨.hbm, 61, rfl⟩
abbrev main_v33 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_6 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_7 : Ref sig .tc := ⟨.hbm, 125, rfl⟩
abbrev main_v93 : Ref sig .tc := ⟨.hbm, 126, rfl⟩
abbrev main_v94 : Ref sig .tc := ⟨.hbm, 127, rfl⟩
abbrev main_cst_8 : Ref sig .tc := ⟨.hbm, 128, rfl⟩
abbrev main_v95 : Ref sig .tc := ⟨.hbm, 129, rfl⟩
abbrev main_v96 : Ref sig .tc := ⟨.hbm, 130, rfl⟩
abbrev main_cst_9 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_10 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩

abbrev nD : Nat := 1
abbrev τ : Topo := Topo.v7x

variable {F : FTy → Type} [FloatOps F]
-- ==== Proof.GqaBody.lean ====
/-
  What one grid point of the attention kernel computes, in named stages: a head's scores against one chunk of keys, the
  running maximum, sum and weighted sum after one more chunk, and the block the point writes back.
-/
module

public import proofs.«01_k».proof.Defs
public import proofs.«01_k».proof.Proof.Gen.KernelIdeal.Value
public import Idealize.ShloMosaic.Lib.Pipeline.Value

@[expose] public section

noncomputable section

namespace Cert.Proof.Gqa

open Idealize.ShloMosaic Cert.KernelIdeal Cert.KernelIdeal.Gen

variable {F : FTy → Type} [FloatOps F]

/-- The scores of one head (query block `q`) against one chunk of keys `k`: keys by queries. -/
def scores (k : Vec F S1x1024x128 .bf16) (q : Vec F S1x1x128x256 .bf16) : FVec F S1024x256 .f32 :=
  matmul dot_S1024x128_S128x256_S1024x256_1_0_0_1_n_n none (shapeCast S1024x128 k shapeCasts_S1x1024x128_S1024x128)
    (shapeCast S128x256 q shapeCasts_S1x1x128x256_S128x256) (constant S1024x256 .f32 0x00000000#32)

/-- Each column's greatest entry. -/
def top (x : FVec F S1024x256 .f32) : FVec F S1x256 .f32 :=
  shapeCast S1x256 (multiReduction .maximumf [0] S256 (multiReduction .maximumf [0] S8x256
    (multiReduction .maximumf [1] S16x8x256 (shapeCast S16x8x8x256 x shapeCasts_S1024x256_S16x8x8x256) 0xFF800000#32
      reduces_S16x8x8x256_S16x8x256 (.inl rfl) rfl) 0xFF800000#32 reduces_S16x8x256_S8x256 (.inl rfl) rfl) 0xFF800000#32
    reduces_S8x256_S256 (.inl rfl) rfl) shapeCasts_S256_S1x256

/-- Each column's sum. -/
def total (x : FVec F S1024x256 .f32) : FVec F S1x256 .f32 :=
  shapeCast S1x256 (multiReduction .add [0] S256 (multiReduction .add [0] S8x256
    (multiReduction .add [1] S16x8x256 (shapeCast S16x8x8x256 x shapeCasts_S1024x256_S16x8x8x256) 0x00000000#32
      reduces_S16x8x8x256_S16x8x256 (.inl rfl) rfl) 0x00000000#32 reduces_S16x8x256_S8x256 (.inl rfl) rfl) 0x00000000#32
    reduces_S8x256_S256 (.inl rfl) rfl) shapeCasts_S256_S1x256

/-- The running maximum after a chunk with scores `s`. -/
def nextM (m : FVec F S1x256 .f32) (s : FVec F S1024x256 .f32) : FVec F S1x256 .f32 := maximumf m (top s)

/-- The factor by which what was summed before is rescaled. -/
def rescale (m : FVec F S1x256 .f32) (s : FVec F S1024x256 .f32) : FVec F S1x256 .f32 := exp2 (subf m (nextM m s))

/-- The chunk's weights. -/
def weights (m : FVec F S1x256 .f32) (s : FVec F S1024x256 .f32) : FVec F S1024x256 .f32 :=
  exp2 (subf s (broadcastTo S1024x256 (nextM m s) broadcasts_S1x256_S1024x256))

/-- The running sum after the chunk. -/
def nextL (m l : FVec F S1x256 .f32) (s : FVec F S1024x256 .f32) : FVec F S1x256 .f32 :=
  addf (mulf (rescale m s) l) (total (weights m s))

/-- The running weighted sum of the values after the chunk. -/
def nextA (m : FVec F S1x256 .f32) (a : FVec F S64x256 .f32) (s : FVec F S1024x256 .f32) (v : Vec F S1x64x1024 .bf16) :
    FVec F S64x256 .f32 :=
  addf (mulf (broadcastTo S64x256 (rescale m s) broadcasts_S1x256_S64x256) a)
    (matmul dot_S64x1024_S1024x256_S64x256_1_0_0_1_n_n none (shapeCast S64x1024 v shapeCasts_S1x64x1024_S64x1024)
      (truncf .bf16 (weights m s) bitsLt_bf16_f32) (constant S64x256 .f32 0x00000000#32))

/-- One head over its four chunks: the weighted sum divided by the sum. -/
def head (s0 s1 s2 s3 : FVec F S1024x256 .f32) (v0 v1 v2 v3 : Vec F S1x64x1024 .bf16) : FVec F S64x256 .f32 :=
  let m0 : FVec F S1x256 .f32 := broadcast S1x256 (Scalar.ofBits .f32 0xFF800000#32)
  let l0 : FVec F S1x256 .f32 := broadcast S1x256 (Scalar.ofBits .f32 0x00000000#32)
  let a0 : FVec F S64x256 .f32 := broadcast S64x256 (Scalar.ofBits .f32 0x00000000#32)
  let m1 := nextM m0 s0
  let m2 := nextM m1 s1
  let m3 := nextM m2 s2
  divf (nextA m3 (nextA m2 (nextA m1 (nextA m0 a0 s0 v0) s1 v1) s2 v2) s3 v3)
    (broadcastTo S64x256 (nextL m3 (nextL m2 (nextL m1 (nextL m0 l0 s0) s1) s2) s3) broadcasts_S1x256_S64x256)

/-- One head at a grid point, its query block being rectangle `rq` of the point's query window. -/
def headAt (q : Vec F S1x1x128x256 .bf16) (x1 : Vec F S1x4096x128 .bf16) (x2 : Vec F S1x64x4096 .bf16) : FVec F S64x256 .f32 :=
  head (scores (View.ld x1 r0_0) q) (scores (View.ld x1 r0_3) q) (scores (View.ld x1 r0_4) q) (scores (View.ld x1 r0_6) q)
    (View.ld x2 r0_5) (View.ld x2 r0_7) (View.ld x2 r0_8) (View.ld x2 r0_9)

/-- The two heads side by side, positions by lanes. -/
def block (h0 h1 : FVec F S64x256 .f32) : FVec F S1x256x128 .f32 :=
  shapeCast S1x256x128 (transpose S256x128 [1, 0] (concatenate S128x256 0 [⟨S64x256, h0⟩, ⟨S64x256, h1⟩]
    concatenates_S64x256_S64x256_S128x256_d0) transposes_S128x256_p1_0_S256x128) shapeCasts_S256x128_S1x256x128

/-- The printed body stores exactly that block. -/
theorem out_eq (x0 : Vec F S1x2x128x256 .bf16) (x1 : Vec F S1x4096x128 .bf16) (x2 : Vec F S1x64x4096 .bf16) :
    out0_3 x0 x1 x2 = block (headAt (View.ld x0 r0_1) x1 x2) (headAt (View.ld x0 r0_2) x1 x2) := by
  have hz : (![0, 0, 0] : Fin S1x256x128.rank → Nat) = fun _ => 0 := funext fun a => by fin_cases a <;> rfl
  unfold out0_3
  rw [View.canon_unit_zero hz]
  rfl

end Cert.Proof.Gqa

end
-- ==== Proof.OnlineSoftmax.lean ====
/-
  The algebra of the attention, away from any array: a softmax taken chunk by chunk, with a running maximum `m`, a
  running sum `l` and a running weighted sum `a`, ends at the same weighted mean as the softmax taken at once.
-/
module

public import Idealize.ShloMosaic.PureOps.Ideal
public import Idealize.ShloMosaic.PureOps.Ideal.Laws

@[expose] public section

noncomputable section

namespace Cert.Proof.Gqa

open Idealize.ShloMosaic

/-- Two to the power `x`, a positive real. -/
abbrev two (x : ℝ) : ℝ := Real.rpow 2 x

theorem two_pos (x : ℝ) : 0 < two x := Real.rpow_pos_of_pos (by norm_num) x

theorem two_sub (x y : ℝ) : two (x - y) = two x * two (-y) := by
  show (2 : ℝ) ^ (x - y) = 2 ^ x * 2 ^ (-y)
  rw [← Real.rpow_add (by norm_num), sub_eq_add_neg]

theorem two_neg_mul (x : ℝ) : two (-x) * two x = 1 := by
  show (2 : ℝ) ^ (-x) * 2 ^ x = 1
  rw [← Real.rpow_add (by norm_num)]; simp

/-- A real factor that is not negative moves into a sum of extended reals. -/
theorem coe_mul_sum {ι : Type*} (r : ℝ) (hr : 0 ≤ r) (S : Finset ι) (f : ι → EReal) :
    (r : EReal) * ∑ k ∈ S, f k = ∑ k ∈ S, (r : EReal) * f k := by
  classical
  induction S using Finset.induction_on with
  | empty => simp
  | insert x S hx ih =>
    rw [Finset.sum_insert hx, Finset.sum_insert hx,
      EReal.left_distrib_of_nonneg_of_ne_top (by exact_mod_cast hr) (EReal.coe_ne_top r), ih]

/-- A sum of reals, read in the extended reals. -/
theorem coe_sum {ι : Type*} (S : Finset ι) (f : ι → ℝ) : ((∑ k ∈ S, f k : ℝ) : EReal) = ∑ k ∈ S, (f k : EReal) := by
  classical
  induction S using Finset.induction_on with
  | empty => simp
  | insert x S hx ih => rw [Finset.sum_insert hx, Finset.sum_insert hx, EReal.coe_add, ih]

/-- The greater of two reals, read in the extended reals. -/
theorem coe_max (x y : ℝ) : ((max x y : ℝ) : EReal) = max (x : EReal) (y : EReal) :=
  EReal.coe_strictMono.monotone.map_max

/-- The exponential of a difference of reals, base two. -/
theorem exp2_sub_coe (x y : ℝ) : Ideal.exp2 ((x : EReal) - (y : EReal)) = ((two x * two (-y) : ℝ) : EReal) := by
  rw [← EReal.coe_sub, Ideal.exp2_coe, ← two_sub]

/-- What the chunks seen so far (the first `n` keys, scores `s`, values `v`) have left: some real reference score `M`,
    the sum of the weights relative to it, and the sum of the weighted values relative to it. -/
def Seen (s : ℕ → ℝ) (v : ℕ → EReal) (n : ℕ) (m l a : EReal) : Prop :=
  ∃ M : ℝ, m = (M : EReal) ∧ l = ∑ k ∈ Finset.range n, ((two (s k) * two (-M) : ℝ) : EReal)
    ∧ a = ∑ k ∈ Finset.range n, v k * ((two (s k) * two (-M) : ℝ) : EReal)

/-- The first chunk, from the maximum −∞ and empty sums. -/
theorem seen_first (s : ℕ → ℝ) (v : ℕ → EReal) (K : ℕ) (c : EReal) (hc : ∃ M : ℝ, c = (M : EReal)) :
    Seen s v K (max ⊥ c) (Ideal.exp2 (⊥ - max ⊥ c) * 0 + ∑ k ∈ Finset.range K, Ideal.exp2 ((s k : EReal) - max ⊥ c))
      (Ideal.exp2 (⊥ - max ⊥ c) * 0 + ∑ k ∈ Finset.range K, v k * Ideal.exp2 ((s k : EReal) - max ⊥ c)) := by
  obtain ⟨M, rfl⟩ := hc
  refine ⟨M, by simp, ?_, ?_⟩ <;> simp only [bot_le, sup_of_le_right, mul_zero, zero_add, exp2_sub_coe]

/-- One more chunk. -/
theorem seen_step (s : ℕ → ℝ) (v : ℕ → EReal) (n K : ℕ) (m l a c : EReal) (hc : ∃ M : ℝ, c = (M : EReal))
    (h : Seen s v n m l a) :
    Seen s v (n + K) (max m c)
      (Ideal.exp2 (m - max m c) * l + ∑ k ∈ Finset.range K, Ideal.exp2 ((s (n + k) : EReal) - max m c))
      (Ideal.exp2 (m - max m c) * a + ∑ k ∈ Finset.range K, v (n + k) * Ideal.exp2 ((s (n + k) : EReal) - max m c)) := by
  obtain ⟨C, rfl⟩ := hc
  obtain ⟨M, rfl, rfl, rfl⟩ := h
  have hm : max (M : EReal) (C : EReal) = ((max M C : ℝ) : EReal) := (coe_max M C).symm
  rw [hm]
  generalize max M C = M'
  have hw (k : ℕ) : two M * two (-M') * (two (s k) * two (-M)) = two (s k) * two (-M') := by
    have := two_neg_mul M
    calc two M * two (-M') * (two (s k) * two (-M)) = (two (-M) * two M) * (two (s k) * two (-M')) := by ring
      _ = _ := by rw [this, one_mul]
  have hp : 0 ≤ two M * two (-M') := (mul_pos (two_pos _) (two_pos _)).le
  refine ⟨M', rfl, ?_, ?_⟩
  · rw [Finset.sum_range_add, exp2_sub_coe, coe_mul_sum _ hp]
    congr 1
    · exact Finset.sum_congr rfl fun k _ => by rw [← EReal.coe_mul, hw]
    · exact Finset.sum_congr rfl fun k _ => by rw [exp2_sub_coe]
  · rw [Finset.sum_range_add, exp2_sub_coe, coe_mul_sum _ hp]
    congr 1
    · exact Finset.sum_congr rfl fun k _ => by rw [mul_left_comm, ← EReal.coe_mul, hw]
    · exact Finset.sum_congr rfl fun k _ => by rw [exp2_sub_coe]

/-- The weighted mean both sides end at. -/
def mean (s : ℕ → ℝ) (v : ℕ → EReal) (n : ℕ) : EReal :=
  ∑ k ∈ Finset.range n, v k * ((two (s k) / ∑ j ∈ Finset.range n, two (s j) : ℝ) : EReal)

/-- The quotient of the two running sums is the weighted mean. -/
theorem seen_div (s : ℕ → ℝ) (v : ℕ → EReal) (n : ℕ) (hn : 0 < n) (m l a : EReal) (h : Seen s v n m l a) :
    Ideal.div a l = mean s v n := by
  obtain ⟨M, rfl, rfl, rfl⟩ := h
  have hW : 0 < ∑ j ∈ Finset.range n, two (s j) :=
    Finset.sum_pos (fun k _ => two_pos _) ⟨0, Finset.mem_range.2 hn⟩
  have ht : 0 < two (-M) := two_pos _
  have hS : 0 < ∑ j ∈ Finset.range n, two (s j) * two (-M) := by
    rw [← Finset.sum_mul]; exact mul_pos hW ht
  rw [← coe_sum, Ideal.div_coe hS.ne', mul_comm, coe_mul_sum _ (by positivity)]
  refine Finset.sum_congr rfl fun k _ => ?_
  rw [mul_left_comm, ← EReal.coe_mul, ← Finset.sum_mul]
  congr 2
  field_simp

/-- The softmax taken at once, of the scores times the logarithm of two: each weight is that of the mean. -/
theorem softmax_weight (s : ℕ → ℝ) (n : ℕ) (hn : 0 < n) (M : ℝ) (k : ℕ) :
    Ideal.div (Ideal.exp (((s k : ℝ) : EReal) * ((Real.log 2 : ℝ) : EReal) - (M : EReal)))
        (∑ j ∈ Finset.range n, Ideal.exp (((s j : ℝ) : EReal) * ((Real.log 2 : ℝ) : EReal) - (M : EReal)))
      = ((two (s k) / ∑ j ∈ Finset.range n, two (s j) : ℝ) : EReal) := by
  have he (j : ℕ) : Ideal.exp (((s j : ℝ) : EReal) * ((Real.log 2 : ℝ) : EReal) - (M : EReal))
      = ((two (s j) * Real.exp (-M) : ℝ) : EReal) := by
    rw [← EReal.coe_mul, ← EReal.coe_sub, Ideal.exp_coe]
    congr 1
    show Real.exp _ = (2 : ℝ) ^ (s j) * _
    rw [Real.rpow_def_of_pos (by norm_num), ← Real.exp_add]
    congr 1; ring
  have hW : 0 < ∑ j ∈ Finset.range n, two (s j) :=
    Finset.sum_pos (fun k _ => two_pos _) ⟨0, Finset.mem_range.2 hn⟩
  have ht : 0 < Real.exp (-M) := Real.exp_pos _
  have hS : 0 < ∑ j ∈ Finset.range n, two (s j) * Real.exp (-M) := by
    rw [← Finset.sum_mul]; exact mul_pos hW ht
  simp only [he]
  rw [← coe_sum, Ideal.div_coe hS.ne', ← EReal.coe_mul, ← Finset.sum_mul]
  congr 1
  field_simp

/-- The greatest of finitely many reals, from −∞, is a real. -/
theorem fold_max_real {ι : Type*} (S : Finset ι) (hS : S.Nonempty) (f : ι → EReal) (hf : ∀ k, ∃ r : ℝ, f k = (r : EReal)) :
    ∃ r : ℝ, S.fold max ⊥ f = (r : EReal) := by
  classical
  induction hS using Finset.Nonempty.cons_induction with
  | singleton x => obtain ⟨r, hr⟩ := hf x; exact ⟨r, by simp [hr]⟩
  | cons x S hx hS ih =>
    obtain ⟨r, hr⟩ := hf x
    obtain ⟨q, hq⟩ := ih
    exact ⟨max r q, by rw [Finset.fold_cons, hr, hq, coe_max]⟩

end Cert.Proof.Gqa

end
-- ==== Proof.GqaReads.lean ====
/-
  The stages of one grid point of the attention kernel read at an index, over the extended reals: a score is a sum over
  the 128 lanes, a column's sum is the sum over its 1024 rows, and a head's four chunks give the weighted mean.
-/
module

public import proofs.«01_k».proof.Proof.GqaBody
public import proofs.«01_k».proof.Proof.OnlineSoftmax
public import Idealize.ShloMosaic.Lib.ValueIdx
public import Idealize.ShloMosaic.Lib.MatmulPlain

@[expose] public section

noncomputable section

namespace Cert.Proof.Gqa

open Idealize.ShloMosaic Cert.KernelIdeal Cert.KernelIdeal.Gen Idealize.ShloMosaic.ValueIdx

/-- The word of −∞ is the least extended real. -/
theorem ofBits_negInf : Ideal.ofBits .f32 0xFF800000#32 = ⊥ := by simp [Ideal.ofBits, Ideal.ieee]

/-- A score is the sum over the lanes of key times query. -/
theorem scores_apply (k : Vec Ideal S1x1024x128 .bf16) (q : Vec Ideal S1x1x128x256 .bf16) (a : Fin 1024) (j : Fin 256) :
    scores k q (ix2 a j) = ∑ l : Fin 128, k (ix3 0 a l) * q (ix4 0 0 l j) := by
  unfold scores
  refine (Ideal.matmul_plain_apply (M := 1024) (K := 128) (N := 256) none _ _ _ a j).trans ?_
  rw [show (constant (F := Ideal) S1024x256 .f32 0x00000000#32 (ix2 a j)) = 0 from Ideal.ofBits_zero_f32, zero_add]
  refine Finset.sum_congr rfl fun l _ => ?_
  congr 1
  · exact shapeCast_apply _ _ _ (ix3 0 a l) (by
      rw [Shape.rowMajor_val_three, Shape.rowMajor_val_two]; show (0 * 1024 + a.val) * 128 + l.val = a.val * 128 + l.val; omega)
  · exact shapeCast_apply _ _ _ (ix4 0 0 l j) (by
      rw [Shape.rowMajor_val_four, Shape.rowMajor_val_two]
      show ((0 * 1 + 0) * 128 + l.val) * 256 + j.val = l.val * 256 + j.val; omega)

/-- A maximum along one axis, from −∞, of reals is a real. -/
theorem max_real {s t : Shape} {a : Fin s.rank} (src : FVec Ideal s .f32) (h : s.Reduces [a] t) (hφ : FKind.Formats .f32)
    (hacc : (0xFF800000#32 : BitVec 32) = FKind.maximumf.neutral .f32 hφ) (hp : 0 < s.size a)
    (hx : ∀ i, ∃ r : ℝ, src i = (r : EReal)) (j : t.Idx) :
    ∃ r : ℝ, multiReduction .maximumf [a] t src 0xFF800000#32 h hφ hacc j = (r : EReal) := by
  obtain ⟨r, hr⟩ := fold_max_real (Finset.univ : Finset (Fin (s.size a))) ⟨⟨0, hp⟩, Finset.mem_univ _⟩ (src ∘ h.lift j) fun c => hx _
  refine ⟨r, (Ideal.multiReduction_maximumf_single src _ h hφ hacc j).trans (Eq.trans ?_ hr)⟩
  rw [show (FloatOps.ofBits .f32 0xFF800000#32 : Ideal .f32) = (⊥ : EReal) from ofBits_negInf]

/-- The greatest entry of a column of reals is a real. -/
theorem top_real (x : FVec Ideal S1024x256 .f32) (hx : ∀ i, ∃ r : ℝ, x i = (r : EReal)) (i : S1x256.Idx) :
    ∃ r : ℝ, top x i = (r : EReal) := by
  unfold top shapeCast
  refine max_real _ _ _ _ (by show 0 < 8; norm_num) (fun j => ?_) _
  refine max_real _ _ _ _ (by show 0 < 16; norm_num) (fun j => ?_) _
  exact max_real _ _ _ _ (by show 0 < 8; norm_num) (fun j => hx _) _

/-- A sum over `m * n` terms in rows of `n`. -/
theorem sum_range_rows (m n : ℕ) (f : ℕ → EReal) :
    ∑ k ∈ Finset.range (m * n), f k = ∑ a ∈ Finset.range m, ∑ b ∈ Finset.range n, f (a * n + b) := by
  induction m with
  | zero => simp
  | succ m ih => rw [Nat.succ_mul, Finset.sum_range_add, ih, Finset.sum_range_succ]

/-- The order in which a column's 1024 entries are added does not matter. -/
theorem sum_tiles (f : ℕ → EReal) :
    ∑ c : Fin 8, ∑ a : Fin 16, ∑ b : Fin 8, f (64 * a.val + 8 * b.val + c.val) = ∑ k ∈ Finset.range 1024, f k := by
  rw [show (1024 : ℕ) = 16 * 64 from rfl, sum_range_rows, Finset.sum_comm, Finset.sum_range]
  refine Finset.sum_congr rfl fun a _ => ?_
  rw [show (64 : ℕ) = 8 * 8 from rfl, sum_range_rows, Finset.sum_comm, Finset.sum_range]
  refine Finset.sum_congr rfl fun b _ => ?_
  rw [Finset.sum_range]
  refine Finset.sum_congr rfl fun c _ => ?_
  congr 1; omega

/-- A column's sum. -/
theorem total_apply (x : FVec Ideal S1024x256 .f32) (j : Fin 256) (f : ℕ → EReal) (hf : ∀ k : Fin 1024, x (ix2 k j) = f k) :
    total x (ix2 0 j) = ∑ k ∈ Finset.range 1024, f k := by
  rw [← sum_tiles]
  unfold total
  refine (shapeCast_apply _ _ _ (ix1 j) (by
    rw [Shape.rowMajor_val_one, Shape.rowMajor_val_two]; show j.val = 0 * 256 + j.val; omega)).trans ?_
  refine (Ideal.multiReduction_add_single _ _ _ _ _ _).trans ?_
  refine Finset.sum_congr rfl fun c _ => ?_
  refine (Ideal.multiReduction_add_single _ _ _ _ _ _).trans ?_
  refine Finset.sum_congr rfl fun a _ => ?_
  refine (Ideal.multiReduction_add_single _ _ _ _ _ _).trans ?_
  refine Finset.sum_congr rfl fun b _ => ?_
  have ha : a.val < 16 := a.isLt
  have hb : b.val < 8 := b.isLt
  have hc : c.val < 8 := c.isLt
  refine (shapeCast_apply _ _ _ (ix2 (⟨64 * a.val + 8 * b.val + c.val, by omega⟩ : Fin 1024) j) ?_).trans (hf _)
  rw [Shape.rowMajor_val_two, Shape.rowMajor_val_four]
  show (64 * a.val + 8 * b.val + c.val) * 256 + j.val = ((a.val * 8 + b.val) * 8 + c.val) * 256 + j.val
  omega

theorem weights_apply (m : FVec Ideal S1x256 .f32) (s : FVec Ideal S1024x256 .f32) (k : Fin 1024) (j : Fin 256) :
    weights m s (ix2 k j) = Ideal.exp2 (s (ix2 k j) - max (m (ix2 0 j)) (top s (ix2 0 j))) := by
  show Ideal.exp2 (s (ix2 k j) - broadcastTo S1024x256 (nextM m s) broadcasts_S1x256_S1024x256 (ix2 k j)) = _
  rw [broadcastTo_apply _ _ _ (ix2 0 j) (fun a => by match a with | ⟨0, _⟩ => rfl | ⟨1, _⟩ => rfl)]
  rfl

theorem nextL_apply (m l : FVec Ideal S1x256 .f32) (s : FVec Ideal S1024x256 .f32) (j : Fin 256) (f : ℕ → ℝ)
    (hf : ∀ k : Fin 1024, s (ix2 k j) = (f k : EReal)) :
    nextL m l s (ix2 0 j) = Ideal.exp2 (m (ix2 0 j) - max (m (ix2 0 j)) (top s (ix2 0 j))) * l (ix2 0 j)
      + ∑ k ∈ Finset.range 1024, Ideal.exp2 ((f k : EReal) - max (m (ix2 0 j)) (top s (ix2 0 j))) := by
  show _ + total (weights m s) (ix2 0 j) = _
  rw [total_apply (weights m s) j (fun k => Ideal.exp2 ((f k : EReal) - max (m (ix2 0 j)) (top s (ix2 0 j))))
    (fun k => by rw [weights_apply, hf])]
  rfl

theorem nextA_apply (m : FVec Ideal S1x256 .f32) (a : FVec Ideal S64x256 .f32) (s : FVec Ideal S1024x256 .f32)
    (v : Vec Ideal S1x64x1024 .bf16) (d : Fin 64) (j : Fin 256) (f : ℕ → ℝ) (g : ℕ → EReal)
    (hf : ∀ k : Fin 1024, s (ix2 k j) = (f k : EReal)) (hg : ∀ k : Fin 1024, v (ix3 0 d k) = g k) :
    nextA m a s v (ix2 d j) = Ideal.exp2 (m (ix2 0 j) - max (m (ix2 0 j)) (top s (ix2 0 j))) * a (ix2 d j)
      + ∑ k ∈ Finset.range 1024, g k * Ideal.exp2 ((f k : EReal) - max (m (ix2 0 j)) (top s (ix2 0 j))) := by
  show broadcastTo S64x256 (rescale m s) broadcasts_S1x256_S64x256 (ix2 d j) * a (ix2 d j) + _ = _
  rw [broadcastTo_apply _ _ _ (ix2 0 j) (fun a => by match a with | ⟨0, _⟩ => rfl | ⟨1, _⟩ => rfl), Finset.sum_range]
  refine congrArg (fun z : EReal => Ideal.exp2 (m (ix2 0 j) - max (m (ix2 0 j)) (top s (ix2 0 j))) * a (ix2 d j) + z) ?_
  refine (Ideal.matmul_plain_apply (M := 64) (K := 1024) (N := 256) none _ _ _ d j).trans ?_
  rw [show (constant (F := Ideal) S64x256 .f32 0x00000000#32 (ix2 d j)) = 0 from Ideal.ofBits_zero_f32, zero_add]
  refine Finset.sum_congr rfl fun k _ => ?_
  congr 1
  · exact (shapeCast_apply _ _ _ (ix3 0 d k) (by
      rw [Shape.rowMajor_val_three, Shape.rowMajor_val_two]; show (0 * 64 + d.val) * 1024 + k.val = d.val * 1024 + k.val; omega)).trans (hg k)
  · exact (weights_apply m s k j).trans (by rw [hf])

/-- One head, one position, one of the 64 lanes: the weighted mean of the values, the weights the powers of two of the scores. -/
theorem head_apply (s0 s1 s2 s3 : FVec Ideal S1024x256 .f32) (v0 v1 v2 v3 : Vec Ideal S1x64x1024 .bf16) (d : Fin 64) (j : Fin 256)
    (s : ℕ → ℝ) (v : ℕ → EReal)
    (r0 : ∀ i, ∃ r : ℝ, s0 i = (r : EReal)) (r1 : ∀ i, ∃ r : ℝ, s1 i = (r : EReal))
    (r2 : ∀ i, ∃ r : ℝ, s2 i = (r : EReal)) (r3 : ∀ i, ∃ r : ℝ, s3 i = (r : EReal))
    (h0 : ∀ k : Fin 1024, s0 (ix2 k j) = (s k : EReal)) (h1 : ∀ k : Fin 1024, s1 (ix2 k j) = (s (1024 + k) : EReal))
    (h2 : ∀ k : Fin 1024, s2 (ix2 k j) = (s (2048 + k) : EReal)) (h3 : ∀ k : Fin 1024, s3 (ix2 k j) = (s (3072 + k) : EReal))
    (g0 : ∀ k : Fin 1024, v0 (ix3 0 d k) = v k) (g1 : ∀ k : Fin 1024, v1 (ix3 0 d k) = v (1024 + k))
    (g2 : ∀ k : Fin 1024, v2 (ix3 0 d k) = v (2048 + k)) (g3 : ∀ k : Fin 1024, v3 (ix3 0 d k) = v (3072 + k)) :
    head s0 s1 s2 s3 v0 v1 v2 v3 (ix2 d j) = mean s v 4096 := by
  set m0 : FVec Ideal S1x256 .f32 := broadcast S1x256 (Scalar.ofBits .f32 0xFF800000#32) with hm0
  set l0 : FVec Ideal S1x256 .f32 := broadcast S1x256 (Scalar.ofBits .f32 0x00000000#32) with hl0
  set a0 : FVec Ideal S64x256 .f32 := broadcast S64x256 (Scalar.ofBits .f32 0x00000000#32) with ha0
  have em : m0 (ix2 0 j) = (⊥ : EReal) := ofBits_negInf
  have el : l0 (ix2 0 j) = (0 : EReal) := Ideal.ofBits_zero_f32
  have ea : a0 (ix2 d j) = (0 : EReal) := Ideal.ofBits_zero_f32
  have S1 : Seen s v 1024 (nextM m0 s0 (ix2 0 j)) (nextL m0 l0 s0 (ix2 0 j)) (nextA m0 a0 s0 v0 (ix2 d j)) := by
    rw [nextL_apply m0 l0 s0 j s h0, nextA_apply m0 a0 s0 v0 d j s v h0 g0,
      show nextM m0 s0 (ix2 0 j) = max (m0 (ix2 0 j)) (top s0 (ix2 0 j)) from rfl, em, el, ea]
    exact seen_first s v 1024 _ (top_real s0 r0 _)
  have S2 : Seen s v 2048 (nextM (nextM m0 s0) s1 (ix2 0 j)) (nextL (nextM m0 s0) (nextL m0 l0 s0) s1 (ix2 0 j))
      (nextA (nextM m0 s0) (nextA m0 a0 s0 v0) s1 v1 (ix2 d j)) := by
    rw [nextL_apply _ _ s1 j (fun k => s (1024 + k)) h1, nextA_apply _ _ s1 v1 d j (fun k => s (1024 + k)) (fun k => v (1024 + k)) h1 g1]
    exact seen_step s v 1024 1024 _ _ _ _ (top_real s1 r1 _) S1
  have S3 := S2
  replace S3 : Seen s v 3072 (nextM (nextM (nextM m0 s0) s1) s2 (ix2 0 j))
      (nextL (nextM (nextM m0 s0) s1) (nextL (nextM m0 s0) (nextL m0 l0 s0) s1) s2 (ix2 0 j))
      (nextA (nextM (nextM m0 s0) s1) (nextA (nextM m0 s0) (nextA m0 a0 s0 v0) s1 v1) s2 v2 (ix2 d j)) := by
    rw [nextL_apply _ _ s2 j (fun k => s (2048 + k)) h2, nextA_apply _ _ s2 v2 d j (fun k => s (2048 + k)) (fun k => v (2048 + k)) h2 g2]
    exact seen_step s v 2048 1024 _ _ _ _ (top_real s2 r2 _) S2
  have S4 : Seen s v 4096 (nextM (nextM (nextM (nextM m0 s0) s1) s2) s3 (ix2 0 j))
      (nextL (nextM (nextM (nextM m0 s0) s1) s2) (nextL (nextM (nextM m0 s0) s1) (nextL (nextM m0 s0) (nextL m0 l0 s0) s1) s2) s3 (ix2 0 j))
      (nextA (nextM (nextM (nextM m0 s0) s1) s2) (nextA (nextM (nextM m0 s0) s1) (nextA (nextM m0 s0) (nextA m0 a0 s0 v0) s1 v1) s2 v2) s3 v3 (ix2 d j)) := by
    rw [nextL_apply _ _ s3 j (fun k => s (3072 + k)) h3, nextA_apply _ _ s3 v3 d j (fun k => s (3072 + k)) (fun k => v (3072 + k)) h3 g3]
    exact seen_step s v 3072 1024 _ _ _ _ (top_real s3 r3 _) S3
  refine Eq.trans ?_ (seen_div s v 4096 (by norm_num) _ _ _ S4)
  show Ideal.div _ (broadcastTo S64x256 _ broadcasts_S1x256_S64x256 (ix2 d j)) = _
  rw [broadcastTo_apply _ _ _ (ix2 0 j) (fun a => by match a with | ⟨0, _⟩ => rfl | ⟨1, _⟩ => rfl)]

/-- The written block at a position and a lane: lanes below 64 are the first head's, the others the second's. -/
theorem block_apply_fst (h0 h1 : FVec Ideal S64x256 .f32) (i : Fin 256) (n : Fin 128) (d : Fin 64) (hn : n.val = d.val) :
    block h0 h1 (ix3 0 i n) = h0 (ix2 d i) := by
  unfold block
  refine (shapeCast_apply _ _ _ (ix2 i n) (by
    rw [Shape.rowMajor_val_three, Shape.rowMajor_val_two]; show i.val * 128 + n.val = (0 * 256 + i.val) * 128 + n.val; omega)).trans ?_
  refine (transpose_apply _ _ _ _ (ix2 n i) (fun b => by match b with | ⟨0, _⟩ => rfl | ⟨1, _⟩ => rfl)).trans ?_
  exact concatenate_pair_apply_left (t := S128x256) 0 h0 h1 concatenates_S64x256_S64x256_S128x256_d0 (ix2 n i) rfl (ix2 d i)
    (fun b => by match b with | ⟨0, _⟩ => exact hn.symm | ⟨1, _⟩ => rfl)

theorem block_apply_snd (h0 h1 : FVec Ideal S64x256 .f32) (i : Fin 256) (n : Fin 128) (d : Fin 64) (hn : n.val = 64 + d.val) :
    block h0 h1 (ix3 0 i n) = h1 (ix2 d i) := by
  unfold block
  refine (shapeCast_apply _ _ _ (ix2 i n) (by
    rw [Shape.rowMajor_val_three, Shape.rowMajor_val_two]; show i.val * 128 + n.val = (0 * 256 + i.val) * 128 + n.val; omega)).trans ?_
  refine (transpose_apply _ _ _ _ (ix2 n i) (fun b => by match b with | ⟨0, _⟩ => rfl | ⟨1, _⟩ => rfl)).trans ?_
  refine concatenate_pair_apply_right (t := S128x256) 0 h0 h1 concatenates_S64x256_S64x256_S128x256_d0 (ix2 n i) rfl rfl (ix2 d i) ?_ ?_
  · intro b hb
    match b, hb with
    | ⟨0, _⟩, hb => exact absurd rfl hb
    | ⟨1, _⟩, _ => rfl
  · show d.val + 64 = n.val; omega

end Cert.Proof.Gqa

end
-- ==== Proof.GqaArray.lean ====
/-
  The result array of the attention kernel after its run, at finite queries and keys: entry (batch b, position p, column
  n) is the weighted mean of the values of key head n / 128, lane n % 64, over all 4096 positions.
-/
module

public import proofs.«01_k».proof.Proof.GqaReads
public import Idealize.ShloMosaic.Lib.Claim

@[expose] public section

noncomputable section

namespace Cert.Proof.Gqa

open Idealize.ShloMosaic Cert.KernelIdeal Cert.KernelIdeal.Gen Idealize.ShloMosaic.ValueIdx Idealize.ShloMosaic.TcCoe
open Idealize.SL.Sem

/-- The score of key `k` for query head `2 g + r` at position `p` of batch `b`, as a real (zero past the last key). -/
def score (Q : FVec Ideal S8x4x128x4096 .bf16) (K : FVec Ideal S32768x128 .bf16) (b : Fin 8) (h : Fin 4) (p : Fin 4096) (k : ℕ) : ℝ :=
  if hk : k < 4096 then
    (∑ l : Fin 128, K (ix2 ⟨4096 * b.val + k, by have := b.isLt; omega⟩ l) * Q (ix4 b h l p) : EReal).toReal
  else 0

/-- The value of key `k` on one of the 128 value rows of batch `b` (zero past the last key). -/
def value (W : FVec Ideal S8x128x4096 .bf16) (b : Fin 8) (e : Fin 128) (k : ℕ) : EReal :=
  if hk : k < 4096 then W (ix3 b e ⟨k, hk⟩) else 0

/-- The attention's result. -/
def attn (Q : FVec Ideal S8x4x128x4096 .bf16) (K : FVec Ideal S32768x128 .bf16) (W : FVec Ideal S8x128x4096 .bf16) :
    FVec Ideal S8x4096x256 .f32 := fun i =>
  mean (score Q K (i 0) ⟨(i 2).val / 64, by have : (i 2).val < 256 := (i 2).isLt; omega⟩ (i 1))
    (value W (i 0) ⟨64 * ((i 2).val / 128) + (i 2).val % 64, by have : (i 2).val < 256 := (i 2).isLt; omega⟩) 4096

/-- A sum of products of reals is a real. -/
theorem sum_mul_real {ι : Type*} (S : Finset ι) (f g : ι → EReal) (hf : ∀ i, ∃ r : ℝ, f i = (r : EReal))
    (hg : ∀ i, ∃ r : ℝ, g i = (r : EReal)) : ∃ r : ℝ, ∑ i ∈ S, f i * g i = (r : EReal) := by
  choose f' hf' using hf
  choose g' hg' using hg
  exact ⟨∑ i ∈ S, f' i * g' i, by simp only [hf', hg', coe_sum, EReal.coe_mul]⟩

theorem toReal_of_real {x : EReal} (h : ∃ r : ℝ, x = (r : EReal)) : ((x.toReal : ℝ) : EReal) = x := by
  obtain ⟨r, rfl⟩ := h; rw [EReal.toReal_coe]

variable (m : (ℓ : Loc nD τ sig) → Buf (Elt Ideal) ℓ)

theorem idx0 : ∀ t : Fin cfg0.N, win0_0.index t 0 = t.val / 32 ∧ win0_0.index t 1 = t.val / 16 % 2 ∧ win0_0.index t 2 = 0
    ∧ win0_0.index t 3 = t.val % 16 := by decide +kernel
theorem idx1 : ∀ t : Fin cfg0.N, win0_1.index t 0 = t.val / 32 ∧ win0_1.index t 1 = 0 ∧ win0_1.index t 2 = 0 := by decide +kernel
theorem idx2 : ∀ t : Fin cfg0.N, win0_2.index t 0 = t.val / 32 ∧ win0_2.index t 1 = t.val / 16 % 2 ∧ win0_2.index t 2 = 0 := by decide +kernel
theorem idx3 : ∀ t : Fin cfg0.N, win0_3.index t 0 = t.val / 32 ∧ win0_3.index t 1 = t.val % 16 ∧ win0_3.index t 2 = t.val / 16 % 2 := by decide +kernel

theorem lt_N (t : Fin cfg0.N) : t.val < 256 := t.isLt

/-- The queries' block at a point. -/
theorem block0 (c : Dev nD) (t : Fin cfg0.N) (r : Fin 2) (l : Fin 128) (i : Fin 256) :
    (iblk m c 0 t : FVec Ideal S1x2x128x256 .bf16) (ix4 0 r l i)
      = (m ((c : Thread nD τ).loc main_arg0) : FVec Ideal S8x4x128x4096 .bf16)
          (ix4 ⟨t.val / 32, by have := lt_N t; omega⟩ ⟨2 * (t.val / 16 % 2) + r.val, by omega⟩ l ⟨256 * (t.val % 16) + i.val, by omega⟩) := by
  obtain ⟨h0, h1, h2, h3⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1 + 1 * 0 = t.val / 32; omega
  | ⟨1, _⟩ => show win0_0.index t 1 * 2 + 1 * r.val = 2 * (t.val / 16 % 2) + r.val; omega
  | ⟨2, _⟩ => show win0_0.index t 2 * 128 + 1 * l.val = l.val; omega
  | ⟨3, _⟩ => show win0_0.index t 3 * 256 + 1 * i.val = 256 * (t.val % 16) + i.val; omega

/-- The keys' block at a point: the whole of the batch's keys. -/
theorem block1 (c : Dev nD) (t : Fin cfg0.N) (k : Fin 4096) (l : Fin 128) :
    (iblk m c 1 t : FVec Ideal S1x4096x128 .bf16) (ix3 0 k l)
      = (m ((c : Thread nD τ).loc main_arg1) : FVec Ideal S32768x128 .bf16)
          (ix2 ⟨4096 * (t.val / 32) + k.val, by have := lt_N t; omega⟩ l) := by
  obtain ⟨h0, h1, h2⟩ := idx1 t
  have ht := lt_N t
  unfold iblk
  rw [View.read_apply]
  show V m c main_v0 _ = m ((c : Thread nD τ).loc main_arg1) _
  entry_read
  refine (congrArg _ (show _ = ix3 (⟨t.val / 32, by omega⟩ : Fin 8) k l from ?_)).trans (shapeCast_apply _ _ _ _ ?_)
  · funext a
    apply Fin.ext
    match a with
    | ⟨0, _⟩ => show win0_1.index t 0 * 1 + 1 * 0 = t.val / 32; omega
    | ⟨1, _⟩ => show win0_1.index t 1 * 4096 + 1 * k.val = k.val; omega
    | ⟨2, _⟩ => show win0_1.index t 2 * 128 + 1 * l.val = l.val; omega
  · refine (Shape.rowMajor_val_two (d := S32768x128.size) _).trans (Eq.trans ?_ (Shape.rowMajor_val_three (d := S8x4096x128.size) _).symm)
    show (4096 * (t.val / 32) + k.val) * 128 + l.val = ((t.val / 32) * 4096 + k.val) * 128 + l.val; omega

/-- The values' block at a point: the 64 rows of one key head. -/
theorem block2 (c : Dev nD) (t : Fin cfg0.N) (d : Fin 64) (k : Fin 4096) :
    (iblk m c 2 t : FVec Ideal S1x64x4096 .bf16) (ix3 0 d k)
      = (m ((c : Thread nD τ).loc main_arg2) : FVec Ideal S8x128x4096 .bf16)
          (ix3 ⟨t.val / 32, by have := lt_N t; omega⟩ ⟨64 * (t.val / 16 % 2) + d.val, by omega⟩ k) := by
  obtain ⟨h0, h1, h2⟩ := idx2 t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 1 + 1 * 0 = t.val / 32; omega
  | ⟨1, _⟩ => show win0_2.index t 1 * 64 + 1 * d.val = 64 * (t.val / 16 % 2) + d.val; omega
  | ⟨2, _⟩ => show win0_2.index t 2 * 4096 + 1 * k.val = k.val; omega

/-- A chunk of keys starting at row `o`, read. -/
theorem ld_keys (X : Vec Ideal S1x4096x128 .bf16) (o : ℕ) (inb) (k : Fin 1024) (l : Fin 128) (h : o + k.val < 4096) :
    View.ld X (Rect.unit (s := S1x4096x128) ![0, o, 0] S1x1024x128.size inb) (ix3 0 k l) = X (ix3 0 ⟨o + k.val, h⟩ l) :=
  congrArg X (funext fun a => Fin.ext (match a with
    | ⟨0, _⟩ => rfl
    | ⟨1, _⟩ => by show o + 1 * k.val = o + k.val; omega
    | ⟨2, _⟩ => by show 0 + 1 * l.val = l.val; omega))

/-- A chunk of values starting at column `o`, read. -/
theorem ld_values (X : Vec Ideal S1x64x4096 .bf16) (o : ℕ) (inb) (d : Fin 64) (k : Fin 1024) (h : o + k.val < 4096) :
    View.ld X (Rect.unit (s := S1x64x4096) ![0, 0, o] S1x64x1024.size inb) (ix3 0 d k) = X (ix3 0 d ⟨o + k.val, h⟩) :=
  congrArg X (funext fun a => Fin.ext (match a with
    | ⟨0, _⟩ => rfl
    | ⟨1, _⟩ => by show 0 + 1 * d.val = d.val; omega
    | ⟨2, _⟩ => by show o + 1 * k.val = o + k.val; omega))

/-- One of the two query heads of a block, read. -/
theorem ld_queries (X : Vec Ideal S1x2x128x256 .bf16) (r : Fin 2) (inb) (l : Fin 128) (j : Fin 256) :
    View.ld X (Rect.unit (s := S1x2x128x256) ![0, r.val, 0, 0] S1x1x128x256.size inb) (ix4 0 0 l j) = X (ix4 0 r l j) :=
  congrArg X (funext fun a => Fin.ext (match a with
    | ⟨0, _⟩ => rfl
    | ⟨1, _⟩ => by show r.val + 1 * 0 = r.val; omega
    | ⟨2, _⟩ => by show 0 + 1 * l.val = l.val; omega
    | ⟨3, _⟩ => by show 0 + 1 * j.val = j.val; omega))

/-- The scores of a chunk of keys, read. -/
theorem scores_chunk (q : Vec Ideal S1x1x128x256 .bf16) (x1 : Vec Ideal S1x4096x128 .bf16) (j : Fin 256) (s : ℕ → ℝ)
    (hs : ∀ k : Fin 4096, ∑ l : Fin 128, x1 (ix3 0 k l) * q (ix4 0 0 l j) = (s k : EReal)) (o : ℕ) (ho : o + 1024 ≤ 4096) (inb)
    (k : Fin 1024) :
    scores (View.ld x1 (Rect.unit (s := S1x4096x128) ![0, o, 0] S1x1024x128.size inb)) q (ix2 k j) = (s (o + k) : EReal) := by
  have hk : o + k.val < 4096 := by have := k.isLt; omega
  rw [scores_apply, ← hs ⟨o + k.val, hk⟩]
  exact Finset.sum_congr rfl fun l _ => by rw [ld_keys x1 o inb k l hk]

/-- All scores of a chunk are reals when the queries and the keys are. -/
theorem scores_real (q : Vec Ideal S1x1x128x256 .bf16) (x : Vec Ideal S1x1024x128 .bf16) (hq : ∀ i, ∃ r : ℝ, q i = (r : EReal))
    (hk : ∀ i, ∃ r : ℝ, x i = (r : EReal)) (i : S1024x256.Idx) : ∃ r : ℝ, scores x q i = (r : EReal) := by
  obtain ⟨a, j, rfl⟩ : ∃ a j, i = ix2 a j := ⟨i 0, i 1, eq_ix2 i⟩
  rw [scores_apply]
  exact sum_mul_real _ (fun l : Fin 128 => x (ix3 0 a l)) (fun l => q (ix4 0 0 l j)) (fun _ => hk _) fun _ => hq _

/-- A head at a grid point is the weighted mean over all 4096 keys. -/
theorem headAt_apply (q : Vec Ideal S1x1x128x256 .bf16) (x1 : Vec Ideal S1x4096x128 .bf16) (x2 : Vec Ideal S1x64x4096 .bf16)
    (d : Fin 64) (j : Fin 256) (s : ℕ → ℝ) (v : ℕ → EReal) (hq : ∀ i, ∃ r : ℝ, q i = (r : EReal))
    (hk : ∀ i, ∃ r : ℝ, x1 i = (r : EReal))
    (hs : ∀ k : Fin 4096, ∑ l : Fin 128, x1 (ix3 0 k l) * q (ix4 0 0 l j) = (s k : EReal))
    (hv : ∀ k : Fin 4096, x2 (ix3 0 d k) = v k) : headAt q x1 x2 (ix2 d j) = mean s v 4096 := by
  refine head_apply _ _ _ _ _ _ _ _ d j s v (scores_real q (View.ld x1 r0_0) hq fun i => hk (r0_0.emb i))
    (scores_real q (View.ld x1 r0_3) hq fun i => hk (r0_3.emb i)) (scores_real q (View.ld x1 r0_4) hq fun i => hk (r0_4.emb i))
    (scores_real q (View.ld x1 r0_6) hq fun i => hk (r0_6.emb i)) (fun k => ?_) (scores_chunk q x1 j s hs 1024 (by norm_num) _)
    (scores_chunk q x1 j s hs 2048 (by norm_num) _) (scores_chunk q x1 j s hs 3072 (by norm_num) _) (fun k => ?_) (fun k => ?_)
    (fun k => ?_) (fun k => ?_)
  · rw [← Nat.zero_add k.val]; exact scores_chunk q x1 j s hs 0 (by norm_num) _ k
  · have h : 0 + k.val < 4096 := by have := k.isLt; omega
    rw [← Nat.zero_add k.val]; exact (ld_values x2 0 _ d k h).trans (hv ⟨0 + k.val, h⟩)
  · have h : 1024 + k.val < 4096 := by have := k.isLt; omega
    exact (ld_values x2 1024 _ d k h).trans (hv ⟨1024 + k.val, h⟩)
  · have h : 2048 + k.val < 4096 := by have := k.isLt; omega
    exact (ld_values x2 2048 _ d k h).trans (hv ⟨2048 + k.val, h⟩)
  · have h : 3072 + k.val < 4096 := by have := k.isLt; omega
    exact (ld_values x2 3072 _ d k h).trans (hv ⟨3072 + k.val, h⟩)

/-- The block a grid point flushes: lane `64 r + d` holds head `r`, lane `d`. -/
theorem out_apply (x0 : Vec Ideal S1x2x128x256 .bf16) (x1 : Vec Ideal S1x4096x128 .bf16) (x2 : Vec Ideal S1x64x4096 .bf16)
    (hq : ∀ i, ∃ r : ℝ, x0 i = (r : EReal)) (hk : ∀ i, ∃ r : ℝ, x1 i = (r : EReal)) (r : Fin 2) (d : Fin 64) (j : Fin 256)
    (n : Fin 128) (hn : n.val = 64 * r.val + d.val) (s : ℕ → ℝ) (v : ℕ → EReal)
    (hs : ∀ k : Fin 4096, ∑ l : Fin 128, x1 (ix3 0 k l) * x0 (ix4 0 r l j) = (s k : EReal))
    (hv : ∀ k : Fin 4096, x2 (ix3 0 d k) = v k) : out0_3 x0 x1 x2 (ix3 0 j n) = mean s v 4096 := by
  rw [out_eq]
  match r with
  | ⟨0, _⟩ =>
    rw [block_apply_fst _ _ j n d (by simpa using hn)]
    refine headAt_apply _ x1 x2 d j s v (fun i => hq _) hk (fun k => (Finset.sum_congr rfl fun l _ => ?_).trans (hs k)) hv
    exact congrArg _ (ld_queries x0 ⟨0, by norm_num⟩ _ l j)
  | ⟨1, _⟩ =>
    rw [block_apply_snd _ _ j n d (by simpa using hn)]
    refine headAt_apply _ x1 x2 d j s v (fun i => hq _) hk (fun k => (Finset.sum_congr rfl fun l _ => ?_).trans (hs k)) hv
    exact congrArg _ (ld_queries x0 ⟨1, by norm_num⟩ _ l j)

/-- What a point flushes is its block of the attention. -/
theorem flushed_attn (c : Dev nD)
    (hq : ∀ i, ∃ r : ℝ, (m ((c : Thread nD τ).loc main_arg0) : FVec Ideal S8x4x128x4096 .bf16) i = (r : EReal))
    (hk : ∀ i, ∃ r : ℝ, (m ((c : Thread nD τ).loc main_arg1) : FVec Ideal S32768x128 .bf16) i = (r : EReal))
    (t : Fin cfg0.N) (hf : (cfg0.win 3).flush t = true) :
    (dats m 0 c).flushed 3 t = ((cfg0.win 3).blk t).view.read (Elt Ideal)
      (attn (m ((c : Thread nD τ).loc main_arg0)) (m ((c : Thread nD τ).loc main_arg1)) (m ((c : Thread nD τ).loc main_arg2))) := by
  obtain ⟨i0, i1, i2⟩ := idx3 t
  have ht := lt_N t
  rw [Cert.KernelIdeal.Value.flushed3]
  refine funext fun (i : S1x256x128.Idx) => ?_
  rw [View.read_apply]
  obtain ⟨z, j, n, rfl⟩ : ∃ z j n, i = ix3 z j n := ⟨i 0, i 1, i 2, eq_ix3 i⟩
  obtain rfl : z = 0 := Fin.ext (by omega)
  have hj := j.isLt
  have hn := n.isLt
  have e : ((cfg0.win 3).blk t).view.emb (ix3 0 j n)
      = (ix3 (⟨t.val / 32, by omega⟩ : Fin 8) (⟨256 * (t.val % 16) + j.val, by omega⟩ : Fin 4096)
          (⟨128 * (t.val / 16 % 2) + n.val, by omega⟩ : Fin 256) : S8x4096x256.Idx) := by
    funext a
    apply Fin.ext
    match a with
    | ⟨0, _⟩ => show win0_3.index t 0 * 1 + 1 * 0 = t.val / 32; omega
    | ⟨1, _⟩ => show win0_3.index t 1 * 256 + 1 * j.val = 256 * (t.val % 16) + j.val; omega
    | ⟨2, _⟩ => show win0_3.index t 2 * 128 + 1 * n.val = 128 * (t.val / 16 % 2) + n.val; omega
  refine Eq.trans ?_ (congrArg (attn _ _ _) e.symm)
  have hr : n.val / 64 < 2 := by omega
  have hd : n.val % 64 < 64 := by omega
  have eh : (⟨2 * (t.val / 16 % 2) + n.val / 64, by omega⟩ : Fin 4) = ⟨(128 * (t.val / 16 % 2) + n.val) / 64, by omega⟩ :=
    Fin.ext (by show 2 * (t.val / 16 % 2) + n.val / 64 = (128 * (t.val / 16 % 2) + n.val) / 64; omega)
  have ev : (⟨64 * (t.val / 16 % 2) + n.val % 64, by omega⟩ : Fin 128)
      = ⟨64 * ((128 * (t.val / 16 % 2) + n.val) / 128) + (128 * (t.val / 16 % 2) + n.val) % 64, by omega⟩ :=
    Fin.ext (by
      show 64 * (t.val / 16 % 2) + n.val % 64 = 64 * ((128 * (t.val / 16 % 2) + n.val) / 128) + (128 * (t.val / 16 % 2) + n.val) % 64
      omega)
  show out0_3 (iblk m c 0 t) (iblk m c 1 t) (iblk m c 2 t) (ix3 0 j n) = mean (score _ _ _ ⟨(128 * (t.val / 16 % 2) + n.val) / 64, _⟩ _)
    (value _ _ ⟨64 * ((128 * (t.val / 16 % 2) + n.val) / 128) + (128 * (t.val / 16 % 2) + n.val) % 64, _⟩) 4096
  rw [← eh, ← ev]
  refine out_apply _ _ _ (fun i => ?_) (fun i => ?_) ⟨n.val / 64, hr⟩ ⟨n.val % 64, hd⟩ j n
    (by show n.val = 64 * (n.val / 64) + n.val % 64; omega) _ _ (fun k => ?_) (fun k => ?_)
  · obtain ⟨z, r, l, q, rfl⟩ : ∃ z r l q, i = ix4 z r l q := ⟨i 0, i 1, i 2, i 3, eq_ix4 i⟩
    obtain rfl : z = 0 := Fin.ext (by omega)
    rw [block0]; exact hq _
  · obtain ⟨z, k, l, rfl⟩ : ∃ z k l, i = ix3 z k l := ⟨i 0, i 1, i 2, eq_ix3 i⟩
    obtain rfl : z = 0 := Fin.ext (by omega)
    rw [block1]; exact hk _
  · rw [score, dif_pos k.isLt, toReal_of_real (sum_mul_real _ _ _ (fun _ => hk _) fun _ => hq _)]
    exact Finset.sum_congr rfl fun l _ => by rw [block0, block1]
  · rw [value, dif_pos k.isLt, block2]

/-- The result array ends holding the attention. -/
theorem final_attn (c : Dev nD)
    (hq : ∀ i, ∃ r : ℝ, (m ((c : Thread nD τ).loc main_arg0) : FVec Ideal S8x4x128x4096 .bf16) i = (r : EReal))
    (hk : ∀ i, ∃ r : ℝ, (m ((c : Thread nD τ).loc main_arg1) : FVec Ideal S32768x128 .bf16) i = (r : EReal)) :
    (dats m 0 c).arrAt 3 cfg0.N
      = attn (m ((c : Thread nD τ).loc main_arg0)) (m ((c : Thread nD τ).loc main_arg1)) (m ((c : Thread nD τ).loc main_arg2)) :=
  (dats m 0 c).arrAt_eq_of_cover 3 _ (flushed_attn m c hq hk) fun (i : S8x4096x256.Idx) => by
    have h0 : (i 0).val < 8 := (i 0).isLt
    have h1 : (i 1).val < 4096 := (i 1).isLt
    have h2 : (i 2).val < 256 := (i 2).isLt
    have hb : 32 * (i 0).val + 16 * ((i 2).val / 128) + (i 1).val / 256 < 256 := by omega
    let t : Fin cfg0.N := ⟨32 * (i 0).val + 16 * ((i 2).val / 128) + (i 1).val / 256, hb⟩
    have ht : t.val = 32 * (i 0).val + 16 * ((i 2).val / 128) + (i 1).val / 256 := rfl
    obtain ⟨i0, i1, i2⟩ := idx3 t
    refine ⟨t, flush0_3 t, ?_⟩
    show i ∈ ((View.whole main_v1).slice (win0_3.rect t)).set
    rw [View.set_slice_whole, Rect.mem_set_unit]
    intro a
    match a with
    | ⟨0, _⟩ => show win0_3.index t 0 * 1 ≤ (i 0).val ∧ (i 0).val < win0_3.index t 0 * 1 + 1; omega
    | ⟨1, _⟩ => show win0_3.index t 1 * 256 ≤ (i 1).val ∧ (i 1).val < win0_3.index t 1 * 256 + 256; omega
    | ⟨2, _⟩ => show win0_3.index t 2 * 128 ≤ (i 2).val ∧ (i 2).val < win0_3.index t 2 * 128 + 128; omega

end Cert.Proof.Gqa

end
-- ==== Proof.GqaReference.lean ====
/-
  The reference's attention read at an index: its logits, its softmax weights and its result, which is the same weighted
  mean as the kernel's.
-/
module

public import proofs.«01_k».proof.Proof.GqaArray
public import proofs.«01_k».proof.Proof.Gen.ReferenceIdeal.Run
public import Idealize.ShloMosaic.Lib.IdealHost

@[expose] public section

noncomputable section

namespace Cert.Proof.Gqa.Ref

open Idealize.ShloMosaic Cert.ReferenceIdeal Cert.ReferenceIdeal.Gen Idealize.ShloMosaic.ValueIdx

/-- The reference's logits: the scores times the logarithm of two. -/
def logits (Q : FVec Ideal S8x4x128x4096 .bf16) (K : FVec Ideal S32768x128 .bf16) : FVec Ideal S8x2x2x4096x4096 .f32 :=
  mulf (Host.dotGeneral dot_S8x2x2x128x4096_S8x4096x128_S8x2x2x4096x4096_3_2_124_1_0_0 none
      (shapeCast S8x2x2x128x4096 (extf .f32 Q bitsLt_bf16_f32) shapeCasts_S8x4x128x4096_S8x2x2x128x4096)
      (shapeCast S8x4096x128 (extf .f32 K bitsLt_bf16_f32) shapeCasts_S32768x128_S8x4096x128))
    (broadcastInDim S8x2x2x4096x4096 ![] bcast_S_S8x2x2x4096x4096 (Host.log (constant S_ .f32 0x40000000#32)))

/-- A row quantity spread over its 4096 keys. -/
def spread (x : FVec Ideal S8x2x2x4096 .f32) : FVec Ideal S8x2x2x4096x4096 .f32 :=
  broadcastInDim S8x2x2x4096x4096 ![0, 1, 2, 3, 4] bcast_S8x2x2x4096x1_S8x2x2x4096x4096_0_1_2_3_4
    (broadcastInDim S8x2x2x4096x1 ![0, 1, 2, 3] bcast_S8x2x2x4096_S8x2x2x4096x1_0_1_2_3 x)

/-- The greatest logit of each row. -/
def peak (L : FVec Ideal S8x2x2x4096x4096 .f32) : FVec Ideal S8x2x2x4096 .f32 :=
  maximumf (broadcastInDim S8x2x2x4096 ![] bcast_S_S8x2x2x4096 (constant S_ .f32 0xFF800000#32))
    (Host.reduce FloatOps.maximumf L (constant S_ .f32 0xFF800000#32) reducesTo_S8x2x2x4096x4096_S8x2x2x4096_d4 h_S_)

/-- The exponentials of the logits less the row's greatest. -/
def expo (L : FVec Ideal S8x2x2x4096x4096 .f32) : FVec Ideal S8x2x2x4096x4096 .f32 := Host.exp (subf L (spread (peak L)))

/-- The softmax. -/
def softmax (L : FVec Ideal S8x2x2x4096x4096 .f32) : FVec Ideal S8x2x2x4096x4096 .f32 :=
  Host.divf (expo L) (spread (Host.reduceAdd (expo L) (constant S_ .f32 0x00000000#32) reducesTo_S8x2x2x4096x4096_S8x2x2x4096_d4 h_S_))

/-- The values weighted by the softmax, heads side by side. -/
def result (P : FVec Ideal S8x2x2x4096x4096 .f32) (W : FVec Ideal S8x128x4096 .bf16) : FVec Ideal S8x4096x256 .f32 :=
  shapeCast S8x4096x256 (transpose S8x4096x2x2x64 [0, 3, 1, 2, 4]
    (Host.dotGeneral dot_S8x2x2x4096x4096_S8x2x64x4096_S8x2x2x4096x64_4_3_23_2_01_01 none P
      (shapeCast S8x2x64x4096 (extf .f32 W bitsLt_bf16_f32) shapeCasts_S8x128x4096_S8x2x64x4096))
    transposes_S8x2x2x4096x64_S8x4096x2x2x64_0_3_1_2_4) shapeCasts_S8x4096x2x2x64_S8x4096x256

/-- The reduction of the last axis, as the reference's two reductions use it. -/
theorem reduces : S8x2x2x4096x4096.Reduces [4] S8x2x2x4096 := by decide

theorem lift_eq (b : Fin 8) (g r : Fin 2) (p k : Fin 4096) : reduces.lift (ix4 b g r p) k = ix5 b g r p k := by
  funext c; apply Fin.ext
  fin_cases c <;> rfl

theorem spread_apply (x : FVec Ideal S8x2x2x4096 .f32) (b : Fin 8) (g r : Fin 2) (p k : Fin 4096) :
    spread x (ix5 b g r p k) = x (ix4 b g r p) := by
  unfold spread
  rw [broadcastInDim_apply _ _ _ _ (ix5 b g r p 0) (fun a => by fin_cases a <;> rfl),
    broadcastInDim_apply _ _ _ _ (ix4 b g r p) (fun a => by fin_cases a <;> rfl)]

theorem log_two : Ideal.log (Ideal.ofBits .f32 0x40000000#32) = ((Real.log 2 : ℝ) : EReal) := by
  rw [show Ideal.ofBits .f32 0x40000000#32 = ((2 : ℝ) : EReal) from by
    simp [Ideal.ofBits, Ideal.ieee, -EReal.coe_mul]; norm_num, Ideal.log_coe, if_neg (by norm_num)]

/-- A logit is the sum over the lanes of query times key, times the logarithm of two. -/
theorem logits_sum (Q : FVec Ideal S8x4x128x4096 .bf16) (K : FVec Ideal S32768x128 .bf16) (b : Fin 8) (g r : Fin 2) (p k : Fin 4096) :
    logits Q K (ix5 b g r p k) = (∑ l : Fin 128, Q (ix4 b ⟨2 * g.val + r.val, by omega⟩ l p)
      * K (ix2 ⟨4096 * b.val + k.val, by omega⟩ l)) * ((Real.log 2 : ℝ) : EReal) := by
  unfold logits
  rw [mulf_apply]
  refine congrArg₂ (· * ·) ?_ ((broadcastInDim_scalar_apply _ _ _).trans log_two)
  show FloatOps.dotGeneral _ none _ _ _ (ix5 b g r p k) = _
  rw [Ideal.dotGeneral_apply,
    ← Equiv.sum_comp (contrEquiv1 dot_S8x2x2x128x4096_S8x4096x128_S8x2x2x4096x4096_3_2_124_1_0_0 128 rfl rfl).symm]
  refine Finset.sum_congr rfl fun l _ => ?_
  have hl := contrEquiv1_symm_val dot_S8x2x2x128x4096_S8x4096x128_S8x2x2x4096x4096_3_2_124_1_0_0 128 rfl rfl l
  have el : dot_S8x2x2x128x4096_S8x4096x128_S8x2x2x4096x4096_3_2_124_1_0_0.lhsIdx (ix5 b g r p k)
      ((contrEquiv1 _ 128 rfl rfl).symm l) = ix5 b g r l p := by
    funext a; apply Fin.ext
    match a with
    | ⟨0, _⟩ => simp [DotDims.lhsIdx, dot_S8x2x2x128x4096_S8x4096x128_S8x2x2x4096x4096_3_2_124_1_0_0]; rfl
    | ⟨1, _⟩ => simp [DotDims.lhsIdx, dot_S8x2x2x128x4096_S8x4096x128_S8x2x2x4096x4096_3_2_124_1_0_0]; rfl
    | ⟨2, _⟩ => simp [DotDims.lhsIdx, dot_S8x2x2x128x4096_S8x4096x128_S8x2x2x4096x4096_3_2_124_1_0_0]; rfl
    | ⟨3, _⟩ => simp [DotDims.lhsIdx, dot_S8x2x2x128x4096_S8x4096x128_S8x2x2x4096x4096_3_2_124_1_0_0]; exact hl
    | ⟨4, _⟩ => simp [DotDims.lhsIdx, dot_S8x2x2x128x4096_S8x4096x128_S8x2x2x4096x4096_3_2_124_1_0_0]; rfl
  have er : dot_S8x2x2x128x4096_S8x4096x128_S8x2x2x4096x4096_3_2_124_1_0_0.rhsIdx (ix5 b g r p k)
      ((contrEquiv1 _ 128 rfl rfl).symm l) = ix3 b k l := by
    funext a; apply Fin.ext
    match a with
    | ⟨0, _⟩ => simp [DotDims.rhsIdx, dot_S8x2x2x128x4096_S8x4096x128_S8x2x2x4096x4096_3_2_124_1_0_0]; rfl
    | ⟨1, _⟩ => simp [DotDims.rhsIdx, dot_S8x2x2x128x4096_S8x4096x128_S8x2x2x4096x4096_3_2_124_1_0_0]; rfl
    | ⟨2, _⟩ => simp [DotDims.rhsIdx, dot_S8x2x2x128x4096_S8x4096x128_S8x2x2x4096x4096_3_2_124_1_0_0]; exact hl
  rw [el, er]
  refine congrArg₂ (· * ·) (shapeCast_apply _ _ _ (ix4 b ⟨2 * g.val + r.val, by omega⟩ l p) ?_)
    (shapeCast_apply _ _ _ (ix2 ⟨4096 * b.val + k.val, by omega⟩ l) ?_)
  · rw [Shape.rowMajor_val_four, Shape.rowMajor_val_five]
    show ((b.val * 4 + (2 * g.val + r.val)) * 128 + l.val) * 4096 + p.val = (((b.val * 2 + g.val) * 2 + r.val) * 128 + l.val) * 4096 + p.val
    ring
  · rw [Shape.rowMajor_val_two, Shape.rowMajor_val_three]
    show (4096 * b.val + k.val) * 128 + l.val = (b.val * 4096 + k.val) * 128 + l.val
    ring

/-- At finite queries and keys a logit is the kernel's score times the logarithm of two. -/
theorem logits_apply (Q : FVec Ideal S8x4x128x4096 .bf16) (K : FVec Ideal S32768x128 .bf16) (hq : ∀ i, ∃ r : ℝ, Q i = (r : EReal))
    (hk : ∀ i, ∃ r : ℝ, K i = (r : EReal)) (b : Fin 8) (g r : Fin 2) (p k : Fin 4096) :
    logits Q K (ix5 b g r p k) = (score Q K b ⟨2 * g.val + r.val, by omega⟩ p k : EReal) * ((Real.log 2 : ℝ) : EReal) := by
  rw [logits_sum, score, dif_pos k.isLt, toReal_of_real (sum_mul_real _ _ _ (fun _ => hk _) fun _ => hq _)]
  exact congrArg (· * _) (Finset.sum_congr rfl fun l _ => mul_comm _ _)

/-- The host's maximum over one axis, from −∞, of reals is real. -/
theorem hostMax_real {s t u : Shape} {a : Fin s.rank} (x : FVec Ideal s .f32) (init : FVec Ideal u .f32) (h' : s.ReducesTo [a] t)
    (h : s.Reduces [a] t) (hu : 0 < u.numel) (j : t.Idx) (hn : 0 < s.size a) (hi : init (Shape.Idx.first hu) = (⊥ : EReal))
    (hx : ∀ k, ∃ r : ℝ, x (h.lift j k) = (r : EReal)) : ∃ r : ℝ, Host.reduce FloatOps.maximumf x init h' hu j = (r : EReal) := by
  obtain ⟨r, hr⟩ := fold_max_real Finset.univ ⟨⟨0, hn⟩, Finset.mem_univ _⟩ (fun k => x (h.lift j k)) hx
  refine ⟨r, ?_⟩
  rw [Host.reduce_eq_fold_single FloatOps.maximumf x _ h' h hu, hi]
  exact hr

/-- The greatest of a row of real logits is real. -/
theorem peak_real (L : FVec Ideal S8x2x2x4096x4096 .f32) (b : Fin 8) (g r : Fin 2) (p : Fin 4096)
    (h : ∀ k, ∃ x : ℝ, L (ix5 b g r p k) = (x : EReal)) : ∃ x : ℝ, peak L (ix4 b g r p) = (x : EReal) := by
  obtain ⟨x, e⟩ := hostMax_real L (constant S_ .f32 0xFF800000#32) reducesTo_S8x2x2x4096x4096_S8x2x2x4096_d4 reduces h_S_
    (ix4 b g r p) (by show 0 < 4096; norm_num) ofBits_negInf fun k => by rw [show reduces.lift (ix4 b g r p) k = ix5 b g r p k from lift_eq b g r p k]; exact h k
  refine ⟨x, ?_⟩
  unfold peak
  rw [show ∀ y z : FVec Ideal S8x2x2x4096 .f32, maximumf y z (ix4 b g r p) = max (y (ix4 b g r p)) (z (ix4 b g r p)) from fun _ _ => rfl, e,
    broadcastInDim_scalar_apply]
  exact (congrArg (max · (x : EReal)) ofBits_negInf).trans (max_eq_right bot_le)

/-- A softmax weight, where the row's logits are scores times the logarithm of two. -/
theorem softmax_apply (L : FVec Ideal S8x2x2x4096x4096 .f32) (b : Fin 8) (g r : Fin 2) (p k : Fin 4096) (s : ℕ → ℝ)
    (h : ∀ k : Fin 4096, L (ix5 b g r p k) = (s k : EReal) * ((Real.log 2 : ℝ) : EReal)) :
    softmax L (ix5 b g r p k) = ((two (s k) / ∑ j ∈ Finset.range 4096, two (s j) : ℝ) : EReal) := by
  obtain ⟨M, hM⟩ := peak_real L b g r p fun k => ⟨s k * Real.log 2, by rw [h, EReal.coe_mul]⟩
  have he (k : Fin 4096) : expo L (ix5 b g r p k) = Ideal.exp ((s k : EReal) * ((Real.log 2 : ℝ) : EReal) - (M : EReal)) := by
    show Ideal.exp (L _ - spread (peak L) _) = _
    rw [spread_apply, hM, h]
  rw [← softmax_weight s 4096 (by norm_num) M k]
  unfold softmax
  rw [hostDivf_apply, spread_apply, he, hostReduceAdd_apply, Ideal.hostReduceAdd_single _ reduces]
  refine congrArg (Ideal.div _) ?_
  refine (congrArg (· + _) Ideal.ofBits_zero_f32).trans ((zero_add _).trans ?_)
  rw [Finset.sum_range]
  exact Finset.sum_congr rfl fun k _ => (congrArg (expo L) (lift_eq b g r p k)).trans (he k)

/-- The reference's result read at batch, position, key head, query head and lane. -/
theorem result_apply (P : FVec Ideal S8x2x2x4096x4096 .f32) (W : FVec Ideal S8x128x4096 .bf16) (b : Fin 8) (p : Fin 4096) (n : Fin 256)
    (g r : Fin 2) (d : Fin 64) (hn : n.val = 128 * g.val + 64 * r.val + d.val) :
    result P W (ix3 b p n) = ∑ k : Fin 4096, P (ix5 b g r p k) * W (ix3 b ⟨64 * g.val + d.val, by omega⟩ k) := by
  unfold result
  rw [shapeCast_apply _ _ _ (ix5 b p g r d) (by
    rw [Shape.rowMajor_val_three, Shape.rowMajor_val_five]
    show ((((b.val * 4096 + p.val) * 2 + g.val) * 2 + r.val) * 64 + d.val) = (b.val * 4096 + p.val) * 256 + n.val
    rw [hn]; ring)]
  rw [transpose_apply _ _ _ _ (ix5 b g r p d) (fun a => by fin_cases a <;> rfl)]
  show FloatOps.dotGeneral _ none _ _ _ (ix5 b g r p d) = _
  rw [Ideal.dotGeneral_apply,
    ← Equiv.sum_comp (contrEquiv1 dot_S8x2x2x4096x4096_S8x2x64x4096_S8x2x2x4096x64_4_3_23_2_01_01 4096 rfl rfl).symm]
  refine Finset.sum_congr rfl fun l _ => ?_
  have hl := contrEquiv1_symm_val dot_S8x2x2x4096x4096_S8x2x64x4096_S8x2x2x4096x64_4_3_23_2_01_01 4096 rfl rfl l
  have el : dot_S8x2x2x4096x4096_S8x2x64x4096_S8x2x2x4096x64_4_3_23_2_01_01.lhsIdx (ix5 b g r p d)
      ((contrEquiv1 _ 4096 rfl rfl).symm l) = ix5 b g r p l := by
    funext a; apply Fin.ext
    match a with
    | ⟨0, _⟩ => simp [DotDims.lhsIdx, dot_S8x2x2x4096x4096_S8x2x64x4096_S8x2x2x4096x64_4_3_23_2_01_01]; rfl
    | ⟨1, _⟩ => simp [DotDims.lhsIdx, dot_S8x2x2x4096x4096_S8x2x64x4096_S8x2x2x4096x64_4_3_23_2_01_01]; rfl
    | ⟨2, _⟩ => simp [DotDims.lhsIdx, dot_S8x2x2x4096x4096_S8x2x64x4096_S8x2x2x4096x64_4_3_23_2_01_01]; rfl
    | ⟨3, _⟩ => simp [DotDims.lhsIdx, dot_S8x2x2x4096x4096_S8x2x64x4096_S8x2x2x4096x64_4_3_23_2_01_01]; rfl
    | ⟨4, _⟩ => simp [DotDims.lhsIdx, dot_S8x2x2x4096x4096_S8x2x64x4096_S8x2x2x4096x64_4_3_23_2_01_01]; exact hl
  have er : dot_S8x2x2x4096x4096_S8x2x64x4096_S8x2x2x4096x64_4_3_23_2_01_01.rhsIdx (ix5 b g r p d)
      ((contrEquiv1 _ 4096 rfl rfl).symm l) = ix4 b g d l := by
    funext a; apply Fin.ext
    match a with
    | ⟨0, _⟩ => simp [DotDims.rhsIdx, dot_S8x2x2x4096x4096_S8x2x64x4096_S8x2x2x4096x64_4_3_23_2_01_01]; rfl
    | ⟨1, _⟩ => simp [DotDims.rhsIdx, dot_S8x2x2x4096x4096_S8x2x64x4096_S8x2x2x4096x64_4_3_23_2_01_01]; rfl
    | ⟨2, _⟩ => simp [DotDims.rhsIdx, dot_S8x2x2x4096x4096_S8x2x64x4096_S8x2x2x4096x64_4_3_23_2_01_01]; rfl
    | ⟨3, _⟩ => simp [DotDims.rhsIdx, dot_S8x2x2x4096x4096_S8x2x64x4096_S8x2x2x4096x64_4_3_23_2_01_01]; exact hl
  rw [el, er]
  refine congrArg (_ * ·) (shapeCast_apply _ _ _ (ix3 b ⟨64 * g.val + d.val, by omega⟩ l) ?_)
  rw [Shape.rowMajor_val_three, Shape.rowMajor_val_four]
  show (b.val * 128 + (64 * g.val + d.val)) * 4096 + l.val = ((b.val * 2 + g.val) * 64 + d.val) * 4096 + l.val
  ring

/-- At finite queries and keys the reference computes the kernel's weighted mean. -/
theorem reference_attn (Q : FVec Ideal S8x4x128x4096 .bf16) (K : FVec Ideal S32768x128 .bf16) (W : FVec Ideal S8x128x4096 .bf16)
    (hq : ∀ i, ∃ r : ℝ, Q i = (r : EReal)) (hk : ∀ i, ∃ r : ℝ, K i = (r : EReal)) :
    result (softmax (logits Q K)) W = attn Q K W := by
  refine funext fun (i : S8x4096x256.Idx) => ?_
  obtain ⟨b, p, n, rfl⟩ : ∃ b p n, i = ix3 b p n := ⟨i 0, i 1, i 2, eq_ix3 i⟩
  have hn := n.isLt
  have hg : n.val / 128 < 2 := by omega
  have hr : n.val / 64 % 2 < 2 := by omega
  have hd : n.val % 64 < 64 := by omega
  rw [result_apply _ W b p n ⟨n.val / 128, hg⟩ ⟨n.val / 64 % 2, hr⟩ ⟨n.val % 64, hd⟩
    (by show n.val = 128 * (n.val / 128) + 64 * (n.val / 64 % 2) + n.val % 64; omega)]
  have eh : (⟨2 * (n.val / 128) + n.val / 64 % 2, by omega⟩ : Fin 4) = ⟨n.val / 64, by omega⟩ :=
    Fin.ext (by show 2 * (n.val / 128) + n.val / 64 % 2 = n.val / 64; omega)
  show _ = mean (score Q K b ⟨n.val / 64, _⟩ p) (value W b ⟨64 * (n.val / 128) + n.val % 64, _⟩) 4096
  rw [← eh, mean, Finset.sum_range]
  refine Finset.sum_congr rfl fun k _ => ?_
  rw [softmax_apply _ b _ _ p k _ fun k => logits_apply Q K hq hk b ⟨n.val / 128, hg⟩ ⟨n.val / 64 % 2, hr⟩ p k, mul_comm, value,
    dif_pos k.isLt]

end Cert.Proof.Gqa.Ref

end
-- ==== Proof.GqaPre.lean ====
/-
  The attention's precondition: where it is all ones, every query and every key is a real.
-/
module

public import proofs.«01_k».proof.Proof.OnlineSoftmax
public import proofs.«01_k».proof.Proof.Gen.Pre_finite_scores
public import Idealize.ShloMosaic.Lib.ReduceAll
public import Idealize.ShloMosaic.Lib.ValueIdx
public import Idealize.ShloMosaic.Lib.IdealHost

@[expose] public section

noncomputable section

namespace Cert.Proof.Gqa

open Idealize.ShloMosaic Cert.Pre_finite_scores Cert.Pre_finite_scores.Gen Idealize.ShloMosaic.ValueIdx

/-- An extended real whose magnitude is below the infinite word is a real. -/
theorem real_of_abs_lt {x : EReal} (h : Ideal.cmp .olt (max x (-x)) (Ideal.ofBits .f32 0x7F800000#32) = 1#1) : ∃ r : ℝ, x = (r : EReal) := by
  have hx : max x (-x) < (⊤ : EReal) := by
    rw [show Ideal.ofBits .f32 0x7F800000#32 = ⊤ from by simp [Ideal.ofBits, Ideal.ieee]] at h
    exact of_decide_eq_true ((by decide : ∀ b, BitVec.ofBool b = 1#1 → b = true) _ h)
  induction x with
  | bot => simp at hx
  | top => simp at hx
  | coe r => exact ⟨r, rfl⟩

instance : Subsingleton S_.Idx := ⟨fun _ _ => funext fun a => a.elim0⟩

/-- The precondition, decoded. -/
theorem pre_real (Q : FVec Ideal S8x4x128x4096 .bf16) (K : FVec Ideal S32768x128 .bf16) (W : FVec Ideal S8x128x4096 .bf16)
    (h : Cert.Pre_finite_scores.fn Q K W = fun _ => 1#1) :
    (∀ i, ∃ r : ℝ, Q i = (r : EReal)) ∧ ∀ i, ∃ r : ℝ, K i = (r : EReal) := by
  have h1 := congrFun h ix0
  have h2 := IntOp.andi_eq_one.mp h1
  exact ⟨fun i => real_of_abs_lt (Host.reduce_andi_all _ _ _ _ _ h2.1 i), fun i => real_of_abs_lt (Host.reduce_andi_all _ _ _ _ _ h2.2 i)⟩

end Cert.Proof.Gqa

end
-- ==== Proof.GqaClaim.lean ====
/-
  The attention's claims: the frames of the kernel and of its reference, and their equality at the extended reals.
-/
module

public import proofs.«01_k».proof.Defs
public import proofs.«01_k».proof.Proof.GqaReference
public import proofs.«01_k».proof.Proof.GqaPre
public import proofs.«01_k».proof.Proof.Gen.Kernel.Frame
public import proofs.«01_k».proof.Proof.Gen.Reference.Run
public import Idealize.ShloMosaic.Adequacy
public import Idealize.ShloMosaic.Init

@[expose] public section

noncomputable section

namespace Cert.Proof.Gqa

open Idealize.ShloMosaic Idealize.SL.Sem Idealize.ShloMosaic.TcCoe

/-- The kernel's frame. -/
theorem frame_kernel : Cert.quiescent_Kernel := fun m g _ => Cert.Kernel.Gen.frame m g

/-- The kernel's frame at the extended reals. -/
theorem frame_kernelIdeal : Cert.quiescent_KernelIdeal := fun m g _ => Cert.KernelIdeal.Gen.frame m g

/-- The same where the precondition holds. -/
theorem frame_kernelIdeal_pre : Cert.quiescent_KernelIdeal_pre_finite_scores := fun m g _ => Cert.KernelIdeal.Gen.frame m g

/-- The reference's frame: it has host operations only, none of which writes an argument. -/
theorem frame_reference : Cert.quiescent_Reference := fun m g _ =>
  (θ_run Cert.Reference.defs _ _).mono (fun r h => ⟨fun c => (h c).2, sem_eq_zero_of_no_sems (by decide) r.2⟩)
    (Cert.Reference.Value.run (F := Bits) m g)

/-- The reference's frame at the extended reals. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The same where the precondition holds. -/
theorem frame_referenceIdeal_pre : Cert.quiescent_ReferenceIdeal_pre_finite_scores := fun m g _ => frame_referenceIdeal m g trivial

/-- Where the queries and keys are finite, the kernel and the reference end with equal results. -/
theorem algebraic : Cert.algebraic_KernelIdeal_ReferenceIdeal_pre_finite_scores := by
  intro m g m' g' hpre hagree
  refine ⟨fun c => attn (m ((c : Thread Cert.KernelIdeal.nD Cert.KernelIdeal.τ).loc Cert.KernelIdeal.main_arg0))
    (m ((c : Thread Cert.KernelIdeal.nD Cert.KernelIdeal.τ).loc Cert.KernelIdeal.main_arg1))
    (m ((c : Thread Cert.KernelIdeal.nD Cert.KernelIdeal.τ).loc Cert.KernelIdeal.main_arg2)), ?_, ?_⟩
  · refine (θ_run Cert.KernelIdeal.defs _ _).mono (fun r h c => ?_) (Cert.KernelIdeal.Value.run_blocks (F := Ideal) m g)
    obtain ⟨hq, hk⟩ := pre_real _ _ _ (hpre c)
    exact ⟨(h c).1.trans (final_attn m c hq hk), (h c).2⟩
  · refine (θ_run Cert.ReferenceIdeal.defs _ _).mono (fun r h c => ?_) (Cert.ReferenceIdeal.Value.run (F := Ideal) m' g')
    obtain ⟨hq, hk⟩ := pre_real _ _ _ (hpre c)
    refine ⟨(h c).1.trans ?_, (h c).2⟩
    rw [(hagree c).1, (hagree c).2.1, (hagree c).2.2]
    exact Ref.reference_attn _ _ _ hq hk

end Cert.Proof.Gqa

end
-- ==== Proof.InProj.lean ====
/-
  The projection of the hidden states at the layer's entry: the kernel, its reference and their claims.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Claim
public import Idealize.ShloMosaic.Lib.MatmulPlain
public import Idealize.ShloMosaic.Lib.StackMember
public import Idealize.ShloMosaic.Adequacy
public import Idealize.ShloMosaic.Init

@[expose] public section

noncomputable section

namespace Cert.Proof.InProj

open Idealize.ShloMosaic Cert.Kernel2Ideal Cert.Kernel2Ideal.Gen Idealize.ShloMosaic.ValueIdx Idealize.ShloMosaic.TcCoe
open Idealize.SL.Sem

/-- The first 3840 columns of the product of the hidden states and the weights. -/
def proj (h : FVec Ideal S32768x1024 .f32) (w : FVec Ideal S1024x7936 .f32) : FVec Ideal S32768x3840 .f32 := fun i =>
  ∑ k : Fin 1024, h (ix2 (i 0) k) * w (ix2 k ⟨(i 1).val, lt_trans (i 1).isLt (by show 3840 < 7936; norm_num)⟩)

variable (m : (ℓ : Loc nD τ sig) → Buf (Elt Ideal) ℓ)

theorem zero_off : (![0, 0] : Fin 2 → ℕ) = fun _ => 0 := by funext a; fin_cases a <;> rfl
theorem lt_N (t : Fin cfg0.N) : t.val < 96 := t.isLt

theorem idx0 : ∀ t : Fin cfg0.N, win0_0.index t 0 = t.val % 32 ∧ win0_0.index t 1 = 0 := by decide +kernel
theorem idx1 : ∀ t : Fin cfg0.N, win0_1.index t 0 = 0 ∧ win0_1.index t 1 = t.val / 32 := by decide +kernel
theorem idx2 : ∀ t : Fin cfg0.N, win0_2.index t 0 = t.val % 32 ∧ win0_2.index t 1 = t.val / 32 := by decide +kernel

/-- The block of the hidden states at a point: 1024 of their rows. -/
theorem block0 (c : Dev nD) (t : Fin cfg0.N) (r k : Fin 1024) :
    (iblk m c 0 t : FVec Ideal S1024x1024 .f32) (ix2 r k)
      = (m ((c : Thread nD τ).loc main_arg0) : FVec Ideal S32768x1024 .f32) (ix2 ⟨1024 * (t.val % 32) + r.val, by omega⟩ k) := by
  obtain ⟨h0, h1⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = 1024 * (t.val % 32) + r.val; omega
  | ⟨1, _⟩ => show win0_0.index t 1 * 1024 + 1 * k.val = k.val; omega

/-- The block of the weights at a point: 1280 of their first 3840 columns. -/
theorem block1 (c : Dev nD) (t : Fin cfg0.N) (k : Fin 1024) (j : Fin 1280) :
    (iblk m c 1 t : FVec Ideal S1024x1280 .bf16) (ix2 k j)
      = (m ((c : Thread nD τ).loc main_arg1) : FVec Ideal S1024x7936 .f32)
          (ix2 k ⟨1280 * (t.val / 32) + j.val, by have := lt_N t; omega⟩) := by
  obtain ⟨h0, h1⟩ := idx1 t
  have ht := lt_N t
  unfold iblk
  rw [View.read_apply]
  show V m c main_v1 _ = m ((c : Thread nD τ).loc main_arg1) _
  entry_read
  refine (congrArg _ (show _ = ix2 k (⟨1280 * (t.val / 32) + j.val, by omega⟩ : Fin 3840) from ?_)).trans
    (extractStridedSlice_apply ![0, 0] (m ((c : Thread nD τ).loc main_arg1)) slices_S1024x7936_S1024x3840_0_0
      (ix2 k (⟨1280 * (t.val / 32) + j.val, by omega⟩ : Fin 3840)) _ fun a => ?_)
  · funext a
    apply Fin.ext
    match a with
    | ⟨0, _⟩ => show win0_1.index t 0 * 1024 + 1 * k.val = k.val; omega
    | ⟨1, _⟩ => show win0_1.index t 1 * 1280 + 1 * j.val = 1280 * (t.val / 32) + j.val; omega
  · match a with
    | ⟨0, _⟩ => show k.val = 0 + k.val; omega
    | ⟨1, _⟩ => show 1280 * (t.val / 32) + j.val = 0 + (1280 * (t.val / 32) + j.val); omega

/-- The block a point flushes: the product of its rows and columns. -/
theorem out_apply (x0 : Vec Ideal S1024x1024 .f32) (x1 : Vec Ideal S1024x1280 .bf16) (r : Fin 1024) (j : Fin 1280) :
    out0_2 x0 x1 (ix2 r j) = ∑ k : Fin 1024, x0 (ix2 r k) * x1 (ix2 k j) := by
  unfold out0_2
  rw [View.canon_unit_zero zero_off]
  simp only [View.ld_unit_zero (S := S1024x1024) zero_off, View.ld_unit_zero (S := S1024x1280) zero_off]
  unfold k0_pay1
  simp only [shapeCast_self]
  refine (Ideal.matmul_plain_apply (M := 1024) (K := 1024) (N := 1280) none _ _ _ r j).trans ?_
  rw [show (constant (F := Ideal) S1024x1280 .f32 0x00000000#32 (ix2 r j)) = 0 from Ideal.ofBits_zero_f32, zero_add]
  rfl

/-- What a point flushes is its block of the projection. -/
theorem flushed_eq (c : Dev nD) (t : Fin cfg0.N) (hf : (cfg0.win 2).flush t = true) :
    (dats m 0 c).flushed 2 t = ((cfg0.win 2).blk t).view.read (Elt Ideal)
      (proj (m ((c : Thread nD τ).loc main_arg0)) (m ((c : Thread nD τ).loc main_arg1))) := by
  obtain ⟨i0, i1⟩ := idx2 t
  have ht := lt_N t
  rw [Cert.Kernel2Ideal.Value.flushed2]
  refine funext fun (i : S1024x1280.Idx) => ?_
  rw [View.read_apply]
  obtain ⟨r, j, rfl⟩ : ∃ r j, i = ix2 r j := ⟨i 0, i 1, eq_ix2 i⟩
  have hr := r.isLt
  have hj := j.isLt
  have e : ((cfg0.win 2).blk t).view.emb (ix2 r j)
      = (ix2 (⟨1024 * (t.val % 32) + r.val, by omega⟩ : Fin 32768) (⟨1280 * (t.val / 32) + j.val, by omega⟩ : Fin 3840) : S32768x3840.Idx) := by
    funext a
    apply Fin.ext
    match a with
    | ⟨0, _⟩ => show win0_2.index t 0 * 1024 + 1 * r.val = 1024 * (t.val % 32) + r.val; omega
    | ⟨1, _⟩ => show win0_2.index t 1 * 1280 + 1 * j.val = 1280 * (t.val / 32) + j.val; omega
  refine Eq.trans ?_ (congrArg (proj _ _) e.symm)
  refine (out_apply (iblk m c 0 t) (iblk m c 1 t) r j).trans ?_
  exact Finset.sum_congr rfl fun k _ => by rw [block0, block1]

/-- The result array ends holding the projection. -/
theorem final (c : Dev nD) :
    (dats m 0 c).arrAt 2 cfg0.N = proj (m ((c : Thread nD τ).loc main_arg0)) (m ((c : Thread nD τ).loc main_arg1)) :=
  (dats m 0 c).arrAt_eq_of_cover 2 _ (flushed_eq m c) fun (i : S32768x3840.Idx) => by
    have h0 : (i 0).val < 32768 := (i 0).isLt
    have h1 : (i 1).val < 3840 := (i 1).isLt
    have hb : 32 * ((i 1).val / 1280) + (i 0).val / 1024 < 96 := by omega
    let t : Fin cfg0.N := ⟨32 * ((i 1).val / 1280) + (i 0).val / 1024, hb⟩
    have ht : t.val = 32 * ((i 1).val / 1280) + (i 0).val / 1024 := rfl
    obtain ⟨i0, i1⟩ := idx2 t
    refine ⟨t, flush0_2 t, ?_⟩
    show i ∈ ((View.whole main_v2).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 1280 ≤ (i 1).val ∧ (i 1).val < win0_2.index t 1 * 1280 + 1280; omega

/-- The reference's result is the projection. -/
theorem reference_eq (h : FVec Ideal S32768x1024 .f32) (w : FVec Ideal S1024x7936 .f32) :
    extractStridedSlice Cert.Reference2Ideal.S32768x3840 ![0, 0]
      (Host.dotGeneral Cert.Reference2Ideal.dot_S32768x1024_S1024x7936_S32768x7936_1_0_0_1_n_n none h w)
      Cert.Reference2Ideal.Gen.facts.slices_S32768x7936_S32768x3840_0_0 = proj h w := by
  funext i
  obtain ⟨r, j, rfl⟩ : ∃ r j, i = ix2 r j := ⟨i 0, i 1, eq_ix2 i⟩
  have hj := j.isLt
  refine (extractStridedSlice_apply _ _ _ _ (ix2 r (⟨j.val, by omega⟩ : Fin 7936)) fun a => ?_).trans
    (StackMember.dotGeneral_plain_apply none h w r (⟨j.val, by omega⟩ : Fin 7936))
  match a with
  | ⟨0, _⟩ => show r.val = 0 + r.val; omega
  | ⟨1, _⟩ => show j.val = 0 + j.val; omega

/-- The kernel's frame. -/
theorem frame_kernel : Cert.quiescent_Kernel2 := fun m g _ => Cert.Kernel2.Gen.frame m g

/-- The kernel's frame at the extended reals. -/
theorem frame_kernelIdeal : Cert.quiescent_Kernel2Ideal := fun m g _ => Cert.Kernel2Ideal.Gen.frame m g

/-- The reference's frame at the extended reals. -/
theorem frame_referenceIdeal : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The kernel and the reference end with equal results. -/
theorem algebraic : Cert.algebraic_Kernel2Ideal_Reference2Ideal := by
  intro m g m' g' _ hagree
  refine ⟨fun c => proj (m ((c : Thread Cert.Kernel2Ideal.nD Cert.Kernel2Ideal.τ).loc Cert.Kernel2Ideal.main_arg0))
    (m ((c : Thread Cert.Kernel2Ideal.nD Cert.Kernel2Ideal.τ).loc Cert.Kernel2Ideal.main_arg1)), ?_, ?_⟩
  · refine (θ_run Cert.Kernel2Ideal.defs _ _).mono (fun r h c => ?_) (Cert.Kernel2Ideal.Value.run_blocks (F := Ideal) m g)
    exact ⟨(h c).1.trans (final m c), (h c).2⟩
  · refine (θ_run Cert.Reference2Ideal.defs _ _).mono (fun r h c => ?_) (Cert.Reference2Ideal.Value.run (F := Ideal) m' g')
    refine ⟨(h c).1.trans ?_, (h c).2⟩
    rw [(hagree c).1, (hagree c).2]
    exact reference_eq _ _

end Cert.Proof.InProj

end
-- ==== Proof.RowNorm.lean ====
/-
  Layer normalization of the rows of an array with 1024 columns, read at an index: as the kernels write it, over a block
  of rows, and as the references write it, over the whole array. Both are one function of the row.
-/
module

public import Idealize.ShloMosaic.PureOps
public import Idealize.ShloMosaic.PureOps.Ideal.Laws
public import Idealize.ShloMosaic.Lib.IdealHost
public import Idealize.ShloMosaic.Lib.ValueLayout
public import Idealize.ShloMosaic.Lib.ValueIdx
public import Idealize.ShloMosaic.Lib.Pipeline.Value

@[expose] public section

noncomputable section

namespace Cert.Proof.RowNorm

open Idealize.ShloMosaic Idealize.ShloMosaic.ValueIdx

/-- The mean of a row: its sum over the number of its columns. -/
def rowMean (x : Fin 1024 → EReal) : EReal := Ideal.div (∑ k, x k) (Ideal.ofBits .f32 0x44800000#32)

/-- The mean square of a row's distances to its mean. -/
def rowVar (x : Fin 1024 → EReal) : EReal := rowMean fun k => (x k - rowMean x) * (x k - rowMean x)

/-- Entry `j` of the normalized row, scaled by `g` and moved by `b`. -/
def normed (x : Fin 1024 → EReal) (g b : EReal) (j : Fin 1024) : EReal :=
  (x j - rowMean x) * Ideal.rsqrt (rowVar x + Ideal.ofBits .f32 0x3727C5AC#32) * g + b

/-- An array of `n` rows of 1024. -/
abbrev Rows (n : ℕ) : Shape := ⟨2, ![n, 1024]⟩
/-- One number a row. -/
abbrev Col (n : ℕ) : Shape := ⟨2, ![n, 1]⟩
/-- One number a row, as a list. -/
abbrev Lst (n : ℕ) : Shape := ⟨1, ![n]⟩

theorem lift_eq {n : ℕ} (h : (Rows n).Reduces [1] (Lst n)) (r : Fin n) (k : Fin 1024) : h.lift (ix1 r) k = ix2 r k := by
  funext c; apply Fin.ext
  fin_cases c <;> rfl

section Kernel

variable {n : ℕ} (hr : (Rows n).Reduces [1] (Lst n)) (hs : (Lst n).ShapeCasts (Col n)) (hb : (Col n).Broadcasts (Rows n))
  (hg : (Rows 1).Broadcasts (Rows n))

/-- The kernels' mean of each row of a block. -/
def means (x : FVec Ideal (Rows n) .f32) : FVec Ideal (Col n) .f32 :=
  divf (shapeCast (Col n) (multiReduction .add [1] (Lst n) x 0x00000000#32 hr (.inl rfl) rfl) hs)
    (broadcast (Col n) (Scalar.ofBits .f32 0x44800000#32))

/-- The kernels' block less each row's mean. -/
def centred (x : FVec Ideal (Rows n) .f32) : FVec Ideal (Rows n) .f32 := subf x (broadcastTo (Rows n) (means hr hs x) hb)

/-- The kernels' normalization of a block. -/
def block (x : FVec Ideal (Rows n) .f32) (g b : FVec Ideal (Rows 1) .f32) : FVec Ideal (Rows n) .f32 :=
  addf (mulf (mulf (centred hr hs hb x)
      (broadcastTo (Rows n) (rsqrt (addf (means hr hs (mulf (centred hr hs hb x) (centred hr hs hb x)))
        (broadcast (Col n) (Scalar.ofBits .f32 0x3727C5AC#32)))) hb))
    (broadcastTo (Rows n) g hg)) (broadcastTo (Rows n) b hg)

theorem means_apply (x : FVec Ideal (Rows n) .f32) (r : Fin n) (z : Fin 1) :
    means hr hs x (ix2 r z) = rowMean fun k => x (ix2 r k) := by
  unfold means rowMean
  refine congrArg (fun y => Ideal.div y (Ideal.ofBits .f32 0x44800000#32)) ?_
  refine (shapeCast_apply _ _ _ (ix1 r) ?_).trans ((Ideal.multiReduction_add_single _ _ _ _ _ _).trans ?_)
  · rw [Shape.rowMajor_val_one (d := (Lst n).size), Shape.rowMajor_val_two (d := (Col n).size)]
    show r.val = r.val * 1 + z.val; omega
  · exact Finset.sum_congr rfl fun k _ => congrArg x (lift_eq hr r k)

theorem spread_apply (x : FVec Ideal (Col n) .f32) (r : Fin n) (k : Fin 1024) :
    broadcastTo (Rows n) x hb (ix2 r k) = x (ix2 r 0) :=
  broadcastTo_apply x hb (ix2 r k) (ix2 r 0) fun a => by
    match a with
    | ⟨0, _⟩ =>
      show r.val = if n = 1 then 0 else r.val
      split <;> omega
    | ⟨1, _⟩ => rfl

theorem row_apply (x : FVec Ideal (Rows 1) .f32) (r : Fin n) (k : Fin 1024) :
    broadcastTo (Rows n) x hg (ix2 r k) = x (ix2 0 k) :=
  broadcastTo_apply x hg (ix2 r k) (ix2 0 k) fun a => by
    match a with
    | ⟨0, _⟩ => rfl
    | ⟨1, _⟩ => rfl

theorem centred_apply (x : FVec Ideal (Rows n) .f32) (r : Fin n) (k : Fin 1024) :
    centred hr hs hb x (ix2 r k) = x (ix2 r k) - rowMean fun k => x (ix2 r k) := by
  show x (ix2 r k) - broadcastTo (Rows n) _ hb (ix2 r k) = _
  rw [spread_apply, means_apply]

/-- A kernel's normalized block, read. -/
theorem block_apply (x : FVec Ideal (Rows n) .f32) (g b : FVec Ideal (Rows 1) .f32) (r : Fin n) (j : Fin 1024) :
    block hr hs hb hg x g b (ix2 r j) = normed (fun k => x (ix2 r k)) (g (ix2 0 j)) (b (ix2 0 j)) j := by
  show centred hr hs hb x (ix2 r j) * broadcastTo (Rows n) _ hb (ix2 r j) * broadcastTo (Rows n) g hg (ix2 r j)
    + broadcastTo (Rows n) b hg (ix2 r j) = _
  rw [centred_apply, spread_apply, row_apply, row_apply]
  show (_ - _) * Ideal.rsqrt (means hr hs (mulf (centred hr hs hb x) (centred hr hs hb x)) (ix2 r 0) + Ideal.ofBits .f32 0x3727C5AC#32) * _ + _ = _
  have e : (fun k => mulf (centred hr hs hb x) (centred hr hs hb x) (ix2 r k))
      = fun k => (x (ix2 r k) - rowMean fun k => x (ix2 r k)) * (x (ix2 r k) - rowMean fun k => x (ix2 r k)) := by
    funext k
    show centred hr hs hb x (ix2 r k) * centred hr hs hb x (ix2 r k) = _
    rw [centred_apply]
  rw [means_apply, e]
  rfl

end Kernel

section Host

/-- The scalar shape. -/
abbrev Sc : Shape := ⟨0, ![]⟩

variable {n : ℕ} (hr : (Rows n).ReducesTo [1] (Lst n)) (hu : 0 < Sc.numel) (hc : (Lst n).BroadcastsInDim (Col n) ![0])
  (hk : Sc.BroadcastsInDim (Col n) ![]) (hb : (Col n).BroadcastsInDim (Rows n) ![0, 1])
  (hg : (Rows 1).BroadcastsInDim (Rows n) ![0, 1]) (hl : (Lst 1024).BroadcastsInDim (Rows 1) ![1])

/-- The references' mean of each row. -/
def hostMeans (x : FVec Ideal (Rows n) .f32) : FVec Ideal (Col n) .f32 :=
  Host.divf (broadcastInDim (Col n) ![0] hc (Host.reduceAdd x (constant Sc .f32 0x00000000#32) hr hu))
    (broadcastInDim (Col n) ![] hk (constant Sc .f32 0x44800000#32))

/-- The references' array less each row's mean. -/
def hostCentred (x : FVec Ideal (Rows n) .f32) : FVec Ideal (Rows n) .f32 :=
  subf x (broadcastInDim (Rows n) ![0, 1] hb (hostMeans hr hu hc hk x))

/-- The references' normalization. -/
def host (x : FVec Ideal (Rows n) .f32) (g b : FVec Ideal (Lst 1024) .f32) : FVec Ideal (Rows n) .f32 :=
  addf (mulf (mulf (hostCentred hr hu hc hk hb x)
      (broadcastInDim (Rows n) ![0, 1] hb (Host.rsqrt (addf
        (hostMeans hr hu hc hk (mulf (hostCentred hr hu hc hk hb x) (hostCentred hr hu hc hk hb x)))
        (broadcastInDim (Col n) ![] hk (constant Sc .f32 0x3727C5AC#32))))))
    (broadcastInDim (Rows n) ![0, 1] hg (broadcastInDim (Rows 1) ![1] hl g)))
    (broadcastInDim (Rows n) ![0, 1] hg (broadcastInDim (Rows 1) ![1] hl b))

theorem hostMeans_apply (h : (Rows n).Reduces [1] (Lst n)) (x : FVec Ideal (Rows n) .f32) (r : Fin n) (z : Fin 1) :
    hostMeans hr hu hc hk x (ix2 r z) = rowMean fun k => x (ix2 r k) := by
  unfold hostMeans rowMean
  rw [hostDivf_apply, broadcastInDim_scalar_apply]
  refine congrArg (fun y => Ideal.div y (Ideal.ofBits .f32 0x44800000#32)) ?_
  refine (broadcastInDim_apply _ _ _ _ (ix1 r) fun a => ?_).trans ?_
  · match a with
    | ⟨0, _⟩ =>
      show r.val = if n = 1 then 0 else r.val
      split <;> omega
  · rw [hostReduceAdd_apply, Ideal.hostReduceAdd_single _ h]
    refine (congrArg (· + _) Ideal.ofBits_zero_f32).trans ((zero_add _).trans ?_)
    exact Finset.sum_congr rfl fun k _ => congrArg x (lift_eq h r k)

theorem hostSpread_apply (x : FVec Ideal (Col n) .f32) (r : Fin n) (k : Fin 1024) :
    broadcastInDim (Rows n) ![0, 1] hb x (ix2 r k) = x (ix2 r 0) :=
  broadcastInDim_apply _ _ _ _ (ix2 r 0) fun a => by
    match a with
    | ⟨0, _⟩ =>
      show r.val = if n = 1 then 0 else r.val
      split <;> omega
    | ⟨1, _⟩ => rfl

theorem hostRow_apply (x : FVec Ideal (Lst 1024) .f32) (r : Fin n) (k : Fin 1024) :
    broadcastInDim (Rows n) ![0, 1] hg (broadcastInDim (Rows 1) ![1] hl x) (ix2 r k) = x (ix1 k) := by
  refine (broadcastInDim_apply _ _ _ _ (ix2 0 k) fun a => ?_).trans (broadcastInDim_apply _ _ _ _ (ix1 k) fun a => ?_)
  · match a with
    | ⟨0, _⟩ => rfl
    | ⟨1, _⟩ => rfl
  · match a with
    | ⟨0, _⟩ => rfl

theorem hostCentred_apply (h : (Rows n).Reduces [1] (Lst n)) (x : FVec Ideal (Rows n) .f32) (r : Fin n) (k : Fin 1024) :
    hostCentred hr hu hc hk hb x (ix2 r k) = x (ix2 r k) - rowMean fun k => x (ix2 r k) := by
  show x (ix2 r k) - broadcastInDim (Rows n) _ hb _ (ix2 r k) = _
  rw [hostSpread_apply, hostMeans_apply hr hu hc hk h]

/-- A reference's normalized array, read. -/
theorem host_apply (h : (Rows n).Reduces [1] (Lst n)) (x : FVec Ideal (Rows n) .f32) (g b : FVec Ideal (Lst 1024) .f32) (r : Fin n)
    (j : Fin 1024) :
    host hr hu hc hk hb hg hl x g b (ix2 r j) = normed (fun k => x (ix2 r k)) (g (ix1 j)) (b (ix1 j)) j := by
  show hostCentred hr hu hc hk hb x (ix2 r j) * broadcastInDim (Rows n) _ hb _ (ix2 r j)
    * broadcastInDim (Rows n) ![0, 1] hg (broadcastInDim (Rows 1) ![1] hl g) (ix2 r j)
    + broadcastInDim (Rows n) ![0, 1] hg (broadcastInDim (Rows 1) ![1] hl b) (ix2 r j) = _
  rw [hostCentred_apply hr hu hc hk hb h, hostSpread_apply, hostRow_apply, hostRow_apply]
  show (_ - _) * Ideal.rsqrt (hostMeans hr hu hc hk (mulf (hostCentred hr hu hc hk hb x) (hostCentred hr hu hc hk hb x)) (ix2 r 0)
    + broadcastInDim (Col n) ![] hk (constant (F := Ideal) Sc .f32 0x3727C5AC#32) (ix2 r 0)) * _ + _ = _
  have e : (fun k => mulf (hostCentred hr hu hc hk hb x) (hostCentred hr hu hc hk hb x) (ix2 r k))
      = fun k => (x (ix2 r k) - rowMean fun k => x (ix2 r k)) * (x (ix2 r k) - rowMean fun k => x (ix2 r k)) := by
    funext k
    show hostCentred hr hu hc hk hb x (ix2 r k) * hostCentred hr hu hc hk hb x (ix2 r k) = _
    rw [hostCentred_apply hr hu hc hk hb h]
  rw [hostMeans_apply hr hu hc hk h, broadcastInDim_scalar_apply, e]
  rfl

/-- The normalization of an array's rows, as a function of the array. -/
def rowsNormed {n : ℕ} (x : FVec Ideal (Rows n) .f32) (g b : FVec Ideal (Lst 1024) .f32) : FVec Ideal (Rows n) .f32 := fun i =>
  normed (fun k => x (ix2 (i 0) k)) (g (ix1 (i 1))) (b (ix1 (i 1))) (i 1)

/-- The references' normalization is that function. -/
theorem host_eq (h : (Rows n).Reduces [1] (Lst n)) (x : FVec Ideal (Rows n) .f32) (g b : FVec Ideal (Lst 1024) .f32) :
    host hr hu hc hk hb hg hl x g b = rowsNormed x g b := by
  funext i
  obtain ⟨r, j, rfl⟩ : ∃ r j, i = ix2 r j := ⟨i 0, i 1, eq_ix2 i⟩
  exact host_apply hr hu hc hk hb hg hl h x g b r j

end Host

end Cert.Proof.RowNorm

end
-- ==== Proof.MergeRow.lean ====
/-
  The merge of the four branches, as a function of one token's row: the gated state-space branch, the four gates, the gated
  sum of the branches, its projection with the residual, and the norm.
-/
module

public import proofs.«01_k».proof.Proof.RowNorm

@[expose] public section

noncomputable section

namespace Cert.Proof.Merge

open Idealize.ShloMosaic

/-- The weights of the merge, by index. -/
structure Weights where
  /-- the gates' weights, a matrix for each branch -/
  gate : Fin 4 → Fin 1024 → Fin 1024 → EReal
  /-- the branches' projections -/
  branch : Fin 4 → Fin 256 → Fin 1024 → EReal
  /-- the projection of the merged branches -/
  out : Fin 1024 → Fin 1024 → EReal
  /-- the weights of the state-space branch's own gate -/
  glu : Fin 256 → Fin 256 → EReal
  /-- and its bias -/
  gluBias : Fin 256 → EReal
  /-- the skip weights of the state-space branch -/
  skip : Fin 256 → EReal
  /-- the norm's scales -/
  scale : Fin 1024 → EReal
  /-- the norm's offsets -/
  offset : Fin 1024 → EReal

/-- One token's row of every array the merge reads. -/
structure Row where
  /-- the hidden state -/
  h : Fin 1024 → EReal
  /-- the first branch -/
  a : Fin 256 → EReal
  /-- the second branch -/
  b : Fin 256 → EReal
  /-- the state-space branch's forward scan -/
  fwd : Fin 256 → EReal
  /-- its backward scan -/
  bwd : Fin 256 → EReal
  /-- its input -/
  u : Fin 256 → EReal
  /-- the fourth branch -/
  d : Fin 256 → EReal

/-- The state-space branch before its activation: both scans and the weighted skip. -/
def scan (W : Weights) (R : Row) (j : Fin 256) : EReal := R.fwd j + R.bwd j + W.skip j * R.u j

/-- The gelu, in its tanh form. -/
def gelu (y : EReal) : EReal :=
  Ideal.ofBits .f32 0x3F000000#32 * y * (Ideal.ofBits .f32 0x3F800000#32
    + Ideal.tanh (Ideal.ofBits .f32 0x3F4C422A#32 * (y + Ideal.ofBits .f32 0x3D372713#32 * (y * y * y))))

/-- The state-space branch: its activation gated by itself. -/
def gated (W : Weights) (R : Row) (j : Fin 256) : EReal :=
  gelu (scan W R j) * Ideal.logistic (∑ k, gelu (scan W R k) * W.glu k j + W.gluBias j)

/-- The gate of branch `i` on column `j`. -/
def gate (W : Weights) (R : Row) (i : Fin 4) (j : Fin 1024) : EReal := Ideal.logistic (∑ k, R.h k * W.gate i k j)

/-- The projection of a branch `y` by the weights of branch `i`. -/
def project (W : Weights) (y : Fin 256 → EReal) (i : Fin 4) (j : Fin 1024) : EReal := ∑ k, y k * W.branch i k j

/-- The gated sum of the four branches. -/
def merged (W : Weights) (R : Row) (j : Fin 1024) : EReal :=
  gate W R 0 j * project W R.a 0 j + gate W R 1 j * project W R.b 1 j + gate W R 2 j * project W (gated W R) 2 j
    + gate W R 3 j * project W R.d 3 j

/-- The residual: the scaled hidden state plus the projected sum. -/
def residual (W : Weights) (R : Row) (j : Fin 1024) : EReal :=
  Ideal.ofBits .f32 0x3FD744FD#32 * R.h j + ∑ k, merged W R k * W.out k j

/-- The row of the result. -/
def rowOut (W : Weights) (R : Row) (j : Fin 1024) : EReal :=
  RowNorm.normed (residual W R) (W.scale j) (W.offset j) j

end Cert.Proof.Merge

end
-- ==== Proof.MergeBody.lean ====
/-
  What the merge kernel computes at a grid point, read at an index: each payload of its body, and the block it flushes, which
  is the merge of each of its rows.
-/
module

public import proofs.«01_k».proof.Proof.MergeRow
public import proofs.«01_k».proof.Proof.Gen.Kernel3Ideal.Value
public import Idealize.ShloMosaic.Lib.MatmulPlain

@[expose] public section

noncomputable section

namespace Cert.Proof.Merge

open Idealize.ShloMosaic Cert.Kernel3Ideal Cert.Kernel3Ideal.Gen Idealize.ShloMosaic.ValueIdx

theorem zero_off : (![0, 0] : Fin 2 → ℕ) = fun _ => 0 := by funext a; fin_cases a <;> rfl

/-- A product of two matrices from a zero accumulator, read. -/
theorem product_apply {M K N : ℕ} {φ₁ φ₂ : FTy} (x : FVec Ideal ⟨2, ![M, K]⟩ φ₁) (y : FVec Ideal ⟨2, ![K, N]⟩ φ₂) (r : Fin M) (c : Fin N) :
    FloatOps.matmul (DotDims.plain M K N) none x y (constant (F := Ideal) ⟨2, ![M, N]⟩ .f32 0x00000000#32) (ix2 r c)
      = ∑ k : Fin K, x (ix2 r k) * y (ix2 k c) := by
  refine (Ideal.matmul_plain_apply none x y _ r c).trans ?_
  rw [show (constant (F := Ideal) ⟨2, ![M, N]⟩ .f32 0x00000000#32 (ix2 r c)) = 0 from Ideal.ofBits_zero_f32, zero_add]

/-- A row of 256 spread over the block's rows, read. -/
theorem row_apply (x : FVec Ideal S1x256 .f32) (r k : Fin 256) : broadcastTo S256x256 x broadcasts_S1x256_S256x256 (ix2 r k) = x (ix2 0 k) :=
  broadcastTo_apply x _ (ix2 r k) (ix2 0 k) fun a => by
    match a with
    | ⟨0, _⟩ => rfl
    | ⟨1, _⟩ => rfl

/-- Columns `1024 i` to `1024 i + 1023` of the gates' weights, read. -/
theorem ld_gate (X : Vec Ideal S1024x4096 .bf16) (o : ℕ) (inb) (k j : Fin 1024) (h : o + j.val < 4096) :
    View.ld X (Rect.unit (s := S1024x4096) ![0, o] S1024x1024.size inb) (ix2 k j) = X (ix2 k ⟨o + j.val, h⟩) :=
  congrArg X (funext fun a => Fin.ext (match a with
    | ⟨0, _⟩ => by show 0 + 1 * k.val = k.val; omega
    | ⟨1, _⟩ => by show o + 1 * j.val = o + j.val; omega))

/-- The projection of branch `o`, read. -/
theorem ld_branch (X : Vec Ideal S4x256x1024 .bf16) (o : ℕ) (inb) (k : Fin 256) (j : Fin 1024) (h : o < 4) :
    View.ld X (Rect.unit (s := S4x256x1024) ![o, 0, 0] S1x256x1024.size inb) (ix3 0 k j) = X (ix3 ⟨o, h⟩ k j) :=
  congrArg X (funext fun a => Fin.ext (match a with
    | ⟨0, _⟩ => by show o + 1 * 0 = o; omega
    | ⟨1, _⟩ => by show 0 + 1 * k.val = k.val; omega
    | ⟨2, _⟩ => by show 0 + 1 * j.val = j.val; omega))

/-- A branch's projection with its unit axis dropped, read. -/
theorem flat_apply (X : Vec Ideal S1x256x1024 .bf16) (k : Fin 256) (j : Fin 1024) :
    shapeCast S256x1024 X shapeCasts_S1x256x1024_S256x1024 (ix2 k j) = X (ix3 0 k j) :=
  shapeCast_apply _ _ _ _ (by
    refine (Shape.rowMajor_val_three (d := S1x256x1024.size) _).trans (Eq.trans ?_ (Shape.rowMajor_val_two (d := S256x1024.size) _).symm)
    show (0 * 256 + k.val) * 1024 + j.val = k.val * 1024 + j.val; omega)

/-- The state-space branch before its activation, as the body writes it. -/
def scanBlock (sf sb : Vec Ideal S256x256 .f32) (d : Vec Ideal S1x256 .f32) (u : Vec Ideal S256x256 .f32) : FVec Ideal S256x256 .f32 :=
  addf (addf sf sb) (mulf (broadcastTo S256x256 d broadcasts_S1x256_S256x256) u)

/-- Its activation. -/
def geluBlock (y : FVec Ideal S256x256 .f32) : FVec Ideal S256x256 .f32 :=
  mulf (mulf (broadcast S256x256 (Scalar.ofBits .f32 0x3F000000#32)) y) (addf (broadcast S256x256 (Scalar.ofBits .f32 0x3F800000#32))
    (tanh (mulf (broadcast S256x256 (Scalar.ofBits .f32 0x3F4C422A#32)) (addf y
      (mulf (broadcast S256x256 (Scalar.ofBits .f32 0x3D372713#32)) (mulf (mulf y y) y))))))

theorem scanBlock_apply (sf sb : Vec Ideal S256x256 .f32) (d : Vec Ideal S1x256 .f32) (u : Vec Ideal S256x256 .f32) (r k : Fin 256) :
    scanBlock sf sb d u (ix2 r k) = sf (ix2 r k) + sb (ix2 r k) + d (ix2 0 k) * u (ix2 r k) := by
  show sf (ix2 r k) + sb (ix2 r k) + broadcastTo S256x256 d broadcasts_S1x256_S256x256 (ix2 r k) * u (ix2 r k) = _
  rw [row_apply]

/-- The gated state-space branch, read. -/
theorem pay3_apply (sf sb : Vec Ideal S256x256 .f32) (d : Vec Ideal S1x256 .f32) (u : Vec Ideal S256x256 .f32)
    (w : Vec Ideal S256x256 .bf16) (b : Vec Ideal S1x256 .f32) (r j : Fin 256) :
    k0_pay3 sf sb d u w b (ix2 r j) = gelu (scanBlock sf sb d u (ix2 r j))
      * Ideal.logistic (∑ k : Fin 256, gelu (scanBlock sf sb d u (ix2 r k)) * w (ix2 k j) + b (ix2 0 j)) := by
  unfold k0_pay3
  simp only [shapeCast_self]
  show geluBlock (scanBlock sf sb d u) (ix2 r j) * Ideal.logistic
    (FloatOps.matmul (DotDims.plain 256 256 256) none (truncf (φ := .f32) .bf16 (geluBlock (scanBlock sf sb d u)) bitsLt_bf16_f32) w (constant (F := Ideal) ⟨2, ![256, 256]⟩ .f32 0x00000000#32) (ix2 r j)
      + broadcastTo S256x256 b broadcasts_S1x256_S256x256 (ix2 r j)) = _
  rw [product_apply, row_apply]
  rfl

/-- A gate, read. -/
theorem gate_apply (x : Vec Ideal S256x1024 .f32) (w : Vec Ideal S1024x1024 .bf16) (r : Fin 256) (j : Fin 1024) :
    k0_pay5 (k0_pay2 x) w (ix2 r j) = Ideal.logistic (∑ k : Fin 1024, x (ix2 r k) * w (ix2 k j)) := by
  unfold k0_pay5 k0_pay2
  simp only [shapeCast_self]
  show Ideal.logistic (FloatOps.matmul (DotDims.plain 256 1024 1024) none (truncf (φ := .f32) .bf16 x bitsLt_bf16_f32) w
    (constant (F := Ideal) ⟨2, ![256, 1024]⟩ .f32 0x00000000#32) (ix2 r j)) = _
  rw [product_apply]
  rfl

/-- A branch's projection, as the body writes it. -/
def projectBlock (y : FVec Ideal S256x256 .f32) (w : Vec Ideal S1x256x1024 .bf16) : FVec Ideal S256x1024 .f32 :=
  matmul dot_S256x256_S256x1024_S256x1024_1_0_0_1_n_n none (truncf .bf16 y bitsLt_bf16_f32)
    (show FVec Ideal S256x1024 .bf16 from shapeCast S256x1024 w shapeCasts_S1x256x1024_S256x1024) (constant S256x1024 .f32 0x00000000#32)

theorem projectBlock_apply (y : FVec Ideal S256x256 .f32) (w : Vec Ideal S1x256x1024 .bf16) (r : Fin 256) (j : Fin 1024) :
    projectBlock y w (ix2 r j) = ∑ k : Fin 256, y (ix2 r k) * w (ix3 0 k j) := by
  refine (product_apply (M := 256) (K := 256) (N := 1024) (truncf (φ := .f32) .bf16 y bitsLt_bf16_f32)
    (show FVec Ideal S256x1024 .bf16 from shapeCast S256x1024 w shapeCasts_S1x256x1024_S256x1024) r j).trans ?_
  exact Finset.sum_congr rfl fun k _ => congrArg (y (ix2 r k) * ·) (flat_apply w k j)

/-- The gated sum of the first three branches is the gates times the projections. -/
theorem pay4_eq (x : Vec Ideal S256x1024 .f32) (yc : FVec Ideal S256x256 .f32) (ya yb : Vec Ideal S256x256 .f32)
    (w0 : Vec Ideal S1024x1024 .bf16) (b0 : Vec Ideal S1x256x1024 .bf16) (w1 : Vec Ideal S1024x1024 .bf16) (b1 : Vec Ideal S1x256x1024 .bf16)
    (w2 : Vec Ideal S1024x1024 .bf16) (b2 : Vec Ideal S1x256x1024 .bf16) :
    k0_pay4 (k0_pay2 x) yc ya yb w0 b0 w1 b1 w2 b2
      = addf (addf (mulf (k0_pay5 (k0_pay2 x) w0) (projectBlock ya b0)) (mulf (k0_pay5 (k0_pay2 x) w1) (projectBlock yb b1)))
        (mulf (k0_pay5 (k0_pay2 x) w2) (projectBlock yc b2)) := rfl

/-- The projection of the merged branches with the residual, as the body writes it. -/
def residualBlock (x : Vec Ideal S256x1024 .f32) (s : FVec Ideal S256x1024 .f32) (w : Vec Ideal S1024x1024 .bf16) : FVec Ideal S256x1024 .f32 :=
  addf (mulf (broadcast S256x1024 (Scalar.ofBits .f32 0x3FD744FD#32)) x)
    (matmul dot_S256x1024_S1024x1024_S256x1024_1_0_0_1_n_n none (truncf .bf16 s bitsLt_bf16_f32) (show FVec Ideal S1024x1024 .bf16 from w)
      (constant S256x1024 .f32 0x00000000#32))

theorem residualBlock_apply (x : Vec Ideal S256x1024 .f32) (s : FVec Ideal S256x1024 .f32) (w : Vec Ideal S1024x1024 .bf16) (r : Fin 256)
    (j : Fin 1024) :
    residualBlock x s w (ix2 r j) = Ideal.ofBits .f32 0x3FD744FD#32 * x (ix2 r j) + ∑ k : Fin 1024, s (ix2 r k) * w (ix2 k j) :=
  congrArg (Ideal.ofBits .f32 0x3FD744FD#32 * x (ix2 r j) + ·)
    (product_apply (M := 256) (K := 1024) (N := 1024) (truncf (φ := .f32) .bf16 s bitsLt_bf16_f32) (show FVec Ideal S1024x1024 .bf16 from w) r j)

/-- The flushed payload is the norm of the residual. -/
theorem pay6_eq (x : Vec Ideal S256x1024 .f32) (yd : Vec Ideal S256x256 .f32) (s g3 : FVec Ideal S256x1024 .f32)
    (b3 : Vec Ideal S1x256x1024 .bf16) (w : Vec Ideal S1024x1024 .bf16) (g b : Vec Ideal S1x1024 .f32) :
    k0_pay6 x yd s g3 b3 w g b
      = RowNorm.block reduces_S256x1024_S256 shapeCasts_S256_S256x1 broadcasts_S256x1_S256x1024 broadcasts_S1x1024_S256x1024
        (residualBlock x (addf s (mulf g3 (projectBlock yd b3))) w) g b := by
  unfold k0_pay6 RowNorm.block RowNorm.centred RowNorm.means residualBlock projectBlock
  simp only [shapeCast_self]

/-- The same, read. -/
theorem pay6_apply (x : Vec Ideal S256x1024 .f32) (yd : Vec Ideal S256x256 .f32) (s g3 : FVec Ideal S256x1024 .f32)
    (b3 : Vec Ideal S1x256x1024 .bf16) (w : Vec Ideal S1024x1024 .bf16) (g b : Vec Ideal S1x1024 .f32) (r : Fin 256) (j : Fin 1024) :
    k0_pay6 x yd s g3 b3 w g b (ix2 r j)
      = RowNorm.normed (fun k => residualBlock x (addf s (mulf g3 (projectBlock yd b3))) w (ix2 r k)) (g (ix2 0 j)) (b (ix2 0 j)) j := by
  rw [pay6_eq, RowNorm.block_apply]

/-- The weights a point finds in its blocks. -/
def blockWeights (x7 : Vec Ideal S1024x4096 .bf16) (x8 : Vec Ideal S4x256x1024 .bf16) (x9 : Vec Ideal S1024x1024 .bf16)
    (x10 : Vec Ideal S256x256 .bf16) (x11 x12 : Vec Ideal S1x256 .f32) (x13 x14 : Vec Ideal S1x1024 .f32) : Weights where
  gate i k j := x7 (ix2 k ⟨1024 * i.val + j.val, by omega⟩)
  branch i k j := x8 (ix3 i k j)
  out k j := x9 (ix2 k j)
  glu k j := x10 (ix2 k j)
  gluBias j := x11 (ix2 0 j)
  skip j := x12 (ix2 0 j)
  scale j := x13 (ix2 0 j)
  offset j := x14 (ix2 0 j)

/-- Row `r` of a point's blocks. -/
def blockRow (x0 : Vec Ideal S256x1024 .f32) (x1 x2 x3 x4 x5 x6 : Vec Ideal S256x256 .f32) (r : Fin 256) : Row where
  h k := x0 (ix2 r k)
  a k := x1 (ix2 r k)
  b k := x2 (ix2 r k)
  fwd k := x3 (ix2 r k)
  bwd k := x4 (ix2 r k)
  u k := x5 (ix2 r k)
  d k := x6 (ix2 r k)

section Point

variable (x0 : Vec Ideal S256x1024 .f32) (x1 x2 x3 x4 x5 x6 : Vec Ideal S256x256 .f32) (x7 : Vec Ideal S1024x4096 .bf16)
  (x8 : Vec Ideal S4x256x1024 .bf16) (x9 : Vec Ideal S1024x1024 .bf16) (x10 : Vec Ideal S256x256 .bf16) (x11 x12 : Vec Ideal S1x256 .f32)
  (x13 x14 : Vec Ideal S1x1024 .f32) (r : Fin 256)

/-- A gate at a point is the gate of the row. -/
theorem gate_point (i : Fin 4) (o : ℕ) (ho : o = 1024 * i.val) (inb) (j : Fin 1024) :
    k0_pay5 (k0_pay2 x0) (View.ld x7 (Rect.unit (s := S1024x4096) ![0, o] S1024x1024.size inb)) (ix2 r j)
      = gate (blockWeights x7 x8 x9 x10 x11 x12 x13 x14) (blockRow x0 x1 x2 x3 x4 x5 x6 r) i j := by
  subst ho
  rw [gate_apply]
  exact congrArg Ideal.logistic (Finset.sum_congr rfl fun k _ => congrArg (x0 (ix2 r k) * ·) (ld_gate x7 _ inb k j (by omega)))

/-- A branch's projection at a point is the projection of the row. -/
theorem project_point (y : FVec Ideal S256x256 .f32) (f : Fin 256 → EReal) (hf : ∀ k, y (ix2 r k) = f k) (i : Fin 4) (inb) (j : Fin 1024) :
    projectBlock y (View.ld x8 (Rect.unit (s := S4x256x1024) ![i.val, 0, 0] S1x256x1024.size inb)) (ix2 r j)
      = project (blockWeights x7 x8 x9 x10 x11 x12 x13 x14) f i j := by
  rw [projectBlock_apply]
  exact Finset.sum_congr rfl fun k _ => by rw [hf, ld_branch x8 i.val inb k j i.isLt]; rfl

/-- The block a point flushes: the merge of each of its rows. -/
theorem out_apply (j : Fin 1024) : out0_15 x0 x1 x2 x3 x4 x5 x6 x7 x8 x9 x10 x11 x12 x13 x14 (ix2 r j)
    = rowOut (blockWeights x7 x8 x9 x10 x11 x12 x13 x14) (blockRow x0 x1 x2 x3 x4 x5 x6 r) j := by
  unfold out0_15 k0_pay10 k0_pay9 k0_pay8
  rw [View.canon_unit_zero zero_off]
  simp only [View.ld_unit_zero (S := S256x1024) zero_off, View.ld_unit_zero (S := S256x256) zero_off, View.ld_unit_zero (S := S1x256) zero_off,
    View.ld_unit_zero (S := S1024x1024) zero_off, View.ld_unit_zero (S := S1x1024) zero_off]
  rw [pay6_apply, pay4_eq]
  unfold rowOut
  refine congrArg (fun f => RowNorm.normed f (x13 (ix2 0 j)) (x14 (ix2 0 j)) j) (funext fun l => ?_)
  rw [residualBlock_apply]
  refine congrArg (Ideal.ofBits .f32 0x3FD744FD#32 * x0 (ix2 r l) + ·) (Finset.sum_congr rfl fun k _ => congrArg (· * x9 (ix2 k l)) ?_)
  refine congrArg₂ (· + ·) (congrArg₂ (· + ·) (congrArg₂ (· + ·) ?_ ?_) ?_) ?_
  · exact congrArg₂ (· * ·) (gate_point x0 x1 x2 x3 x4 x5 x6 x7 x8 x9 x10 x11 x12 x13 x14 r 0 0 rfl _ k)
      (project_point x7 x8 x9 x10 x11 x12 x13 x14 r x1 _ (fun _ => rfl) 0 _ k)
  · exact congrArg₂ (· * ·) (gate_point x0 x1 x2 x3 x4 x5 x6 x7 x8 x9 x10 x11 x12 x13 x14 r 1 1024 rfl _ k)
      (project_point x7 x8 x9 x10 x11 x12 x13 x14 r x2 _ (fun _ => rfl) 1 _ k)
  · exact congrArg₂ (· * ·) (gate_point x0 x1 x2 x3 x4 x5 x6 x7 x8 x9 x10 x11 x12 x13 x14 r 2 2048 rfl _ k)
      (project_point x7 x8 x9 x10 x11 x12 x13 x14 r _ _ (fun q => by
        rw [pay3_apply]
        simp only [scanBlock_apply]
        rfl) 2 _ k)
  · exact congrArg₂ (· * ·) (gate_point x0 x1 x2 x3 x4 x5 x6 x7 x8 x9 x10 x11 x12 x13 x14 r 3 3072 rfl _ k)
      (project_point x7 x8 x9 x10 x11 x12 x13 x14 r x6 _ (fun _ => rfl) 3 _ k)

end Point

end Cert.Proof.Merge

end
-- ==== Proof.MergeArray.lean ====
/-
  The result array of the merge kernel after its run: row `r` is the merge of row `r` of its arguments.
-/
module

public import proofs.«01_k».proof.Proof.MergeBody
public import Idealize.ShloMosaic.Lib.Claim

@[expose] public section

noncomputable section

namespace Cert.Proof.Merge

open Idealize.ShloMosaic Cert.Kernel3Ideal Cert.Kernel3Ideal.Gen Idealize.ShloMosaic.ValueIdx Idealize.ShloMosaic.TcCoe
open Idealize.SL.Sem

/-- The merge's weights, from its arguments: the gates' are columns 3840 onwards of the entry projection's. -/
def arrayWeights (wi : FVec Ideal S1024x7936 .f32) (wb : FVec Ideal S4x256x1024 .f32) (wo : FVec Ideal S1024x1024 .f32)
    (gw : FVec Ideal S256x256 .f32) (gb sd : FVec Ideal S256 .f32) (g b : FVec Ideal S1024 .f32) : Weights where
  gate i k j := wi (ix2 k ⟨3840 + (1024 * i.val + j.val), by omega⟩)
  branch i k j := wb (ix3 i k j)
  out k j := wo (ix2 k j)
  glu k j := gw (ix2 k j)
  gluBias j := gb (ix1 j)
  skip j := sd (ix1 j)
  scale j := g (ix1 j)
  offset j := b (ix1 j)

/-- Row `r` of the merge's arguments: the state-space branch's input is columns 3072 to 3327 of the entry projection. -/
def arrayRow (h : FVec Ideal S32768x1024 .f32) (ya yb sf sb : FVec Ideal S32768x256 .f32) (p : FVec Ideal S32768x3840 .f32)
    (yd : FVec Ideal S32768x256 .f32) (r : Fin 32768) : Row where
  h k := h (ix2 r k)
  a k := ya (ix2 r k)
  b k := yb (ix2 r k)
  fwd k := sf (ix2 r k)
  bwd k := sb (ix2 r k)
  u k := p (ix2 r ⟨3072 + k.val, by omega⟩)
  d k := yd (ix2 r k)

/-- The merge of every row. -/
def merge (h : FVec Ideal S32768x1024 .f32) (ya yb sf sb : FVec Ideal S32768x256 .f32) (p : FVec Ideal S32768x3840 .f32)
    (yd : FVec Ideal S32768x256 .f32) (wi : FVec Ideal S1024x7936 .f32) (wb : FVec Ideal S4x256x1024 .f32) (wo : FVec Ideal S1024x1024 .f32)
    (gw : FVec Ideal S256x256 .f32) (gb sd : FVec Ideal S256 .f32) (g b : FVec Ideal S1024 .f32) : FVec Ideal S32768x1024 .f32 := fun i =>
  rowOut (arrayWeights wi wb wo gw gb sd g b) (arrayRow h ya yb sf sb p yd (i 0)) (i 1)

variable (m : (ℓ : Loc nD τ sig) → Buf (Elt Ideal) ℓ)

theorem lt_N (t : Fin cfg0.N) : t.val < 128 := t.isLt

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 12 := by decide +kernel
theorem idx6 : ∀ t : Fin cfg0.N, win0_6.index t 0 = t.val ∧ win0_6.index t 1 = 0 := by decide +kernel
theorem idx15 : ∀ t : Fin cfg0.N, win0_15.index t 0 = t.val ∧ win0_15.index t 1 = 0 := by decide +kernel
theorem idx7 : ∀ t : Fin cfg0.N, win0_7.index t 0 = 0 ∧ win0_7.index t 1 = 0 := by decide +kernel
theorem idx9 : ∀ t : Fin cfg0.N, win0_9.index t 0 = 0 ∧ win0_9.index t 1 = 0 := by decide +kernel
theorem idx10 : ∀ t : Fin cfg0.N, win0_10.index t 0 = 0 ∧ win0_10.index t 1 = 0 := by decide +kernel
theorem idx11 : ∀ t : Fin cfg0.N, win0_11.index t 0 = 0 ∧ win0_11.index t 1 = 0 := by decide +kernel
theorem idx12 : ∀ t : Fin cfg0.N, win0_12.index t 0 = 0 ∧ win0_12.index t 1 = 0 := by decide +kernel
theorem idx13 : ∀ t : Fin cfg0.N, win0_13.index t 0 = 0 ∧ win0_13.index t 1 = 0 := by decide +kernel
theorem idx14 : ∀ t : Fin cfg0.N, win0_14.index t 0 = 0 ∧ win0_14.index t 1 = 0 := by decide +kernel
theorem idx8 : ∀ t : Fin cfg0.N, win0_8.index t 0 = 0 ∧ win0_8.index t 1 = 0 ∧ win0_8.index t 2 = 0 := by decide +kernel

/-- The block of the hidden states at a point. -/
theorem block0 (c : Dev nD) (t : Fin cfg0.N) (r : Fin 256) (k : Fin 1024) :
    (iblk m c 0 t : FVec Ideal S256x1024 .f32) (ix2 r k)
      = (m ((c : Thread nD τ).loc main_arg0) : FVec Ideal S32768x1024 .f32) (ix2 ⟨256 * t.val + r.val, by have := lt_N t; omega⟩ k) := by
  obtain ⟨h0, h1⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 256 + 1 * r.val = 256 * t.val + r.val; omega
  | ⟨1, _⟩ => show win0_0.index t 1 * 1024 + 1 * k.val = k.val; omega

/-- The block of the first branch at a point. -/
theorem block1 (c : Dev nD) (t : Fin cfg0.N) (r : Fin 256) (k : Fin 256) :
    (iblk m c 1 t : FVec Ideal S256x256 .f32) (ix2 r k)
      = (m ((c : Thread nD τ).loc main_arg1) : FVec Ideal S32768x256 .f32) (ix2 ⟨256 * t.val + r.val, by have := lt_N t; omega⟩ k) := by
  obtain ⟨h0, h1⟩ := idx1 t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 256 + 1 * r.val = 256 * t.val + r.val; omega
  | ⟨1, _⟩ => show win0_1.index t 1 * 256 + 1 * k.val = k.val; omega

/-- The block of the second branch at a point. -/
theorem block2 (c : Dev nD) (t : Fin cfg0.N) (r : Fin 256) (k : Fin 256) :
    (iblk m c 2 t : FVec Ideal S256x256 .f32) (ix2 r k)
      = (m ((c : Thread nD τ).loc main_arg2) : FVec Ideal S32768x256 .f32) (ix2 ⟨256 * t.val + r.val, by have := lt_N t; omega⟩ k) := by
  obtain ⟨h0, h1⟩ := idx2 t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 256 + 1 * r.val = 256 * t.val + r.val; omega
  | ⟨1, _⟩ => show win0_2.index t 1 * 256 + 1 * k.val = k.val; omega

/-- The block of the forward scan at a point. -/
theorem block3 (c : Dev nD) (t : Fin cfg0.N) (r : Fin 256) (k : Fin 256) :
    (iblk m c 3 t : FVec Ideal S256x256 .f32) (ix2 r k)
      = (m ((c : Thread nD τ).loc main_arg3) : FVec Ideal S32768x256 .f32) (ix2 ⟨256 * t.val + r.val, by have := lt_N t; omega⟩ k) := by
  obtain ⟨h0, h1⟩ := idx3 t
  unfold iblk
  rw [View.read_apply]
  show V m c main_arg3 _ = m ((c : Thread nD τ).loc main_arg3) _
  rw [V_main_arg3]
  congr 1
  funext a
  apply Fin.ext
  match a with
  | ⟨0, _⟩ => show win0_3.index t 0 * 256 + 1 * r.val = 256 * t.val + r.val; omega
  | ⟨1, _⟩ => show win0_3.index t 1 * 256 + 1 * k.val = k.val; omega

/-- The block of the backward scan at a point. -/
theorem block4 (c : Dev nD) (t : Fin cfg0.N) (r : Fin 256) (k : Fin 256) :
    (iblk m c 4 t : FVec Ideal S256x256 .f32) (ix2 r k)
      = (m ((c : Thread nD τ).loc main_arg4) : FVec Ideal S32768x256 .f32) (ix2 ⟨256 * t.val + r.val, by have := lt_N t; omega⟩ k) := by
  obtain ⟨h0, h1⟩ := idx4 t
  unfold iblk
  rw [View.read_apply]
  show V m c main_arg4 _ = m ((c : Thread nD τ).loc main_arg4) _
  rw [V_main_arg4]
  congr 1
  funext a
  apply Fin.ext
  match a with
  | ⟨0, _⟩ => show win0_4.index t 0 * 256 + 1 * r.val = 256 * t.val + r.val; omega
  | ⟨1, _⟩ => show win0_4.index t 1 * 256 + 1 * k.val = k.val; omega

/-- The block of the entry projection at a point. -/
theorem block5 (c : Dev nD) (t : Fin cfg0.N) (r : Fin 256) (k : Fin 256) :
    (iblk m c 5 t : FVec Ideal S256x256 .f32) (ix2 r k)
      = (m ((c : Thread nD τ).loc main_arg5) : FVec Ideal S32768x3840 .f32) (ix2 ⟨256 * t.val + r.val, by have := lt_N t; omega⟩ ⟨3072 + k.val, by omega⟩) := by
  obtain ⟨h0, h1⟩ := idx5 t
  unfold iblk
  rw [View.read_apply]
  show V m c main_arg5 _ = m ((c : Thread nD τ).loc main_arg5) _
  rw [V_main_arg5]
  congr 1
  funext a
  apply Fin.ext
  match a with
  | ⟨0, _⟩ => show win0_5.index t 0 * 256 + 1 * r.val = 256 * t.val + r.val; omega
  | ⟨1, _⟩ => show win0_5.index t 1 * 256 + 1 * k.val = 3072 + k.val; omega

/-- The block of the fourth branch at a point. -/
theorem block6 (c : Dev nD) (t : Fin cfg0.N) (r : Fin 256) (k : Fin 256) :
    (iblk m c 6 t : FVec Ideal S256x256 .f32) (ix2 r k)
      = (m ((c : Thread nD τ).loc main_arg6) : FVec Ideal S32768x256 .f32) (ix2 ⟨256 * t.val + r.val, by have := lt_N t; omega⟩ k) := by
  obtain ⟨h0, h1⟩ := idx6 t
  unfold iblk
  rw [View.read_apply]
  show V m c main_arg6 _ = m ((c : Thread nD τ).loc main_arg6) _
  rw [V_main_arg6]
  congr 1
  funext a
  apply Fin.ext
  match a with
  | ⟨0, _⟩ => show win0_6.index t 0 * 256 + 1 * r.val = 256 * t.val + r.val; omega
  | ⟨1, _⟩ => show win0_6.index t 1 * 256 + 1 * k.val = k.val; omega

/-- The gates' weights at a point: all of them. -/
theorem block7 (c : Dev nD) (t : Fin cfg0.N) (k : Fin 1024) (j : Fin 4096) :
    (iblk m c 7 t : FVec Ideal S1024x4096 .bf16) (ix2 k j)
      = (m ((c : Thread nD τ).loc main_arg7) : FVec Ideal S1024x7936 .f32) (ix2 k ⟨3840 + j.val, by omega⟩) := by
  obtain ⟨h0, h1⟩ := idx7 t
  unfold iblk
  rw [View.read_apply]
  show V m c main_v1 _ = m ((c : Thread nD τ).loc main_arg7) _
  entry_read
  refine extractStridedSlice_apply ![0, 3840] (m ((c : Thread nD τ).loc main_arg7) : FVec Ideal S1024x7936 .f32) slices_S1024x7936_S1024x4096_0_3840
    _ _ fun a => ?_
  match a with
  | ⟨0, _⟩ => show k.val = 0 + (win0_7.index t 0 * 1024 + 1 * k.val); omega
  | ⟨1, _⟩ => show 3840 + j.val = 3840 + (win0_7.index t 1 * 4096 + 1 * j.val); omega

/-- The branches' projections at a point: all of them. -/
theorem block8 (c : Dev nD) (t : Fin cfg0.N) (i : Fin 4) (k : Fin 256) (j : Fin 1024) :
    (iblk m c 8 t : FVec Ideal S4x256x1024 .bf16) (ix3 i k j) = (m ((c : Thread nD τ).loc main_arg8) : FVec Ideal S4x256x1024 .f32) (ix3 i k j) := by
  obtain ⟨h0, h1, h2⟩ := idx8 t
  unfold iblk
  rw [View.read_apply]
  show V m c main_v2 _ = m ((c : Thread nD τ).loc main_arg8) _
  entry_read
  refine congrArg (m ((c : Thread nD τ).loc main_arg8)) ?_
  funext a
  apply Fin.ext
  match a with
  | ⟨0, _⟩ => show win0_8.index t 0 * 4 + 1 * i.val = i.val; omega
  | ⟨1, _⟩ => show win0_8.index t 1 * 256 + 1 * k.val = k.val; omega
  | ⟨2, _⟩ => show win0_8.index t 2 * 1024 + 1 * j.val = j.val; omega

/-- The output projection at a point: all of it. -/
theorem block9 (c : Dev nD) (t : Fin cfg0.N) (k j : Fin 1024) :
    (iblk m c 9 t : FVec Ideal S1024x1024 .bf16) (ix2 k j) = (m ((c : Thread nD τ).loc main_arg9) : FVec Ideal S1024x1024 .f32) (ix2 k j) := by
  obtain ⟨h0, h1⟩ := idx9 t
  unfold iblk
  rw [View.read_apply]
  show V m c main_v3 _ = m ((c : Thread nD τ).loc main_arg9) _
  entry_read
  refine congrArg (m ((c : Thread nD τ).loc main_arg9)) ?_
  funext a
  apply Fin.ext
  match a with
  | ⟨0, _⟩ => show win0_9.index t 0 * 1024 + 1 * k.val = k.val; omega
  | ⟨1, _⟩ => show win0_9.index t 1 * 1024 + 1 * j.val = j.val; omega

/-- The self-gate's weights at a point: all of it. -/
theorem block10 (c : Dev nD) (t : Fin cfg0.N) (k j : Fin 256) :
    (iblk m c 10 t : FVec Ideal S256x256 .bf16) (ix2 k j) = (m ((c : Thread nD τ).loc main_arg10) : FVec Ideal S256x256 .f32) (ix2 k j) := by
  obtain ⟨h0, h1⟩ := idx10 t
  unfold iblk
  rw [View.read_apply]
  show V m c main_v4 _ = m ((c : Thread nD τ).loc main_arg10) _
  entry_read
  refine congrArg (m ((c : Thread nD τ).loc main_arg10)) ?_
  funext a
  apply Fin.ext
  match a with
  | ⟨0, _⟩ => show win0_10.index t 0 * 256 + 1 * k.val = k.val; omega
  | ⟨1, _⟩ => show win0_10.index t 1 * 256 + 1 * j.val = j.val; omega

/-- The self-gate's bias at a point. -/
theorem block11 (c : Dev nD) (t : Fin cfg0.N) (k : Fin 256) :
    (iblk m c 11 t : FVec Ideal S1x256 .f32) (ix2 0 k) = (m ((c : Thread nD τ).loc main_arg11) : FVec Ideal S256 .f32) (ix1 k) := by
  obtain ⟨h0, h1⟩ := idx11 t
  unfold iblk
  rw [View.read_apply]
  show V m c main_v5 _ = m ((c : Thread nD τ).loc main_arg11) _
  entry_read
  refine (congrArg _ (show _ = ix2 (0 : Fin 1) k from ?_)).trans (shapeCast_apply _ _ _ _ ?_)
  · funext a
    apply Fin.ext
    match a with
    | ⟨0, _⟩ => show win0_11.index t 0 * 1 + 1 * 0 = 0; omega
    | ⟨1, _⟩ => show win0_11.index t 1 * 256 + 1 * k.val = k.val; omega
  · refine (Shape.rowMajor_val_one (d := S256.size) _).trans (Eq.trans ?_ (Shape.rowMajor_val_two (d := S1x256.size) _).symm)
    show k.val = 0 * 256 + k.val; omega

/-- The skip weights at a point. -/
theorem block12 (c : Dev nD) (t : Fin cfg0.N) (k : Fin 256) :
    (iblk m c 12 t : FVec Ideal S1x256 .f32) (ix2 0 k) = (m ((c : Thread nD τ).loc main_arg12) : FVec Ideal S256 .f32) (ix1 k) := by
  obtain ⟨h0, h1⟩ := idx12 t
  unfold iblk
  rw [View.read_apply]
  show V m c main_v6 _ = m ((c : Thread nD τ).loc main_arg12) _
  entry_read
  refine (congrArg _ (show _ = ix2 (0 : Fin 1) k from ?_)).trans (shapeCast_apply _ _ _ _ ?_)
  · funext a
    apply Fin.ext
    match a with
    | ⟨0, _⟩ => show win0_12.index t 0 * 1 + 1 * 0 = 0; omega
    | ⟨1, _⟩ => show win0_12.index t 1 * 256 + 1 * k.val = k.val; omega
  · refine (Shape.rowMajor_val_one (d := S256.size) _).trans (Eq.trans ?_ (Shape.rowMajor_val_two (d := S1x256.size) _).symm)
    show k.val = 0 * 256 + k.val; omega

/-- The norm's scales at a point. -/
theorem block13 (c : Dev nD) (t : Fin cfg0.N) (k : Fin 1024) :
    (iblk m c 13 t : FVec Ideal S1x1024 .f32) (ix2 0 k) = (m ((c : Thread nD τ).loc main_arg13) : FVec Ideal S1024 .f32) (ix1 k) := by
  obtain ⟨h0, h1⟩ := idx13 t
  unfold iblk
  rw [View.read_apply]
  show V m c main_v7 _ = m ((c : Thread nD τ).loc main_arg13) _
  entry_read
  refine (congrArg _ (show _ = ix2 (0 : Fin 1) k from ?_)).trans (shapeCast_apply _ _ _ _ ?_)
  · funext a
    apply Fin.ext
    match a with
    | ⟨0, _⟩ => show win0_13.index t 0 * 1 + 1 * 0 = 0; omega
    | ⟨1, _⟩ => show win0_13.index t 1 * 1024 + 1 * k.val = k.val; omega
  · refine (Shape.rowMajor_val_one (d := S1024.size) _).trans (Eq.trans ?_ (Shape.rowMajor_val_two (d := S1x1024.size) _).symm)
    show k.val = 0 * 1024 + k.val; omega

/-- The norm's offsets at a point. -/
theorem block14 (c : Dev nD) (t : Fin cfg0.N) (k : Fin 1024) :
    (iblk m c 14 t : FVec Ideal S1x1024 .f32) (ix2 0 k) = (m ((c : Thread nD τ).loc main_arg14) : FVec Ideal S1024 .f32) (ix1 k) := by
  obtain ⟨h0, h1⟩ := idx14 t
  unfold iblk
  rw [View.read_apply]
  show V m c main_v8 _ = m ((c : Thread nD τ).loc main_arg14) _
  entry_read
  refine (congrArg _ (show _ = ix2 (0 : Fin 1) k from ?_)).trans (shapeCast_apply _ _ _ _ ?_)
  · funext a
    apply Fin.ext
    match a with
    | ⟨0, _⟩ => show win0_14.index t 0 * 1 + 1 * 0 = 0; omega
    | ⟨1, _⟩ => show win0_14.index t 1 * 1024 + 1 * k.val = k.val; omega
  · refine (Shape.rowMajor_val_one (d := S1024.size) _).trans (Eq.trans ?_ (Shape.rowMajor_val_two (d := S1x1024.size) _).symm)
    show k.val = 0 * 1024 + k.val; omega

/-- The weights a point finds are the arguments'. -/
theorem weights_eq (c : Dev nD) (t : Fin cfg0.N) :
    blockWeights (iblk m c 7 t) (iblk m c 8 t) (iblk m c 9 t) (iblk m c 10 t) (iblk m c 11 t) (iblk m c 12 t) (iblk m c 13 t) (iblk m c 14 t)
      = arrayWeights (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  unfold blockWeights arrayWeights
  rw [Weights.mk.injEq]
  refine ⟨funext fun i => funext fun k => funext fun j => block7 m c t k ⟨1024 * i.val + j.val, by omega⟩,
    funext fun i => funext fun k => funext fun j => block8 m c t i k j, funext fun k => funext fun j => block9 m c t k j,
    funext fun k => funext fun j => block10 m c t k j, funext fun j => block11 m c t j, funext fun j => block12 m c t j,
    funext fun j => block13 m c t j, funext fun j => block14 m c t j⟩

/-- The rows a point finds are the arguments'. -/
theorem row_eq (c : Dev nD) (t : Fin cfg0.N) (r : Fin 256) :
    blockRow (iblk m c 0 t) (iblk m c 1 t) (iblk m c 2 t) (iblk m c 3 t) (iblk m c 4 t) (iblk m c 5 t) (iblk m c 6 t) r
      = arrayRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨256 * t.val + r.val, by have := lt_N t; omega⟩ := by
  unfold blockRow arrayRow
  rw [Row.mk.injEq]
  exact ⟨funext fun k => block0 m c t r k, funext fun k => block1 m c t r k, funext fun k => block2 m c t r k,
    funext fun k => block3 m c t r k, funext fun k => block4 m c t r k, funext fun k => block5 m c t r k, funext fun k => block6 m c t r k⟩

/-- What a point flushes is its block of the merge. -/
theorem flushed_eq (c : Dev nD) (t : Fin cfg0.N) (hf : (cfg0.win 15).flush t = true) :
    (dats m 0 c).flushed 15 t = ((cfg0.win 15).blk t).view.read (Elt Ideal) (merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  obtain ⟨i0, i1⟩ := idx15 t
  have ht := lt_N t
  rw [Cert.Kernel3Ideal.Value.flushed15]
  refine funext fun (i : S256x1024.Idx) => ?_
  rw [View.read_apply]
  obtain ⟨r, j, rfl⟩ : ∃ r j, i = ix2 r j := ⟨i 0, i 1, eq_ix2 i⟩
  have hr := r.isLt
  have e : ((cfg0.win 15).blk t).view.emb (ix2 r j)
      = (ix2 (⟨256 * t.val + r.val, by omega⟩ : Fin 32768) j : S32768x1024.Idx) := by
    funext a
    apply Fin.ext
    match a with
    | ⟨0, _⟩ => show win0_15.index t 0 * 256 + 1 * r.val = 256 * t.val + r.val; omega
    | ⟨1, _⟩ => show win0_15.index t 1 * 1024 + 1 * j.val = j.val; omega
  refine Eq.trans ?_ (congrArg (merge _ _ _ _ _ _ _ _ _ _ _ _ _ _ _) e.symm)
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) r j).trans ?_
  rw [weights_eq, row_eq]
  rfl

/-- The result array ends holding the merge. -/
theorem final (c : Dev nD) : (dats m 0 c).arrAt 15 cfg0.N = merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (dats m 0 c).arrAt_eq_of_cover 15 _ (flushed_eq m c) fun (i : S32768x1024.Idx) => by
    have h0 : (i 0).val < 32768 := (i 0).isLt
    have h1 : (i 1).val < 1024 := (i 1).isLt
    have hb : (i 0).val / 256 < 128 := by omega
    let t : Fin cfg0.N := ⟨(i 0).val / 256, hb⟩
    have ht : t.val = (i 0).val / 256 := rfl
    obtain ⟨i0, i1⟩ := idx15 t
    refine ⟨t, flush0_15 t, ?_⟩
    show i ∈ ((View.whole main_v9_0).slice (win0_15.rect t)).set
    rw [View.set_slice_whole, Rect.mem_set_unit]
    intro a
    match a with
    | ⟨0, _⟩ => show win0_15.index t 0 * 256 ≤ (i 0).val ∧ (i 0).val < win0_15.index t 0 * 256 + 256; omega
    | ⟨1, _⟩ => show win0_15.index t 1 * 1024 ≤ (i 1).val ∧ (i 1).val < win0_15.index t 1 * 1024 + 1024; omega

end Cert.Proof.Merge

end
-- ==== Proof.MergeReference.lean ====
/-
  The merge's reference read at an index: each of its stages, and its result, which is the merge of every row.
-/
module

public import proofs.«01_k».proof.Proof.MergeArray
public import proofs.«01_k».proof.Proof.Gen.Reference3Ideal.Run
public import Idealize.ShloMosaic.Lib.StackMember

@[expose] public section

noncomputable section

namespace Cert.Proof.Merge.Ref

open Idealize.ShloMosaic Cert.Reference3Ideal Cert.Reference3Ideal.Gen Idealize.ShloMosaic.ValueIdx

/-- One number at every index of a row of 256. -/
def fill256 (w : BitVec 32) : FVec Ideal S32768x256 .f32 := broadcastInDim S32768x256 ![] bcast_S_S32768x256 (constant S_ .f32 w)
/-- One number at every index of a row of 1024. -/
def fill1024 (w : BitVec 32) : FVec Ideal S32768x1024 .f32 := broadcastInDim S32768x1024 ![] bcast_S_S32768x1024 (constant S_ .f32 w)

/-- A list of 256 repeated for every row. -/
def every (x : FVec Ideal S256 .f32) : FVec Ideal S32768x256 .f32 :=
  broadcastInDim S32768x256 ![0, 1] bcast_S1x256_S32768x256_0_1 (broadcastInDim S1x256 ![1] bcast_S256_S1x256_1 x)

/-- The state-space branch before its activation. -/
def scanned (sd : FVec Ideal S256 .f32) (p : FVec Ideal S32768x3840 .f32) (sf sb : FVec Ideal S32768x256 .f32) : FVec Ideal S32768x256 .f32 :=
  addf (addf (mulf (every sd) (extractStridedSlice S32768x256 ![0, 3072] p slices_S32768x3840_S32768x256_0_3072)) sf) sb

/-- The reference's gelu. -/
def act (y : FVec Ideal S32768x256 .f32) : FVec Ideal S32768x256 .f32 :=
  mulf y (mulf (fill256 0x3F000000#32) (addf (fill256 0x3F800000#32) (Host.tanh (mulf (fill256 0x3F4C422A#32)
    (addf y (mulf (fill256 0x3D372713#32) (mulf (mulf y y) y)))))))

/-- The reference's sigmoid, on rows of 256. -/
def sigmoid256 (x : FVec Ideal S32768x256 .f32) : FVec Ideal S32768x256 .f32 :=
  Host.divf (fill256 0x3F800000#32) (addf (fill256 0x3F800000#32) (Host.exp (Host.negf x)))
/-- The same on rows of 1024. -/
def sigmoid1024 (x : FVec Ideal S32768x1024 .f32) : FVec Ideal S32768x1024 .f32 :=
  Host.divf (fill1024 0x3F800000#32) (addf (fill1024 0x3F800000#32) (Host.exp (Host.negf x)))

/-- The state-space branch gated by itself. -/
def selfGated (z : FVec Ideal S32768x256 .f32) (gw : FVec Ideal S256x256 .f32) (gb : FVec Ideal S256 .f32) : FVec Ideal S32768x256 .f32 :=
  mulf z (sigmoid256 (addf (Host.dotGeneral dot_S32768x256_S256x256_S32768x256_1_0_0_1_n_n none z gw) (every gb)))

/-- The logits of all four gates. -/
def logits (h : FVec Ideal S32768x1024 .f32) (wi : FVec Ideal S1024x7936 .f32) : FVec Ideal S32768x4x1024 .f32 :=
  shapeCast S32768x4x1024 (extractStridedSlice S32768x4096 ![0, 3840]
    (Host.dotGeneral dot_S32768x1024_S1024x7936_S32768x7936_1_0_0_1_n_n none h wi) slices_S32768x7936_S32768x4096_0_3840)
    shapeCasts_S32768x4096_S32768x4x1024

/-- The logits of one gate. -/
def logit (L : FVec Ideal S32768x4x1024 .f32) (i : ℕ) (hs : S32768x4x1024.Slices ![0, i, 0] S32768x1x1024) : FVec Ideal S32768x1024 .f32 :=
  shapeCast S32768x1024 (extractStridedSlice S32768x1x1024 ![0, i, 0] L hs) shapeCasts_S32768x1x1024_S32768x1024

/-- The projection of one branch. -/
def projected (y : FVec Ideal S32768x256 .f32) (wb : FVec Ideal S4x256x1024 .f32) (i : ℕ) (hs : S4x256x1024.Slices ![i, 0, 0] S1x256x1024) :
    FVec Ideal S32768x1024 .f32 :=
  Host.dotGeneral dot_S32768x256_S256x1024_S32768x1024_1_0_0_1_n_n none y
    (shapeCast S256x1024 (extractStridedSlice S1x256x1024 ![i, 0, 0] wb hs) shapeCasts_S1x256x1024_S256x1024 : FVec Ideal S256x1024 .f32)

/-- The gated sum of the branches. -/
def sum4 (h : FVec Ideal S32768x1024 .f32) (ya yb yc yd : FVec Ideal S32768x256 .f32) (wi : FVec Ideal S1024x7936 .f32)
    (wb : FVec Ideal S4x256x1024 .f32) : FVec Ideal S32768x1024 .f32 :=
  addf (addf (addf
    (mulf (sigmoid1024 (logit (logits h wi) 0 slices_S32768x4x1024_S32768x1x1024_0_0_0)) (projected ya wb 0 slices_S4x256x1024_S1x256x1024_0_0_0))
    (mulf (sigmoid1024 (logit (logits h wi) 1 slices_S32768x4x1024_S32768x1x1024_0_1_0)) (projected yb wb 1 slices_S4x256x1024_S1x256x1024_1_0_0)))
    (mulf (sigmoid1024 (logit (logits h wi) 2 slices_S32768x4x1024_S32768x1x1024_0_2_0)) (projected yc wb 2 slices_S4x256x1024_S1x256x1024_2_0_0)))
    (mulf (sigmoid1024 (logit (logits h wi) 3 slices_S32768x4x1024_S32768x1x1024_0_3_0)) (projected yd wb 3 slices_S4x256x1024_S1x256x1024_3_0_0))

/-- The residual. -/
def resid (h s : FVec Ideal S32768x1024 .f32) (wo : FVec Ideal S1024x1024 .f32) : FVec Ideal S32768x1024 .f32 :=
  addf (mulf (fill1024 0x3FD744FD#32) h) (Host.dotGeneral dot_S32768x1024_S1024x1024_S32768x1024_1_0_0_1_n_n none s wo)

theorem fill256_apply (w : BitVec 32) (i : S32768x256.Idx) : fill256 w i = Ideal.ofBits .f32 w := broadcastInDim_scalar_apply _ _ _
theorem fill1024_apply (w : BitVec 32) (i : S32768x1024.Idx) : fill1024 w i = Ideal.ofBits .f32 w := broadcastInDim_scalar_apply _ _ _

theorem every_apply (x : FVec Ideal S256 .f32) (r : Fin 32768) (k : Fin 256) : every x (ix2 r k) = x (ix1 k) := by
  refine (broadcastInDim_apply _ _ _ _ (ix2 0 k) fun a => ?_).trans (broadcastInDim_apply _ _ _ _ (ix1 k) fun a => ?_)
  · match a with
    | ⟨0, _⟩ => rfl
    | ⟨1, _⟩ => rfl
  · match a with
    | ⟨0, _⟩ => rfl

/-- The host's quotient form of the sigmoid is the logistic function. -/
theorem sigmoid256_apply (x : FVec Ideal S32768x256 .f32) (i : S32768x256.Idx) : sigmoid256 x i = Ideal.logistic (x i) := by
  show Ideal.div (fill256 0x3F800000#32 i) (fill256 0x3F800000#32 i + Ideal.exp (-(x i))) = _
  rw [fill256_apply, Ideal.ofBits_one_f32]
  rfl

theorem sigmoid1024_apply (x : FVec Ideal S32768x1024 .f32) (i : S32768x1024.Idx) : sigmoid1024 x i = Ideal.logistic (x i) := by
  show Ideal.div (fill1024 0x3F800000#32 i) (fill1024 0x3F800000#32 i + Ideal.exp (-(x i))) = _
  rw [fill1024_apply, Ideal.ofBits_one_f32]
  rfl

theorem scanned_apply (sd : FVec Ideal S256 .f32) (p : FVec Ideal S32768x3840 .f32) (sf sb : FVec Ideal S32768x256 .f32) (r : Fin 32768)
    (k : Fin 256) :
    scanned sd p sf sb (ix2 r k) = sf (ix2 r k) + sb (ix2 r k) + sd (ix1 k) * p (ix2 r ⟨3072 + k.val, by omega⟩) := by
  show every sd (ix2 r k) * extractStridedSlice S32768x256 ![0, 3072] p slices_S32768x3840_S32768x256_0_3072 (ix2 r k)
    + sf (ix2 r k) + sb (ix2 r k) = _
  rw [every_apply, extractStridedSlice_apply ![0, 3072] p slices_S32768x3840_S32768x256_0_3072 (ix2 r k)
    (ix2 r (⟨3072 + k.val, by omega⟩ : Fin 3840)) (fun a => by
      match a with
      | ⟨0, _⟩ => show r.val = 0 + r.val; omega
      | ⟨1, _⟩ => rfl), add_assoc, add_comm]

theorem act_apply (y : FVec Ideal S32768x256 .f32) (i : S32768x256.Idx) : act y i = gelu (y i) := by
  show y i * (fill256 0x3F000000#32 i * (fill256 0x3F800000#32 i + Ideal.tanh (fill256 0x3F4C422A#32 i
    * (y i + fill256 0x3D372713#32 i * (y i * y i * y i))))) = _
  simp only [fill256_apply]
  unfold gelu
  rw [← mul_assoc, mul_comm (y i) (Ideal.ofBits .f32 0x3F000000#32)]

theorem selfGated_apply (z : FVec Ideal S32768x256 .f32) (gw : FVec Ideal S256x256 .f32) (gb : FVec Ideal S256 .f32) (r : Fin 32768)
    (j : Fin 256) :
    selfGated z gw gb (ix2 r j) = z (ix2 r j) * Ideal.logistic (∑ k : Fin 256, z (ix2 r k) * gw (ix2 k j) + gb (ix1 j)) := by
  refine congrArg (z (ix2 r j) * ·) ((sigmoid256_apply _ _).trans (congrArg Ideal.logistic ?_))
  exact congrArg₂ (· + ·) (StackMember.dotGeneral_plain_apply none z gw r j) (every_apply gb r j)

theorem logits_apply (h : FVec Ideal S32768x1024 .f32) (wi : FVec Ideal S1024x7936 .f32) (r : Fin 32768) (i : Fin 4) (j : Fin 1024) :
    logits h wi (ix3 r i j) = ∑ k : Fin 1024, h (ix2 r k) * wi (ix2 k ⟨3840 + (1024 * i.val + j.val), by omega⟩) := by
  unfold logits
  refine (shapeCast_apply _ _ _ (ix2 r (⟨1024 * i.val + j.val, by omega⟩ : Fin 4096)) ?_).trans
    ((extractStridedSlice_apply _ _ _ _ (ix2 r (⟨3840 + (1024 * i.val + j.val), by omega⟩ : Fin 7936)) fun a => ?_).trans
      (StackMember.dotGeneral_plain_apply none h wi r (⟨3840 + (1024 * i.val + j.val), by omega⟩ : Fin 7936)))
  · refine (Shape.rowMajor_val_two (d := S32768x4096.size) _).trans (Eq.trans ?_ (Shape.rowMajor_val_three (d := S32768x4x1024.size) _).symm)
    show r.val * 4096 + (1024 * i.val + j.val) = (r.val * 4 + i.val) * 1024 + j.val; omega
  · match a with
    | ⟨0, _⟩ => show r.val = 0 + r.val; omega
    | ⟨1, _⟩ => rfl

theorem logit_apply (L : FVec Ideal S32768x4x1024 .f32) (i : Fin 4) (hs) (r : Fin 32768) (j : Fin 1024) :
    logit L i.val hs (ix2 r j) = L (ix3 r i j) := by
  unfold logit
  refine (shapeCast_apply _ _ _ (ix3 r (0 : Fin 1) j) ?_).trans (extractStridedSlice_apply _ _ _ _ (ix3 r i j) fun a => ?_)
  · refine (Shape.rowMajor_val_three (d := S32768x1x1024.size) _).trans (Eq.trans ?_ (Shape.rowMajor_val_two (d := S32768x1024.size) _).symm)
    show (r.val * 1 + 0) * 1024 + j.val = r.val * 1024 + j.val; omega
  · match a with
    | ⟨0, _⟩ => show r.val = 0 + r.val; omega
    | ⟨1, _⟩ => show i.val = i.val + 0; omega
    | ⟨2, _⟩ => show j.val = 0 + j.val; omega

theorem projected_apply (y : FVec Ideal S32768x256 .f32) (wb : FVec Ideal S4x256x1024 .f32) (i : Fin 4) (hs) (r : Fin 32768) (j : Fin 1024) :
    projected y wb i.val hs (ix2 r j) = ∑ k : Fin 256, y (ix2 r k) * wb (ix3 i k j) := by
  unfold projected
  refine (StackMember.dotGeneral_plain_apply none y
    (shapeCast S256x1024 (extractStridedSlice S1x256x1024 ![i.val, 0, 0] wb hs) shapeCasts_S1x256x1024_S256x1024 : FVec Ideal S256x1024 .f32) r j).trans ?_
  refine Finset.sum_congr rfl fun k _ => congrArg (y (ix2 r k) * ·) ?_
  refine (shapeCast_apply _ _ _ (ix3 (0 : Fin 1) k j) ?_).trans (extractStridedSlice_apply _ _ _ _ (ix3 i k j) fun a => ?_)
  · refine (Shape.rowMajor_val_three (d := S1x256x1024.size) _).trans (Eq.trans ?_ (Shape.rowMajor_val_two (d := S256x1024.size) _).symm)
    show (0 * 256 + k.val) * 1024 + j.val = k.val * 1024 + j.val; omega
  · match a with
    | ⟨0, _⟩ => show i.val = i.val + 0; omega
    | ⟨1, _⟩ => show k.val = 0 + k.val; omega
    | ⟨2, _⟩ => show j.val = 0 + j.val; omega

section Result

variable (h : FVec Ideal S32768x1024 .f32) (ya yb sf sb : FVec Ideal S32768x256 .f32) (p : FVec Ideal S32768x3840 .f32)
  (yd : FVec Ideal S32768x256 .f32) (wi : FVec Ideal S1024x7936 .f32) (wb : FVec Ideal S4x256x1024 .f32) (wo : FVec Ideal S1024x1024 .f32)
  (gw : FVec Ideal S256x256 .f32) (gb sd : FVec Ideal S256 .f32) (g b : FVec Ideal S1024 .f32)

/-- The state-space branch, read. -/
theorem branch_apply (r : Fin 32768) (j : Fin 256) :
    selfGated (act (scanned sd p sf sb)) gw gb (ix2 r j)
      = gated (arrayWeights wi wb wo gw gb sd g b) (arrayRow h ya yb sf sb p yd r) j := by
  rw [selfGated_apply]
  simp only [act_apply, scanned_apply]
  rfl

/-- A gate, read. -/
theorem gate_apply (i : Fin 4) (hs) (r : Fin 32768) (j : Fin 1024) :
    sigmoid1024 (logit (logits h wi) i.val hs) (ix2 r j)
      = gate (arrayWeights wi wb wo gw gb sd g b) (arrayRow h ya yb sf sb p yd r) i j := by
  rw [sigmoid1024_apply, logit_apply, logits_apply]
  rfl

/-- The gated sum, read. -/
theorem sum4_apply (r : Fin 32768) (j : Fin 1024) :
    sum4 h ya yb (selfGated (act (scanned sd p sf sb)) gw gb) yd wi wb (ix2 r j)
      = merged (arrayWeights wi wb wo gw gb sd g b) (arrayRow h ya yb sf sb p yd r) j := by
  refine congrArg₂ (· + ·) (congrArg₂ (· + ·) (congrArg₂ (· + ·) (congrArg₂ (· * ·) (gate_apply h ya yb sf sb p yd wi wb wo gw gb sd g b 0 _ r j) ?_)
    (congrArg₂ (· * ·) (gate_apply h ya yb sf sb p yd wi wb wo gw gb sd g b 1 _ r j) ?_))
    (congrArg₂ (· * ·) (gate_apply h ya yb sf sb p yd wi wb wo gw gb sd g b 2 _ r j) ?_))
    (congrArg₂ (· * ·) (gate_apply h ya yb sf sb p yd wi wb wo gw gb sd g b 3 _ r j) ?_)
  · exact projected_apply ya wb 0 _ r j
  · exact projected_apply yb wb 1 _ r j
  · refine (projected_apply _ wb 2 _ r j).trans (Finset.sum_congr rfl fun k _ => ?_)
    rw [branch_apply h ya yb sf sb p yd wi wb wo gw gb sd g b r k]
    rfl
  · exact projected_apply yd wb 3 _ r j

/-- The residual, read. -/
theorem resid_apply (r : Fin 32768) (j : Fin 1024) :
    resid h (sum4 h ya yb (selfGated (act (scanned sd p sf sb)) gw gb) yd wi wb) wo (ix2 r j)
      = residual (arrayWeights wi wb wo gw gb sd g b) (arrayRow h ya yb sf sb p yd r) j := by
  refine congrArg₂ (· + ·) (congrArg (· * h (ix2 r j)) (fill1024_apply _ _)) ?_
  refine (StackMember.dotGeneral_plain_apply none _ wo r j).trans (Finset.sum_congr rfl fun k _ => ?_)
  rw [sum4_apply h ya yb sf sb p yd wi wb wo gw gb sd g b r k]
  rfl

theorem reduces : (RowNorm.Rows 32768).Reduces [1] (RowNorm.Lst 32768) := by decide

/-- The reference's last stage on its residual is the merge of every row. -/
theorem norm_eq :
    RowNorm.host reducesTo_S32768x1024_S32768_d1 h_S_ bcast_S32768_S32768x1_0 bcast_S_S32768x1 bcast_S32768x1_S32768x1024_0_1
      bcast_S1x1024_S32768x1024_0_1 bcast_S1024_S1x1024_1
      (resid h (sum4 h ya yb (selfGated (act (scanned sd p sf sb)) gw gb) yd wi wb) wo) g b
    = merge h ya yb sf sb p yd wi wb wo gw gb sd g b := by
  rw [RowNorm.host_eq _ _ _ _ _ _ _ reduces]
  funext i
  obtain ⟨r, j, rfl⟩ : ∃ r j, i = ix2 r j := ⟨i 0, i 1, eq_ix2 i⟩
  exact congrArg (fun f => RowNorm.normed f (g (ix1 j)) (b (ix1 j)) j) (funext fun k => resid_apply h ya yb sf sb p yd wi wb wo gw gb sd g b r k)

end Result

end Cert.Proof.Merge.Ref

end
-- ==== Proof.MergeClaim.lean ====
/-
  The certificate's claims about the merge call.
-/
module

public import proofs.«01_k».proof.Defs
public import proofs.«01_k».proof.Proof.MergeReference
public import proofs.«01_k».proof.Proof.Gen.Kernel3.Frame
public import proofs.«01_k».proof.Proof.Gen.Kernel3Ideal.Value
public import Idealize.ShloMosaic.Lib.Bf16PairInverse

@[expose] public section

noncomputable section

namespace Cert.Proof.Merge

open Idealize.ShloMosaic Idealize.SL.Sem Idealize.ShloMosaic.ValueIdx

set_option maxRecDepth 8192 in
/-- The reference's printed result is its last stage on its residual, hence the merge of every row. -/
theorem reference_eq (m : (ℓ : Loc Cert.Reference3Ideal.nD Cert.Reference3Ideal.τ Cert.Reference3Ideal.sig) → Buf (Elt Ideal) ℓ)
    (c : Dev Cert.Reference3Ideal.nD) :
    Cert.Reference3Ideal.Value.res_out0 (F := Ideal) m c
      = merge (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) := by
  refine Eq.trans ?_ (Ref.norm_eq (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)))
  unfold Cert.Reference3Ideal.Value.res_out0 Cert.Reference3Ideal.Value.res_main_v111
  rfl

/-- The kernel's frame. -/
theorem frame_kernel : Cert.quiescent_Kernel3 := fun m g _ => Cert.Kernel3.Gen.frame m g

/-- The kernel's frame at the extended reals. -/
theorem frame_kernelIdeal : Cert.quiescent_Kernel3Ideal := fun m g _ => Cert.Kernel3Ideal.Gen.frame m g

/-- The reference's frame at the extended reals. -/
theorem frame_referenceIdeal : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The rewrites that read the packed words as pairs of bf16 rows are sound where they were made. -/
theorem preserves : Cert.preserves_Kernel3_Kernel3Ideal :=
  ⟨IdealRules.bf16_pair.bufferStatement _ _, IdealRules.bf16_pair.bufferStatement _ _, IdealRules.bf16_pair.statement _ _,
    IdealRules.bf16_pack.statement _⟩

/-- The kernel and the reference end with equal results. -/
theorem algebraic : Cert.algebraic_Kernel3Ideal_Reference3Ideal := by
  intro m g m' g' _ hagree
  refine ⟨fun c => merge (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)), ?_, ?_⟩
  · refine (θ_run Cert.Kernel3Ideal.defs _ _).mono (fun r h c => ?_) (Cert.Kernel3Ideal.Value.run_blocks (F := Ideal) m g)
    exact ⟨(h c).1.trans (final m c), (h c).2.2⟩
  · refine (θ_run Cert.Reference3Ideal.defs _ _).mono (fun r h c => ?_) (Cert.Reference3Ideal.Value.run (F := Ideal) m' g')
    refine ⟨(h c).1.trans ((reference_eq m' c).trans ?_), (h c).2⟩
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

end Cert.Proof.Merge

end
-- ==== Proof.ResLn.lean ====
/-
  The layer norm of the residual sum after the feed-forward network: the kernel, its reference and their claims.
-/
module

public import proofs.«01_k».proof.Defs
public import proofs.«01_k».proof.Proof.RowNorm
public import proofs.«01_k».proof.Proof.Gen.Kernel4.Frame
public import proofs.«01_k».proof.Proof.Gen.Kernel4Ideal.Value
public import proofs.«01_k».proof.Proof.Gen.Reference4Ideal.Run
public import Idealize.ShloMosaic.Lib.Claim
public import Idealize.ShloMosaic.Adequacy
public import Idealize.ShloMosaic.Init

@[expose] public section

noncomputable section

namespace Cert.Proof.ResLn

open Idealize.ShloMosaic Cert.Kernel4Ideal Cert.Kernel4Ideal.Gen Idealize.ShloMosaic.ValueIdx Idealize.ShloMosaic.TcCoe
open Idealize.SL.Sem

variable (m : (ℓ : Loc nD τ sig) → Buf (Elt Ideal) ℓ)

theorem zero_off : (![0, 0] : Fin 2 → ℕ) = fun _ => 0 := by funext a; fin_cases a <;> rfl
theorem lt_N (t : Fin cfg0.N) : t.val < 32 := t.isLt

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel

/-- The block of the first argument at a point: 1024 of its rows. -/
theorem block0 (c : Dev nD) (t : Fin cfg0.N) (r k : Fin 1024) :
    (iblk m c 0 t : FVec Ideal S1024x1024 .f32) (ix2 r k)
      = (m ((c : Thread nD τ).loc main_arg0) : FVec Ideal S32768x1024 .f32) (ix2 ⟨1024 * t.val + r.val, by have := lt_N t; omega⟩ k) := by
  obtain ⟨h0, h1⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = 1024 * t.val + r.val; omega
  | ⟨1, _⟩ => show win0_0.index t 1 * 1024 + 1 * k.val = k.val; omega

/-- The block of the second argument at a point: 1024 of its rows. -/
theorem block1 (c : Dev nD) (t : Fin cfg0.N) (r k : Fin 1024) :
    (iblk m c 1 t : FVec Ideal S1024x1024 .f32) (ix2 r k)
      = (m ((c : Thread nD τ).loc main_arg1) : FVec Ideal S32768x1024 .f32) (ix2 ⟨1024 * t.val + r.val, by have := lt_N t; omega⟩ k) := by
  obtain ⟨h0, h1⟩ := idx1 t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 1024 + 1 * r.val = 1024 * t.val + r.val; omega
  | ⟨1, _⟩ => show win0_1.index t 1 * 1024 + 1 * k.val = k.val; omega

/-- The block of the scales: all of them. -/
theorem block2 (c : Dev nD) (t : Fin cfg0.N) (k : Fin 1024) :
    (iblk m c 2 t : FVec Ideal S1x1024 .f32) (ix2 0 k)
      = (m ((c : Thread nD τ).loc main_arg2) : FVec Ideal S1024 .f32) (ix1 k) := by
  obtain ⟨h0, h1⟩ := idx2 t
  unfold iblk
  rw [View.read_apply]
  show V m c main_v0 _ = m ((c : Thread nD τ).loc main_arg2) _
  entry_read
  refine (congrArg _ (show _ = ix2 (0 : Fin 1) k from ?_)).trans (shapeCast_apply _ _ _ _ ?_)
  · funext a
    apply Fin.ext
    match a with
    | ⟨0, _⟩ => show win0_2.index t 0 * 1 + 1 * 0 = 0; omega
    | ⟨1, _⟩ => show win0_2.index t 1 * 1024 + 1 * k.val = k.val; omega
  · refine (Shape.rowMajor_val_one (d := S1024.size) _).trans (Eq.trans ?_ (Shape.rowMajor_val_two (d := S1x1024.size) _).symm)
    show k.val = 0 * 1024 + k.val; omega

/-- The block of the offsets: all of them. -/
theorem block3 (c : Dev nD) (t : Fin cfg0.N) (k : Fin 1024) :
    (iblk m c 3 t : FVec Ideal S1x1024 .f32) (ix2 0 k)
      = (m ((c : Thread nD τ).loc main_arg3) : FVec Ideal S1024 .f32) (ix1 k) := by
  obtain ⟨h0, h1⟩ := idx3 t
  unfold iblk
  rw [View.read_apply]
  show V m c main_v1 _ = m ((c : Thread nD τ).loc main_arg3) _
  entry_read
  refine (congrArg _ (show _ = ix2 (0 : Fin 1) k from ?_)).trans (shapeCast_apply _ _ _ _ ?_)
  · funext a
    apply Fin.ext
    match a with
    | ⟨0, _⟩ => show win0_3.index t 0 * 1 + 1 * 0 = 0; omega
    | ⟨1, _⟩ => show win0_3.index t 1 * 1024 + 1 * k.val = k.val; omega
  · refine (Shape.rowMajor_val_one (d := S1024.size) _).trans (Eq.trans ?_ (Shape.rowMajor_val_two (d := S1x1024.size) _).symm)
    show k.val = 0 * 1024 + k.val; omega

/-- The residual sum: the first argument times the residual scale, plus the second. -/
def total {n : ℕ} (h f : FVec Ideal (RowNorm.Rows n) .f32) : FVec Ideal (RowNorm.Rows n) .f32 := fun i =>
  Ideal.ofBits .f32 0x3FD744FD#32 * h i + f i

/-- The block a point flushes: its rows normalized. -/
theorem out_apply (x0 : Vec Ideal S1024x1024 .f32) (x1 : Vec Ideal S1024x1024 .f32) (x2 x3 : Vec Ideal S1x1024 .f32) (r j : Fin 1024) :
    out0_4 x0 x1 x2 x3 (ix2 r j) = RowNorm.normed (fun k => (total x0 x1) (ix2 r k)) (x2 (ix2 0 j)) (x3 (ix2 0 j)) j := by
  unfold out0_4
  rw [View.canon_unit_zero zero_off]
  simp only [View.ld_unit_zero (S := S1024x1024) zero_off, View.ld_unit_zero (S := S1x1024) zero_off]
  unfold k0_pay1
  simp only [shapeCast_self]
  exact RowNorm.block_apply reduces_S1024x1024_S1024 shapeCasts_S1024_S1024x1 broadcasts_S1024x1_S1024x1024
    broadcasts_S1x1024_S1024x1024 (total x0 x1) x2 x3 r j

/-- What a point flushes is its block of the normalized array. -/
theorem flushed_eq (c : Dev nD) (t : Fin cfg0.N) (hf : (cfg0.win 4).flush t = true) :
    (dats m 0 c).flushed 4 t = ((cfg0.win 4).blk t).view.read (Elt Ideal)
      (RowNorm.rowsNormed (n := 32768) (total (m ((c : Thread nD τ).loc main_arg0)) (m ((c : Thread nD τ).loc main_arg1))) (m ((c : Thread nD τ).loc main_arg2)) (m ((c : Thread nD τ).loc main_arg3))) := by
  obtain ⟨i0, i1⟩ := idx4 t
  have ht := lt_N t
  rw [Cert.Kernel4Ideal.Value.flushed4]
  refine funext fun (i : S1024x1024.Idx) => ?_
  rw [View.read_apply]
  obtain ⟨r, j, rfl⟩ : ∃ r j, i = ix2 r j := ⟨i 0, i 1, eq_ix2 i⟩
  have e : ((cfg0.win 4).blk t).view.emb (ix2 r j)
      = (ix2 (⟨1024 * t.val + r.val, by omega⟩ : Fin 32768) j : S32768x1024.Idx) := by
    funext a
    apply Fin.ext
    match a with
    | ⟨0, _⟩ => show win0_4.index t 0 * 1024 + 1 * r.val = 1024 * t.val + r.val; omega
    | ⟨1, _⟩ => show win0_4.index t 1 * 1024 + 1 * j.val = j.val; omega
  refine Eq.trans ?_ (congrArg (RowNorm.rowsNormed (n := 32768) _ _ _) e.symm)
  refine (out_apply (iblk m c 0 t) (iblk m c 1 t) (iblk m c 2 t) (iblk m c 3 t) r j).trans ?_
  show RowNorm.normed _ _ _ j = RowNorm.normed (fun k => _) (m ((c : Thread nD τ).loc main_arg2) (ix1 j)) (m ((c : Thread nD τ).loc main_arg3) (ix1 j)) j
  rw [block2, block3]
  refine congrArg (fun f => RowNorm.normed f _ _ j) (funext fun k => ?_)
  show _ * (iblk m c 0 t : FVec Ideal S1024x1024 .f32) (ix2 r k) + (iblk m c 1 t : FVec Ideal S1024x1024 .f32) (ix2 r k) = _
  rw [block0, block1]
  rfl

/-- The result array ends holding the normalized array. -/
theorem final (c : Dev nD) :
    (dats m 0 c).arrAt 4 cfg0.N = RowNorm.rowsNormed (n := 32768) (total (m ((c : Thread nD τ).loc main_arg0)) (m ((c : Thread nD τ).loc main_arg1))) (m ((c : Thread nD τ).loc main_arg2)) (m ((c : Thread nD τ).loc main_arg3)) :=
  (dats m 0 c).arrAt_eq_of_cover 4 _ (flushed_eq m c) fun (i : S32768x1024.Idx) => by
    have h0 : (i 0).val < 32768 := (i 0).isLt
    have h1 : (i 1).val < 1024 := (i 1).isLt
    have hb : (i 0).val / 1024 < 32 := by omega
    let t : Fin cfg0.N := ⟨(i 0).val / 1024, hb⟩
    have ht : t.val = (i 0).val / 1024 := rfl
    obtain ⟨i0, i1⟩ := idx4 t
    refine ⟨t, flush0_4 t, ?_⟩
    show i ∈ ((View.whole main_v2).slice (win0_4.rect t)).set
    rw [View.set_slice_whole, Rect.mem_set_unit]
    intro a
    match a with
    | ⟨0, _⟩ => show win0_4.index t 0 * 1024 ≤ (i 0).val ∧ (i 0).val < win0_4.index t 0 * 1024 + 1024; omega
    | ⟨1, _⟩ => show win0_4.index t 1 * 1024 ≤ (i 1).val ∧ (i 1).val < win0_4.index t 1 * 1024 + 1024; omega

/-- The kernel's frame. -/
theorem frame_kernel : Cert.quiescent_Kernel4 := fun m g _ => Cert.Kernel4.Gen.frame m g

/-- The kernel's frame at the extended reals. -/
theorem frame_kernelIdeal : Cert.quiescent_Kernel4Ideal := fun m g _ => Cert.Kernel4Ideal.Gen.frame m g

/-- The reference's frame at the extended reals. -/
theorem frame_referenceIdeal : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

theorem reduces : (RowNorm.Rows 32768).Reduces [1] (RowNorm.Lst 32768) := by decide

/-- The kernel and the reference end with equal results. -/
theorem algebraic : Cert.algebraic_Kernel4Ideal_Reference4Ideal := by
  intro m g m' g' _ hagree
  refine ⟨fun c => RowNorm.rowsNormed (n := 32768) (total (m ((c : Thread Cert.Kernel4Ideal.nD Cert.Kernel4Ideal.τ).loc Cert.Kernel4Ideal.main_arg0))
    (m ((c : Thread Cert.Kernel4Ideal.nD Cert.Kernel4Ideal.τ).loc Cert.Kernel4Ideal.main_arg1)))
    (m ((c : Thread Cert.Kernel4Ideal.nD Cert.Kernel4Ideal.τ).loc Cert.Kernel4Ideal.main_arg2))
    (m ((c : Thread Cert.Kernel4Ideal.nD Cert.Kernel4Ideal.τ).loc Cert.Kernel4Ideal.main_arg3)), ?_, ?_⟩
  · refine (θ_run Cert.Kernel4Ideal.defs _ _).mono (fun r h c => ?_) (Cert.Kernel4Ideal.Value.run_blocks (F := Ideal) m g)
    exact ⟨(h c).1.trans (final m c), (h c).2⟩
  · refine (θ_run Cert.Reference4Ideal.defs _ _).mono (fun r h c => ?_) (Cert.Reference4Ideal.Value.run (F := Ideal) m' g')
    refine ⟨(h c).1.trans ?_, (h c).2⟩
    rw [(hagree c).1, (hagree c).2.1, (hagree c).2.2.1, (hagree c).2.2.2]
    exact RowNorm.host_eq Cert.Reference4Ideal.Gen.facts.reducesTo_S32768x1024_S32768_d1 Cert.Reference4Ideal.Gen.facts.h_S_
      Cert.Reference4Ideal.Gen.facts.bcast_S32768_S32768x1_0 Cert.Reference4Ideal.Gen.facts.bcast_S_S32768x1
      Cert.Reference4Ideal.Gen.facts.bcast_S32768x1_S32768x1024_0_1 Cert.Reference4Ideal.Gen.facts.bcast_S1x1024_S32768x1024_0_1
      Cert.Reference4Ideal.Gen.facts.bcast_S1024_S1x1024_1 reduces (total (m ((c : Thread Cert.Kernel4Ideal.nD Cert.Kernel4Ideal.τ).loc Cert.Kernel4Ideal.main_arg0))
    (m ((c : Thread Cert.Kernel4Ideal.nD Cert.Kernel4Ideal.τ).loc Cert.Kernel4Ideal.main_arg1)))
      (m ((c : Thread Cert.Kernel4Ideal.nD Cert.Kernel4Ideal.τ).loc Cert.Kernel4Ideal.main_arg2)) (m ((c : Thread Cert.Kernel4Ideal.nD Cert.Kernel4Ideal.τ).loc Cert.Kernel4Ideal.main_arg3))

end Cert.Proof.ResLn

end
-- ==== Proof.LnIn.lean ====
/-
  The layer norm of the input embedding: the kernel, its reference and their claims.
-/
module

public import proofs.«01_k».proof.Defs
public import proofs.«01_k».proof.Proof.RowNorm
public import proofs.«01_k».proof.Proof.Gen.Kernel5.Frame
public import proofs.«01_k».proof.Proof.Gen.Kernel5Ideal.Value
public import proofs.«01_k».proof.Proof.Gen.Reference5Ideal.Run
public import Idealize.ShloMosaic.Lib.Claim
public import Idealize.ShloMosaic.Adequacy
public import Idealize.ShloMosaic.Init

@[expose] public section

noncomputable section

namespace Cert.Proof.LnIn

open Idealize.ShloMosaic Cert.Kernel5Ideal Cert.Kernel5Ideal.Gen Idealize.ShloMosaic.ValueIdx Idealize.ShloMosaic.TcCoe
open Idealize.SL.Sem

variable (m : (ℓ : Loc nD τ sig) → Buf (Elt Ideal) ℓ)

theorem zero_off : (![0, 0] : Fin 2 → ℕ) = fun _ => 0 := by funext a; fin_cases a <;> rfl
theorem lt_N (t : Fin cfg0.N) : t.val < 32 := t.isLt

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel

/-- The block of the first argument at a point: 1024 of its rows. -/
theorem block0 (c : Dev nD) (t : Fin cfg0.N) (r k : Fin 1024) :
    (iblk m c 0 t : FVec Ideal S1024x1024 .f32) (ix2 r k)
      = (m ((c : Thread nD τ).loc main_arg0) : FVec Ideal S32768x1024 .f32) (ix2 ⟨1024 * t.val + r.val, by have := lt_N t; omega⟩ k) := by
  obtain ⟨h0, h1⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = 1024 * t.val + r.val; omega
  | ⟨1, _⟩ => show win0_0.index t 1 * 1024 + 1 * k.val = k.val; omega

/-- The block of the scales: all of them. -/
theorem block1 (c : Dev nD) (t : Fin cfg0.N) (k : Fin 1024) :
    (iblk m c 1 t : FVec Ideal S1x1024 .f32) (ix2 0 k)
      = (m ((c : Thread nD τ).loc main_arg1) : FVec Ideal S1024 .f32) (ix1 k) := by
  obtain ⟨h0, h1⟩ := idx1 t
  unfold iblk
  rw [View.read_apply]
  show V m c main_v0 _ = m ((c : Thread nD τ).loc main_arg1) _
  entry_read
  refine (congrArg _ (show _ = ix2 (0 : Fin 1) k from ?_)).trans (shapeCast_apply _ _ _ _ ?_)
  · funext a
    apply Fin.ext
    match a with
    | ⟨0, _⟩ => show win0_1.index t 0 * 1 + 1 * 0 = 0; omega
    | ⟨1, _⟩ => show win0_1.index t 1 * 1024 + 1 * k.val = k.val; omega
  · refine (Shape.rowMajor_val_one (d := S1024.size) _).trans (Eq.trans ?_ (Shape.rowMajor_val_two (d := S1x1024.size) _).symm)
    show k.val = 0 * 1024 + k.val; omega

/-- The block of the offsets: all of them. -/
theorem block2 (c : Dev nD) (t : Fin cfg0.N) (k : Fin 1024) :
    (iblk m c 2 t : FVec Ideal S1x1024 .f32) (ix2 0 k)
      = (m ((c : Thread nD τ).loc main_arg2) : FVec Ideal S1024 .f32) (ix1 k) := by
  obtain ⟨h0, h1⟩ := idx2 t
  unfold iblk
  rw [View.read_apply]
  show V m c main_v1 _ = m ((c : Thread nD τ).loc main_arg2) _
  entry_read
  refine (congrArg _ (show _ = ix2 (0 : Fin 1) k from ?_)).trans (shapeCast_apply _ _ _ _ ?_)
  · funext a
    apply Fin.ext
    match a with
    | ⟨0, _⟩ => show win0_2.index t 0 * 1 + 1 * 0 = 0; omega
    | ⟨1, _⟩ => show win0_2.index t 1 * 1024 + 1 * k.val = k.val; omega
  · refine (Shape.rowMajor_val_one (d := S1024.size) _).trans (Eq.trans ?_ (Shape.rowMajor_val_two (d := S1x1024.size) _).symm)
    show k.val = 0 * 1024 + k.val; omega

/-- The block a point flushes: its rows normalized. -/
theorem out_apply (x0 : Vec Ideal S1024x1024 .f32) (x1 x2 : Vec Ideal S1x1024 .f32) (r j : Fin 1024) :
    out0_3 x0 x1 x2 (ix2 r j) = RowNorm.normed (fun k => x0 (ix2 r k)) (x1 (ix2 0 j)) (x2 (ix2 0 j)) j := by
  unfold out0_3
  rw [View.canon_unit_zero zero_off]
  simp only [View.ld_unit_zero (S := S1024x1024) zero_off, View.ld_unit_zero (S := S1x1024) zero_off]
  unfold k0_pay1
  simp only [shapeCast_self]
  exact RowNorm.block_apply reduces_S1024x1024_S1024 shapeCasts_S1024_S1024x1 broadcasts_S1024x1_S1024x1024
    broadcasts_S1x1024_S1024x1024 x0 x1 x2 r j

/-- What a point flushes is its block of the normalized array. -/
theorem flushed_eq (c : Dev nD) (t : Fin cfg0.N) (hf : (cfg0.win 3).flush t = true) :
    (dats m 0 c).flushed 3 t = ((cfg0.win 3).blk t).view.read (Elt Ideal)
      (RowNorm.rowsNormed (n := 32768) (m ((c : Thread nD τ).loc main_arg0)) (m ((c : Thread nD τ).loc main_arg1)) (m ((c : Thread nD τ).loc main_arg2))) := by
  obtain ⟨i0, i1⟩ := idx3 t
  have ht := lt_N t
  rw [Cert.Kernel5Ideal.Value.flushed3]
  refine funext fun (i : S1024x1024.Idx) => ?_
  rw [View.read_apply]
  obtain ⟨r, j, rfl⟩ : ∃ r j, i = ix2 r j := ⟨i 0, i 1, eq_ix2 i⟩
  have e : ((cfg0.win 3).blk t).view.emb (ix2 r j)
      = (ix2 (⟨1024 * t.val + r.val, by omega⟩ : Fin 32768) j : S32768x1024.Idx) := by
    funext a
    apply Fin.ext
    match a with
    | ⟨0, _⟩ => show win0_3.index t 0 * 1024 + 1 * r.val = 1024 * t.val + r.val; omega
    | ⟨1, _⟩ => show win0_3.index t 1 * 1024 + 1 * j.val = j.val; omega
  refine Eq.trans ?_ (congrArg (RowNorm.rowsNormed (n := 32768) _ _ _) e.symm)
  refine (out_apply (iblk m c 0 t) (iblk m c 1 t) (iblk m c 2 t) r j).trans ?_
  show RowNorm.normed _ _ _ j = RowNorm.normed (fun k => _) (m ((c : Thread nD τ).loc main_arg1) (ix1 j)) (m ((c : Thread nD τ).loc main_arg2) (ix1 j)) j
  rw [block1, block2]
  refine congrArg (fun f => RowNorm.normed f _ _ j) (funext fun k => ?_)
  exact block0 m c t r k

/-- The result array ends holding the normalized array. -/
theorem final (c : Dev nD) :
    (dats m 0 c).arrAt 3 cfg0.N = RowNorm.rowsNormed (n := 32768) (m ((c : Thread nD τ).loc main_arg0)) (m ((c : Thread nD τ).loc main_arg1)) (m ((c : Thread nD τ).loc main_arg2)) :=
  (dats m 0 c).arrAt_eq_of_cover 3 _ (flushed_eq m c) fun (i : S32768x1024.Idx) => by
    have h0 : (i 0).val < 32768 := (i 0).isLt
    have h1 : (i 1).val < 1024 := (i 1).isLt
    have hb : (i 0).val / 1024 < 32 := by omega
    let t : Fin cfg0.N := ⟨(i 0).val / 1024, hb⟩
    have ht : t.val = (i 0).val / 1024 := rfl
    obtain ⟨i0, i1⟩ := idx3 t
    refine ⟨t, flush0_3 t, ?_⟩
    show i ∈ ((View.whole main_v2).slice (win0_3.rect t)).set
    rw [View.set_slice_whole, Rect.mem_set_unit]
    intro a
    match a with
    | ⟨0, _⟩ => show win0_3.index t 0 * 1024 ≤ (i 0).val ∧ (i 0).val < win0_3.index t 0 * 1024 + 1024; omega
    | ⟨1, _⟩ => show win0_3.index t 1 * 1024 ≤ (i 1).val ∧ (i 1).val < win0_3.index t 1 * 1024 + 1024; omega

/-- The kernel's frame. -/
theorem frame_kernel : Cert.quiescent_Kernel5 := fun m g _ => Cert.Kernel5.Gen.frame m g

/-- The kernel's frame at the extended reals. -/
theorem frame_kernelIdeal : Cert.quiescent_Kernel5Ideal := fun m g _ => Cert.Kernel5Ideal.Gen.frame m g

/-- The reference's frame at the extended reals. -/
theorem frame_referenceIdeal : Cert.quiescent_Reference5Ideal := fun m g _ =>
  (θ_run Cert.Reference5Ideal.defs _ _).mono (fun r h => ⟨fun c => (h c).2, sem_eq_zero_of_no_sems (by decide) r.2⟩)
    (Cert.Reference5Ideal.Value.run (F := Ideal) m g)

theorem reduces : (RowNorm.Rows 32768).Reduces [1] (RowNorm.Lst 32768) := by decide

/-- The kernel and the reference end with equal results. -/
theorem algebraic : Cert.algebraic_Kernel5Ideal_Reference5Ideal := by
  intro m g m' g' _ hagree
  refine ⟨fun c => RowNorm.rowsNormed (n := 32768) (m ((c : Thread Cert.Kernel5Ideal.nD Cert.Kernel5Ideal.τ).loc Cert.Kernel5Ideal.main_arg0))
    (m ((c : Thread Cert.Kernel5Ideal.nD Cert.Kernel5Ideal.τ).loc Cert.Kernel5Ideal.main_arg1))
    (m ((c : Thread Cert.Kernel5Ideal.nD Cert.Kernel5Ideal.τ).loc Cert.Kernel5Ideal.main_arg2)), ?_, ?_⟩
  · refine (θ_run Cert.Kernel5Ideal.defs _ _).mono (fun r h c => ?_) (Cert.Kernel5Ideal.Value.run_blocks (F := Ideal) m g)
    exact ⟨(h c).1.trans (final m c), (h c).2⟩
  · refine (θ_run Cert.Reference5Ideal.defs _ _).mono (fun r h c => ?_) (Cert.Reference5Ideal.Value.run (F := Ideal) m' g')
    refine ⟨(h c).1.trans ?_, (h c).2⟩
    rw [(hagree c).1, (hagree c).2.1, (hagree c).2.2]
    exact RowNorm.host_eq Cert.Reference5Ideal.Gen.facts.reducesTo_S32768x1024_S32768_d1 Cert.Reference5Ideal.Gen.facts.h_S_
      Cert.Reference5Ideal.Gen.facts.bcast_S32768_S32768x1_0 Cert.Reference5Ideal.Gen.facts.bcast_S_S32768x1
      Cert.Reference5Ideal.Gen.facts.bcast_S32768x1_S32768x1024_0_1 Cert.Reference5Ideal.Gen.facts.bcast_S1x1024_S32768x1024_0_1
      Cert.Reference5Ideal.Gen.facts.bcast_S1024_S1x1024_1 reduces (m ((c : Thread Cert.Kernel5Ideal.nD Cert.Kernel5Ideal.τ).loc Cert.Kernel5Ideal.main_arg0))
      (m ((c : Thread Cert.Kernel5Ideal.nD Cert.Kernel5Ideal.τ).loc Cert.Kernel5Ideal.main_arg1)) (m ((c : Thread Cert.Kernel5Ideal.nD Cert.Kernel5Ideal.τ).loc Cert.Kernel5Ideal.main_arg2))

end Cert.Proof.LnIn

end
-- ==== Proof.Router.lean ====
/-
  The router's affinities: the kernel, its reference and their claims. The kernel splits the hidden states and the
  router's weights in a high and a low part; over the reals the low parts are zero, and what is left is one product.
-/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Pre_finite_router
public import proofs.«01_k».proof.Proof.GqaPre
public import Idealize.ShloMosaic.Lib.Claim
public import Idealize.ShloMosaic.Lib.MatmulPlain
public import Idealize.ShloMosaic.Lib.StackMember
public import Idealize.ShloMosaic.Adequacy
public import Idealize.ShloMosaic.Init

@[expose] public section

noncomputable section

namespace Cert.Proof.Router

open Idealize.ShloMosaic Cert.Kernel6Ideal Cert.Kernel6Ideal.Gen Idealize.ShloMosaic.ValueIdx Idealize.ShloMosaic.TcCoe
open Idealize.SL.Sem

/-- The greatest of sixteen scores. -/
def top (s : Fin 16 → EReal) : EReal := (Finset.univ : Finset (Fin 16)).fold max ⊥ s

/-- The softmax of sixteen scores. -/
def soft (s : Fin 16 → EReal) (e : Fin 16) : EReal :=
  Ideal.div (Ideal.exp (s e - top s)) (∑ k, Ideal.exp (s k - top s))

/-- The scores of a row: its products with the sixteen columns of the weights. -/
def score (h : FVec Ideal S32768x1024 .f32) (w : FVec Ideal S1024x16 .f32) (n : Fin 32768) (e : Fin 16) : EReal :=
  ∑ k : Fin 1024, h (ix2 n k) * w (ix2 k e)

/-- The affinities: expert by row, the softmax of the row's scores. -/
def affinity (h : FVec Ideal S32768x1024 .f32) (w : FVec Ideal S1024x16 .f32) : FVec Ideal S16x32768 .f32 := fun i =>
  soft (score h w (i 1)) (i 0)

theorem ofBits_negInf : Ideal.ofBits .f32 0xFF800000#32 = ⊥ := by simp [Ideal.ofBits, Ideal.ieee]

/-- The block of scores the kernel makes of three products. -/
def logits (v0 : Vec Ideal S1024x1024 .f32) (v1 : Vec Ideal S16x1024 .f32) : FVec Ideal S16x1024 .f32 :=
  have v2 : FVec Ideal S16x1024 .f32 := shapeCast S16x1024 v1 shapeCasts_S16x1024_S16x1024
  have v3 : FVec Ideal S1024x1024 .bf16 := truncf .bf16 v0 bitsLt_bf16_f32
  have v6 : FVec Ideal S1024x1024 .bf16 := truncf .bf16 (subf v0 (extf .f32 v3 bitsLt_bf16_f32)) bitsLt_bf16_f32
  have v7 : FVec Ideal S16x1024 .bf16 := truncf .bf16 v2 bitsLt_bf16_f32
  have v10 : FVec Ideal S16x1024 .bf16 := truncf .bf16 (subf v2 (extf .f32 v7 bitsLt_bf16_f32)) bitsLt_bf16_f32
  addf (addf (matmul dot_S16x1024_S1024x1024_S16x1024_1_1_0_0_n_n none v7 v3 (constant S16x1024 .f32 0x00000000#32))
      (matmul dot_S16x1024_S1024x1024_S16x1024_1_1_0_0_n_n none v7 v6 (constant S16x1024 .f32 0x00000000#32)))
    (matmul dot_S16x1024_S1024x1024_S16x1024_1_1_0_0_n_n none v10 v3 (constant S16x1024 .f32 0x00000000#32))

/-- The kernel's softmax of each column of a block. -/
def columns (x : FVec Ideal S16x1024 .f32) : FVec Ideal S16x1024 .f32 :=
  have e : FVec Ideal S16x1024 .f32 := exp (subf x (broadcastTo S16x1024 (shapeCast S1x1024
    (multiReduction .maximumf [0] S1024 x 0xFF800000#32 reduces_S16x1024_S1024 (.inl rfl) rfl) shapeCasts_S1024_S1x1024)
    broadcasts_S1x1024_S16x1024))
  divf e (broadcastTo S16x1024 (shapeCast S1x1024
    (multiReduction .add [0] S1024 e 0x00000000#32 reduces_S16x1024_S1024 (.inl rfl) rfl) shapeCasts_S1024_S1x1024)
    broadcasts_S1x1024_S16x1024)

theorem pay_eq (v0 : Vec Ideal S1024x1024 .f32) (v1 : Vec Ideal S16x1024 .f32) : k0_pay1 v0 v1 = columns (logits v0 v1) := rfl

theorem lift_eq (j : Fin 1024) (k : Fin 16) : reduces_S16x1024_S1024.lift (ix1 j) k = ix2 k j := by
  funext c; apply Fin.ext
  fin_cases c <;> rfl

/-- One number a column, spread over the column. -/
theorem spread_apply (x : FVec Ideal S1024 .f32) (e : Fin 16) (j : Fin 1024) :
    broadcastTo S16x1024 (shapeCast S1x1024 x shapeCasts_S1024_S1x1024) broadcasts_S1x1024_S16x1024 (ix2 e j) = x (ix1 j) :=
  (broadcastTo_apply _ _ (ix2 e j) (ix2 0 j) fun a => by
    match a with
    | ⟨0, _⟩ => rfl
    | ⟨1, _⟩ => rfl).trans (shapeCast_apply _ _ _ (ix1 j) (by
      rw [Shape.rowMajor_val_one (d := S1024.size), Shape.rowMajor_val_two (d := S1x1024.size)]
      show j.val = 0 * 1024 + j.val; omega))

/-- A column's greatest entry. -/
theorem top_apply (x : FVec Ideal S16x1024 .f32) (j : Fin 1024) :
    multiReduction .maximumf [0] S1024 x 0xFF800000#32 reduces_S16x1024_S1024 (.inl rfl) rfl (ix1 j) = top fun k => x (ix2 k j) := by
  refine (Ideal.multiReduction_maximumf_single x _ _ _ _ (ix1 j)).trans ?_
  rw [show (FloatOps.ofBits .f32 0xFF800000#32 : Ideal .f32) = (⊥ : EReal) from ofBits_negInf]
  unfold top
  exact congrArg (Finset.fold max ⊥ · _) (funext fun k => congrArg x (lift_eq j k))

/-- The kernel's softmax, read. -/
theorem columns_apply (x : FVec Ideal S16x1024 .f32) (e : Fin 16) (j : Fin 1024) :
    columns x (ix2 e j) = soft (fun k => x (ix2 k j)) e := by
  unfold columns soft
  have he (k : Fin 16) : (exp (subf x (broadcastTo S16x1024 (shapeCast S1x1024
      (multiReduction .maximumf [0] S1024 x 0xFF800000#32 reduces_S16x1024_S1024 (.inl rfl) rfl) shapeCasts_S1024_S1x1024)
      broadcasts_S1x1024_S16x1024)) : FVec Ideal S16x1024 .f32) (ix2 k j) = Ideal.exp (x (ix2 k j) - top fun k => x (ix2 k j)) := by
    show Ideal.exp (x (ix2 k j) - _) = _
    rw [spread_apply, top_apply]
  refine congrArg₂ Ideal.div (he e) ?_
  rw [spread_apply]
  refine (Ideal.multiReduction_add_single _ _ _ _ _ _).trans ?_
  exact Finset.sum_congr rfl fun k _ => (congrArg _ (lift_eq j k)).trans (he k)

theorem coe_sub_self (r : ℝ) : (r : EReal) - (r : EReal) = 0 := by rw [← EReal.coe_sub, sub_self, EReal.coe_zero]

/-- The kernel's scores, where the block and the weights are real. -/
theorem logits_apply (v0 : Vec Ideal S1024x1024 .f32) (v1 : Vec Ideal S16x1024 .f32) (e : Fin 16) (j : Fin 1024)
    (h0 : ∀ k : Fin 1024, ∃ r : ℝ, v0 (ix2 j k) = (r : EReal)) (h1 : ∀ k : Fin 1024, ∃ r : ℝ, v1 (ix2 e k) = (r : EReal)) :
    logits v0 v1 (ix2 e j) = ∑ k : Fin 1024, v0 (ix2 j k) * v1 (ix2 e k) := by
  have hm (A : FVec Ideal S16x1024 .bf16) (B : FVec Ideal S1024x1024 .bf16) :
      matmul dot_S16x1024_S1024x1024_S16x1024_1_1_0_0_n_n none A B (constant S16x1024 .f32 0x00000000#32) (ix2 e j)
        = ∑ k : Fin 1024, A (ix2 e k) * B (ix2 j k) := by
    refine (Ideal.matmul_transposedRhs_apply (M := 16) (K := 1024) (N := 1024) none A B _ e j).trans ?_
    rw [show (constant (F := Ideal) S16x1024 .f32 0x00000000#32 (ix2 e j)) = 0 from Ideal.ofBits_zero_f32, zero_add]
  unfold logits
  simp only [shapeCast_self]
  refine (congrArg₂ (· + ·) (congrArg₂ (· + ·) (hm _ _) (hm _ _)) (hm _ _)).trans ?_
  have e1 : ∑ k : Fin 1024, v1 (ix2 e k) * (v0 (ix2 j k) - v0 (ix2 j k)) = 0 := Finset.sum_eq_zero fun k _ => by
    obtain ⟨r, hr⟩ := h0 k
    rw [hr, coe_sub_self, mul_zero]
  have e2 : ∑ k : Fin 1024, (v1 (ix2 e k) - v1 (ix2 e k)) * v0 (ix2 j k) = 0 := Finset.sum_eq_zero fun k _ => by
    obtain ⟨r, hr⟩ := h1 k
    rw [hr, coe_sub_self, zero_mul]
  show (∑ k : Fin 1024, v1 (ix2 e k) * v0 (ix2 j k)) + (∑ k : Fin 1024, v1 (ix2 e k) * (v0 (ix2 j k) - v0 (ix2 j k)))
    + (∑ k : Fin 1024, (v1 (ix2 e k) - v1 (ix2 e k)) * v0 (ix2 j k)) = _
  rw [e1, e2, add_zero, add_zero]
  exact Finset.sum_congr rfl fun k _ => mul_comm _ _

variable (m : (ℓ : Loc nD τ sig) → Buf (Elt Ideal) ℓ)

theorem zero_off : (![0, 0] : Fin 2 → ℕ) = fun _ => 0 := by funext a; fin_cases a <;> rfl
theorem lt_N (t : Fin cfg0.N) : t.val < 32 := t.isLt

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = t.val := by decide +kernel

/-- The block of the hidden states at a point: 1024 of their rows. -/
theorem block0 (c : Dev nD) (t : Fin cfg0.N) (r k : Fin 1024) :
    (iblk m c 0 t : FVec Ideal S1024x1024 .f32) (ix2 r k)
      = (m ((c : Thread nD τ).loc main_arg0) : FVec Ideal S32768x1024 .f32) (ix2 ⟨1024 * t.val + r.val, by have := lt_N t; omega⟩ k) := by
  obtain ⟨h0, h1⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = 1024 * t.val + r.val; omega
  | ⟨1, _⟩ => show win0_0.index t 1 * 1024 + 1 * k.val = k.val; omega

/-- The block of the weights at a point: their transpose. -/
theorem block1 (c : Dev nD) (t : Fin cfg0.N) (e : Fin 16) (k : Fin 1024) :
    (iblk m c 1 t : FVec Ideal S16x1024 .f32) (ix2 e k)
      = (m ((c : Thread nD τ).loc main_arg1) : FVec Ideal S1024x16 .f32) (ix2 k e) := by
  obtain ⟨h0, h1⟩ := idx1 t
  unfold iblk
  rw [View.read_apply]
  show V m c main_v0 _ = m ((c : Thread nD τ).loc main_arg1) _
  entry_read
  refine (congrArg _ (show _ = ix2 e k from ?_)).trans
    (transpose_apply _ (m ((c : Thread nD τ).loc main_arg1)) transposes_S1024x16_S16x1024_1_0 (ix2 e k) (ix2 k e) fun a => ?_)
  · funext a
    apply Fin.ext
    match a with
    | ⟨0, _⟩ => show win0_1.index t 0 * 16 + 1 * e.val = e.val; omega
    | ⟨1, _⟩ => show win0_1.index t 1 * 1024 + 1 * k.val = k.val; omega
  · match a with
    | ⟨0, _⟩ => rfl
    | ⟨1, _⟩ => rfl

/-- The block a point flushes. -/
theorem out_apply (x0 : Vec Ideal S1024x1024 .f32) (x1 : Vec Ideal S16x1024 .f32) (e : Fin 16) (j : Fin 1024)
    (h0 : ∀ k : Fin 1024, ∃ r : ℝ, x0 (ix2 j k) = (r : EReal)) (h1 : ∀ (e : Fin 16) (k : Fin 1024), ∃ r : ℝ, x1 (ix2 e k) = (r : EReal)) :
    out0_2 x0 x1 (ix2 e j) = soft (fun e => ∑ k : Fin 1024, x0 (ix2 j k) * x1 (ix2 e k)) e := by
  unfold out0_2
  rw [View.canon_unit_zero zero_off]
  simp only [View.ld_unit_zero (S := S1024x1024) zero_off, View.ld_unit_zero (S := S16x1024) zero_off]
  rw [pay_eq, columns_apply]
  exact congrArg (soft · e) (funext fun e => logits_apply x0 x1 e j h0 (h1 e))

/-- The hidden states and the weights are real. -/
def Real (c : Dev nD) : Prop :=
  (∀ i, ∃ r : ℝ, (m ((c.tc : Thread nD τ).loc main_arg0) : FVec Ideal S32768x1024 .f32) i = (r : EReal))
    ∧ ∀ i, ∃ r : ℝ, (m ((c.tc : Thread nD τ).loc main_arg1) : FVec Ideal S1024x16 .f32) i = (r : EReal)

/-- What a point flushes is its block of the affinities. -/
theorem flushed_eq (c : Dev nD) (hreal : Real m c) (t : Fin cfg0.N) (hf : (cfg0.win 2).flush t = true) :
    (dats m 0 c).flushed 2 t = ((cfg0.win 2).blk t).view.read (Elt Ideal)
      (affinity (m ((c : Thread nD τ).loc main_arg0)) (m ((c : Thread nD τ).loc main_arg1))) := by
  obtain ⟨i0, i1⟩ := idx2 t
  have ht := lt_N t
  rw [Cert.Kernel6Ideal.Value.flushed2]
  refine funext fun (i : S16x1024.Idx) => ?_
  rw [View.read_apply]
  obtain ⟨r, j, rfl⟩ : ∃ r j, i = ix2 r j := ⟨i 0, i 1, eq_ix2 i⟩
  have hr := r.isLt
  have hj := j.isLt
  have e : ((cfg0.win 2).blk t).view.emb (ix2 r j)
      = (ix2 (⟨r.val, by omega⟩ : Fin 16) (⟨1024 * t.val + j.val, by omega⟩ : Fin 32768) : S16x32768.Idx) := by
    funext a
    apply Fin.ext
    match a with
    | ⟨0, _⟩ => show win0_2.index t 0 * 16 + 1 * r.val = r.val; omega
    | ⟨1, _⟩ => show win0_2.index t 1 * 1024 + 1 * j.val = 1024 * t.val + j.val; omega
  refine Eq.trans ?_ (congrArg (affinity _ _) e.symm)
  refine (out_apply (iblk m c 0 t) (iblk m c 1 t) r j (fun k => ?_) fun e k => ?_).trans ?_
  · rw [block0]; exact hreal.1 _
  · rw [block1]; exact hreal.2 _
  exact congrArg (soft · r) (funext fun e => Finset.sum_congr rfl fun k _ => by rw [block0, block1])

/-- The result array ends holding the affinities. -/
theorem final (c : Dev nD) (hreal : Real m c) :
    (dats m 0 c).arrAt 2 cfg0.N = affinity (m ((c : Thread nD τ).loc main_arg0)) (m ((c : Thread nD τ).loc main_arg1)) :=
  (dats m 0 c).arrAt_eq_of_cover 2 _ (flushed_eq m c hreal) fun (i : S16x32768.Idx) => by
    have h0 : (i 0).val < 16 := (i 0).isLt
    have h1 : (i 1).val < 32768 := (i 1).isLt
    let t : Fin cfg0.N := ⟨(i 1).val / 1024, by show (i 1).val / 1024 < 32; omega⟩
    have ht : t.val = (i 1).val / 1024 := rfl
    obtain ⟨i0, i1⟩ := idx2 t
    refine ⟨t, flush0_2 t, ?_⟩
    show i ∈ ((View.whole main_v1).slice (win0_2.rect t)).set
    rw [View.set_slice_whole, Rect.mem_set_unit]
    intro a
    match a with
    | ⟨0, _⟩ => show win0_2.index t 0 * 16 ≤ (i 0).val ∧ (i 0).val < win0_2.index t 0 * 16 + 16; omega
    | ⟨1, _⟩ => show win0_2.index t 1 * 1024 ≤ (i 1).val ∧ (i 1).val < win0_2.index t 1 * 1024 + 1024; omega

section Reference

/-- The reference's scores. -/
def hostScores (h : FVec Ideal S32768x1024 .f32) (w : FVec Ideal S1024x16 .f32) : FVec Ideal Cert.Reference6Ideal.S32768x16 .f32 :=
  Host.dotGeneral Cert.Reference6Ideal.dot_S32768x1024_S1024x16_S32768x16_1_0_0_1_n_n none h w

/-- One number a row, spread over the row. -/
def hostSpread (x : FVec Ideal Cert.Reference6Ideal.S32768 .f32) : FVec Ideal Cert.Reference6Ideal.S32768x16 .f32 :=
  broadcastInDim Cert.Reference6Ideal.S32768x16 ![0, 1] Cert.Reference6Ideal.Gen.facts.bcast_S32768x1_S32768x16_0_1
    (broadcastInDim Cert.Reference6Ideal.S32768x1 ![0] Cert.Reference6Ideal.Gen.facts.bcast_S32768_S32768x1_0 x)

/-- The reference's exponentials of the scores, each row's less its greatest. -/
def hostExp (x : FVec Ideal Cert.Reference6Ideal.S32768x16 .f32) : FVec Ideal Cert.Reference6Ideal.S32768x16 .f32 :=
  Host.exp (subf x (hostSpread (maximumf
    (broadcastInDim Cert.Reference6Ideal.S32768 ![] Cert.Reference6Ideal.Gen.facts.bcast_S_S32768 (constant Cert.Reference6Ideal.S_ .f32 0xFF800000#32))
    (Host.reduce FloatOps.maximumf x (constant Cert.Reference6Ideal.S_ .f32 0xFF800000#32) Cert.Reference6Ideal.Gen.facts.reducesTo_S32768x16_S32768_d1 Cert.Reference6Ideal.Gen.facts.h_S_))))

/-- The reference's softmax of each row. -/
def hostSoft (x : FVec Ideal Cert.Reference6Ideal.S32768x16 .f32) : FVec Ideal Cert.Reference6Ideal.S32768x16 .f32 :=
  Host.divf (hostExp x) (hostSpread
    (Host.reduceAdd (hostExp x) (constant Cert.Reference6Ideal.S_ .f32 0x00000000#32) Cert.Reference6Ideal.Gen.facts.reducesTo_S32768x16_S32768_d1 Cert.Reference6Ideal.Gen.facts.h_S_))

theorem hostReduces : Cert.Reference6Ideal.S32768x16.Reduces [1] Cert.Reference6Ideal.S32768 := by decide

theorem hostLift_eq (n : Fin 32768) (k : Fin 16) : hostReduces.lift (ix1 n) k = ix2 n k := by
  funext c; apply Fin.ext
  fin_cases c <;> rfl

theorem hostSpread_apply (x : FVec Ideal Cert.Reference6Ideal.S32768 .f32) (n : Fin 32768) (e : Fin 16) :
    hostSpread x (ix2 n e) = x (ix1 n) := by
  refine (broadcastInDim_apply _ _ _ _ (ix2 n 0) fun a => ?_).trans (broadcastInDim_apply _ _ _ _ (ix1 n) fun a => ?_)
  · match a with
    | ⟨0, _⟩ => rfl
    | ⟨1, _⟩ => rfl
  · match a with
    | ⟨0, _⟩ => rfl

theorem hostExp_apply (x : FVec Ideal Cert.Reference6Ideal.S32768x16 .f32) (n : Fin 32768) (e : Fin 16) :
    hostExp x (ix2 n e) = Ideal.exp (x (ix2 n e) - top fun k => x (ix2 n k)) := by
  unfold hostExp
  show Ideal.exp (x (ix2 n e) - hostSpread _ (ix2 n e)) = _
  rw [hostSpread_apply]
  refine congrArg (fun y => Ideal.exp (x (ix2 n e) - y)) ?_
  show max (broadcastInDim Cert.Reference6Ideal.S32768 ![] Cert.Reference6Ideal.Gen.facts.bcast_S_S32768 (constant (F := Ideal) Cert.Reference6Ideal.S_ .f32 0xFF800000#32) (ix1 n))
    (Host.reduce FloatOps.maximumf x _ _ _ (ix1 n)) = _
  rw [broadcastInDim_scalar_apply, Host.reduce_eq_fold_single FloatOps.maximumf x _ _ hostReduces]
  refine (congrArg (max · _) ofBits_negInf).trans ((max_eq_right bot_le).trans ?_)
  rw [show (constant (F := Ideal) Cert.Reference6Ideal.S_ .f32 0xFF800000#32 _) = (⊥ : EReal) from ofBits_negInf]
  unfold top
  exact congrArg (Finset.fold max ⊥ · _) (funext fun k => congrArg x (hostLift_eq n k))

theorem hostSoft_apply (x : FVec Ideal Cert.Reference6Ideal.S32768x16 .f32) (n : Fin 32768) (e : Fin 16) :
    hostSoft x (ix2 n e) = soft (fun k => x (ix2 n k)) e := by
  unfold hostSoft soft
  rw [hostDivf_apply, hostSpread_apply, hostExp_apply, hostReduceAdd_apply, Ideal.hostReduceAdd_single _ hostReduces]
  refine congrArg (Ideal.div _) ?_
  refine (congrArg (· + _) Ideal.ofBits_zero_f32).trans ((zero_add _).trans ?_)
  exact Finset.sum_congr rfl fun k _ => (congrArg _ (hostLift_eq n k)).trans (hostExp_apply x n k)

/-- The reference's result is the affinities. -/
theorem reference_eq (h : FVec Ideal S32768x1024 .f32) (w : FVec Ideal S1024x16 .f32) :
    transpose Cert.Reference6Ideal.S16x32768 [1, 0] (hostSoft (hostScores h w)) Cert.Reference6Ideal.Gen.facts.transposes_S32768x16_S16x32768_1_0 = affinity h w := by
  funext i
  obtain ⟨e, n, rfl⟩ : ∃ e n, i = ix2 e n := ⟨i 0, i 1, eq_ix2 i⟩
  refine (transpose_apply _ _ _ _ (ix2 n e) fun a => ?_).trans ((hostSoft_apply _ n e).trans ?_)
  · match a with
    | ⟨0, _⟩ => rfl
    | ⟨1, _⟩ => rfl
  · exact congrArg (soft · e) (funext fun k => StackMember.dotGeneral_plain_apply none h w n k)

end Reference

instance : Subsingleton Cert.Pre_finite_router.S_.Idx := ⟨fun _ _ => funext fun a => a.elim0⟩

/-- The precondition, decoded. -/
theorem pre_real (c : Dev nD) (h : Cert.Pre_Kernel6Ideal_finite_router m) : Real m c := by
  have h1 := congrFun (h c) ix0
  have h2 := IntOp.andi_eq_one.mp h1
  exact ⟨fun i => Gqa.real_of_abs_lt (Host.reduce_andi_all _ _ _ _ _ h2.1 i), fun i => Gqa.real_of_abs_lt (Host.reduce_andi_all _ _ _ _ _ h2.2 i)⟩

/-- The kernel's frame. -/
theorem frame_kernel : Cert.quiescent_Kernel6 := fun m g _ => Cert.Kernel6.Gen.frame m g

/-- The kernel's frame at the extended reals. -/
theorem frame_kernelIdeal : Cert.quiescent_Kernel6Ideal := fun m g _ => Cert.Kernel6Ideal.Gen.frame m g

/-- The same, of finite arguments. -/
theorem frame_kernelIdeal_pre : Cert.quiescent_Kernel6Ideal_pre_finite_router := fun m g _ => Cert.Kernel6Ideal.Gen.frame m g

/-- The reference's frame at the extended reals. -/
theorem frame_referenceIdeal : Cert.quiescent_Reference6Ideal := fun m g _ =>
  (θ_run Cert.Reference6Ideal.defs _ _).mono (fun r h => ⟨fun c => (h c).2, sem_eq_zero_of_no_sems (by decide) r.2⟩)
    (Cert.Reference6Ideal.Value.run (F := Ideal) m g)

/-- The same, of finite arguments. -/
theorem frame_referenceIdeal_pre : Cert.quiescent_Reference6Ideal_pre_finite_router := fun m g _ => frame_referenceIdeal m g trivial

/-- The kernel and the reference end with equal results. -/
theorem algebraic : Cert.algebraic_Kernel6Ideal_Reference6Ideal_pre_finite_router := by
  intro m g m' g' hpre hagree
  refine ⟨fun c => affinity (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · refine (θ_run Cert.Kernel6Ideal.defs _ _).mono (fun r h c => ?_) (Cert.Kernel6Ideal.Value.run_blocks (F := Ideal) m g)
    exact ⟨(h c).1.trans (final m c (pre_real m c hpre)), (h c).2⟩
  · refine (θ_run Cert.Reference6Ideal.defs _ _).mono (fun r h c => ?_) (Cert.Reference6Ideal.Value.run (F := Ideal) m' g')
    refine ⟨(h c).1.trans ?_, (h c).2⟩
    rw [(hagree c).1, (hagree c).2]
    exact reference_eq _ _

end Cert.Proof.Router

end
-- ==== Proof.PrepRow.lean ====
/-
  One head of the attention's queries or keys, as a row of sixty-four numbers: divided by the root of its mean square,
  and its pairs of entries turned through the position's angles.
-/
module

public import Idealize.ShloMosaic.Lib.Claim
public import Idealize.ShloMosaic.Lib.MatmulPlain
public import Idealize.ShloMosaic.Init

@[expose] public section

noncomputable section

namespace Cert.Proof.Prep

open Idealize.ShloMosaic Idealize.ShloMosaic.ValueIdx

/-- The entry an entry is turned with: sixteen further in the first half of its thirty-two, sixteen back in the second. -/
def partner (d : Fin 64) : Fin 64 :=
  if h : d.val % 32 < 16 then ⟨d.val + 16, by omega⟩ else ⟨d.val - 16, by omega⟩

/-- A head over the root of its mean square, times the gains. -/
def normed (x g : Fin 64 → EReal) (d : Fin 64) : EReal :=
  x d * Ideal.rsqrt ((∑ k, x k * x k) * Ideal.ofBits .f32 0x3C800000#32 + Ideal.ofBits .f32 0x358637BD#32) * g d

/-- A head turned: each entry times its cosine, and its partner times its signed sine. -/
def turned (y cs sn : Fin 64 → EReal) (d : Fin 64) : EReal := y d * cs d + y (partner d) * sn d

/-- The entry of the angle tables a head's entry takes: the rows' table in the first half, the columns' in the second. -/
def pick (a b : FVec Ideal ⟨2, ![4096, 16]⟩ .f32) (p : Fin 4096) (d : Fin 64) : EReal :=
  if d.val < 32 then a (ix2 p ⟨d.val % 16, by omega⟩) else b (ix2 p ⟨d.val % 16, by omega⟩)

/-- The sines, negative where the partner is further on. -/
def signed (a b : FVec Ideal ⟨2, ![4096, 16]⟩ .f32) (p : Fin 4096) (d : Fin 64) : EReal :=
  if d.val % 32 < 16 then - pick a b p d else pick a b p d

/-- A head made ready: normalised and turned. -/
def ready (a b : FVec Ideal ⟨2, ![4096, 16]⟩ .f32) (x g : Fin 64 → EReal) (p : Fin 4096) (d : Fin 64) : EReal :=
  turned (normed x g) (pick (Host.cos a) (Host.cos b) p) (signed (Host.sin a) (Host.sin b) p) d

/-- Two heads lie side by side in a row of one hundred and twenty-eight. -/
def lane (h : Fin 2) (d : Fin 64) : Fin 128 := ⟨64 * h.val + d.val, by omega⟩

theorem exists_lane (l : Fin 128) : ∃ h d, l = lane h d :=
  ⟨⟨l.val / 64, by omega⟩, ⟨l.val % 64, by omega⟩, Fin.ext (by show l.val = 64 * (l.val / 64) + l.val % 64; omega)⟩

/-- A sum over a row is the sum over its two heads. -/
theorem sum_lanes (f : Fin 128 → EReal) : ∑ k, f k = ∑ d, f (lane 0 d) + ∑ d, f (lane 1 d) := by
  refine (Fin.sum_univ_add (a := 64) (b := 64) f).trans (congrArg₂ (· + ·) ?_ ?_)
  · exact Finset.sum_congr rfl fun d _ => congrArg f (Fin.ext (by show d.val = 64 * 0 + d.val; omega))
  · exact Finset.sum_congr rfl fun d _ => congrArg f (Fin.ext (by show 64 + d.val = 64 * 1 + d.val; omega))

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = (((64 : ℝ)⁻¹ : ℝ) : EReal) := by
  simp [Ideal.ofBits, Ideal.ieee, -EReal.coe_mul]; norm_num

/-- Over sixty-four, or times its inverse. -/
theorem div_64 (x : EReal) : Ideal.div x (Ideal.ofBits .f32 0x42800000#32) = x * Ideal.ofBits .f32 0x3C800000#32 := by
  rw [ofBits_64, ofBits_64th, EReal.coe_inv]
  unfold Ideal.div
  rw [if_neg (by norm_num)]

end Cert.Proof.Prep

end
-- ==== Proof.PrepBody.lean ====
/-
  What the preparation's body computes of its blocks: each head normalised and turned, the queries scaled and set in
  their half of the lanes, the values as they are.
-/
module

public import proofs.«01_k».proof.Proof.Gen.Kernel7Ideal.Value
public import proofs.«01_k».proof.Proof.PrepRow
public import Idealize.ShloMosaic.Lib.Claim
public import Idealize.ShloMosaic.Lib.KernelVsHost
public import Idealize.ShloMosaic.Lib.Pipeline.ValueKit.Tiles
public import Idealize.ShloMosaic.Init

@[expose] public section

noncomputable section

namespace Cert.Proof.Prep

open Idealize.ShloMosaic Cert.Kernel7Ideal Cert.Kernel7Ideal.Gen Idealize.ShloMosaic.ValueIdx

/-- The kernel's normalisation of a block of two heads. -/
def headsNormed (o : FVec Ideal S128x128 .bf16) (x : FVec Ideal S1024x128 .f32) (g : FVec Ideal S1x128 .f32) : FVec Ideal S1024x128 .f32 :=
  have sq : FVec Ideal S1024x128 .f32 := mulf x x
  have hi : FVec Ideal S1024x128 .bf16 := truncf .bf16 sq bitsLt_bf16_f32
  have lo : FVec Ideal S1024x128 .bf16 := truncf .bf16 (subf sq (extf .f32 hi bitsLt_bf16_f32)) bitsLt_bf16_f32
  mulf (mulf x (rsqrt (addf (mulf
      (addf (matmul dot_S1024x128_S128x128_S1024x128_1_0_0_1_n_n none hi o (constant S1024x128 .f32 0x00000000#32))
        (matmul dot_S1024x128_S128x128_S1024x128_1_0_0_1_n_n none lo o (constant S1024x128 .f32 0x00000000#32)))
      (broadcast S1024x128 (Scalar.ofBits .f32 0x3C800000#32))) (broadcast S1024x128 (Scalar.ofBits .f32 0x358637BD#32)))))
    (broadcastTo S1024x128 g broadcasts_S1x128_S1024x128)

/-- The kernel's exchange of each entry with its partner. -/
def swapped (y : FVec Ideal S1024x128 .f32) : FVec Ideal S1024x128 .f32 :=
  select (k0_pay3) (dynamicRotate 1 112#32 none y rotates_S1024x128_d1) (dynamicRotate 1 16#32 none y rotates_S1024x128_d1)

/-- The kernel's turn of a block of two heads. -/
def headsTurned (y c s : FVec Ideal S1024x128 .f32) : FVec Ideal S1024x128 .f32 := addf (mulf y c) (mulf (swapped y) s)

theorem first_half : ∀ j : Fin 128, IntOp.cmpi .slt (IntOp.andi (BitVec.ofNat 32 (0 * 128 + j.val)) 31#32) 16#32 = if j.val % 32 < 16 then 1 else 0 := by
  decide +kernel

theorem swapped_apply (y : FVec Ideal S1024x128 .f32) (r : Fin 1024) (h : Fin 2) (d : Fin 64) :
    swapped y (ix2 r (lane h d)) = y (ix2 r (lane h (partner d))) := by
  unfold swapped
  rw [select_apply]
  have hc : (k0_pay3) (ix2 r (lane h d)) = if (lane h d).val % 32 < 16 then 1 else 0 := first_half (lane h d)
  have hl : (lane h d).val = 64 * h.val + d.val := rfl
  rw [hc]
  unfold partner Scalar.select
  have hh := h.isLt
  have hd := d.isLt
  split_ifs with h1 h2 h3 h3 h4 h4
  · refine dynamicRotate_apply _ _ _ _ _ (ix2 r _) fun b => ?_
    match b with
    | ⟨0, _⟩ => rfl
    | ⟨1, _⟩ =>
      show 64 * h.val + (d.val + 16) = (64 * h.val + d.val + 128 - 112 % 128) % 128
      omega
  all_goals first
    | (exfalso; omega)
    | (exfalso; simp at *; done)
    | skip
  · refine dynamicRotate_apply _ _ _ _ _ (ix2 r _) fun b => ?_
    match b with
    | ⟨0, _⟩ => rfl
    | ⟨1, _⟩ =>
      show 64 * h.val + (d.val - 16) = (64 * h.val + d.val + 128 - 16 % 128) % 128
      omega

theorem headsTurned_apply (y c s : FVec Ideal S1024x128 .f32) (r : Fin 1024) (h : Fin 2) (d : Fin 64) :
    headsTurned y c s (ix2 r (lane h d))
      = turned (fun d => y (ix2 r (lane h d))) (fun d => c (ix2 r (lane h d))) (fun d => s (ix2 r (lane h d))) d :=
  congrArg (fun z => y (ix2 r (lane h d)) * c (ix2 r (lane h d)) + z * s (ix2 r (lane h d))) (swapped_apply y r h d)

/-- The matrix that sums each head is one inside a head and zero across. -/
def Sums (o : FVec Ideal S128x128 .bf16) : Prop :=
  ∀ h d h' d', o (ix2 (lane h d) (lane h' d')) = if h = h' then 1 else 0

/-- A product with that matrix: the sum over the head. -/
theorem sums_apply (o : FVec Ideal S128x128 .bf16) (ho : Sums o) (x : FVec Ideal S1024x128 .bf16) (r : Fin 1024) (h : Fin 2) (d : Fin 64) :
    matmul dot_S1024x128_S128x128_S1024x128_1_0_0_1_n_n none x o (constant S1024x128 .f32 0x00000000#32) (ix2 r (lane h d))
      = ∑ k, x (ix2 r (lane h k)) := by
  refine (Ideal.matmul_plain_apply (M := 1024) (K := 128) (N := 128) none x o _ r (lane h d)).trans ?_
  rw [show (constant (F := Ideal) S1024x128 .f32 0x00000000#32 (ix2 r (lane h d))) = 0 from Ideal.ofBits_zero_f32, zero_add, sum_lanes]
  have e (h' : Fin 2) : ∑ k, x (ix2 r (lane h' k)) * o (ix2 (lane h' k) (lane h d)) = if h' = h then ∑ k, x (ix2 r (lane h k)) else 0 := by
    split_ifs with he
    · subst he
      exact Finset.sum_congr rfl fun k _ => by rw [ho, if_pos rfl]; exact mul_one _
    · exact Finset.sum_eq_zero fun k _ => by rw [ho, if_neg he]; exact mul_zero _
  refine (congrArg₂ (· + ·) (e 0) (e 1)).trans ?_
  fin_cases h
  · simp
  · simp

theorem sub_self_real (a : EReal) (h : ∃ r : ℝ, a = (r : EReal)) : a * a - a * a = 0 := by
  obtain ⟨r, rfl⟩ := h
  rw [← EReal.coe_mul, ← EReal.coe_sub, sub_self, EReal.coe_zero]

/-- The kernel's normalisation, read: where the block's row is real, each head's. -/
theorem headsNormed_apply (o : FVec Ideal S128x128 .bf16) (ho : Sums o) (x : FVec Ideal S1024x128 .f32) (g : FVec Ideal S1x128 .f32)
    (r : Fin 1024) (hx : ∀ k, ∃ a : ℝ, x (ix2 r k) = (a : EReal)) (h : Fin 2) (d : Fin 64) :
    headsNormed o x g (ix2 r (lane h d)) = normed (fun d => x (ix2 r (lane h d))) (fun d => g (ix2 0 (lane h d))) d := by
  unfold headsNormed normed
  have e1 := sums_apply o ho (truncf .bf16 (mulf x x) bitsLt_bf16_f32) r h d
  have e2 := sums_apply o ho (truncf .bf16 (subf (mulf x x) (extf .f32 (truncf .bf16 (mulf x x) bitsLt_bf16_f32 : FVec Ideal S1024x128 .bf16) bitsLt_bf16_f32)) bitsLt_bf16_f32) r h d
  have e3 : ∑ k : Fin 64, (truncf .bf16 (subf (mulf x x) (extf .f32 (truncf .bf16 (mulf x x) bitsLt_bf16_f32 : FVec Ideal S1024x128 .bf16) bitsLt_bf16_f32)) bitsLt_bf16_f32 : FVec Ideal S1024x128 .bf16) (ix2 r (lane h k)) = (0 : EReal) :=
    Finset.sum_eq_zero fun k _ => sub_self_real _ (hx _)
  have e4 : broadcastTo S1024x128 g broadcasts_S1x128_S1024x128 (ix2 r (lane h d)) = g (ix2 0 (lane h d)) :=
    broadcastTo_apply _ _ _ (ix2 0 (lane h d)) fun a => by
      match a with
      | ⟨0, _⟩ => rfl
      | ⟨1, _⟩ => rfl
  show x (ix2 r (lane h d)) * Ideal.rsqrt ((_ + _) * Ideal.ofBits .f32 0x3C800000#32 + Ideal.ofBits .f32 0x358637BD#32) * _ = _
  refine congrArg₂ (· * ·) (congrArg (fun z => x (ix2 r (lane h d)) * Ideal.rsqrt (z * Ideal.ofBits .f32 0x3C800000#32 + Ideal.ofBits .f32 0x358637BD#32)) ?_) e4
  refine (congrArg₂ (· + ·) e1 (e2.trans e3)).trans ?_
  exact add_zero _

/-- The queries' scale. -/
def scale : EReal := Ideal.ofBits .f32 0x3E38AA3B#32

/-- A block of two heads of queries, made ready and scaled. -/
def headsScaled (y c s : FVec Ideal S1024x128 .f32) : FVec Ideal S1024x128 .f32 :=
  mulf (headsTurned y c s) (broadcast S1024x128 (Scalar.ofBits .f32 0x3E38AA3B#32))

/-- The kernel's layout of a head of queries: the lanes of the mask kept, the others zero, lanes by rows. -/
def laidOut (c : IVec S1024x128 1) (y : FVec Ideal S1024x128 .f32) : FVec Ideal S1x1x128x1024 .bf16 :=
  shapeCast S1x1x128x1024 (truncf .bf16 (transpose S128x1024 [1, 0]
    (select c y (broadcast S1024x128 (Scalar.ofBits .f32 0x00000000#32 : Ideal .f32))) transposes_S1024x128_p1_0_S128x1024) bitsLt_bf16_f32 : FVec Ideal S128x1024 .bf16)
    shapeCasts_S128x1024_S1x1x128x1024

theorem laidOut_apply (c : IVec S1024x128 1) (y : FVec Ideal S1024x128 .f32) (l : Fin 128) (r : Fin 1024) :
    laidOut c y (ix4 0 0 l r) = if c (ix2 r l) = 1 then y (ix2 r l) else 0 := by
  unfold laidOut
  refine (shapeCast_apply _ _ _ (ix2 l r) (by
    rw [Shape.rowMajor_val_two (d := S128x1024.size), Shape.rowMajor_val_four (d := S1x1x128x1024.size)]
    show l.val * 1024 + r.val = ((0 * 1 + 0) * 128 + l.val) * 1024 + r.val
    omega)).trans ?_
  refine (show _ = transpose S128x1024 [1, 0] (select c y (broadcast S1024x128 (Scalar.ofBits .f32 0x00000000#32 : Ideal .f32)))
    transposes_S1024x128_p1_0_S128x1024 (ix2 l r) from rfl).trans ?_
  refine (transpose_apply [1, 0] _ transposes_S1024x128_p1_0_S128x1024 (ix2 l r) (ix2 r l) fun a => ?_).trans ?_
  · match a with
    | ⟨0, _⟩ => rfl
    | ⟨1, _⟩ => rfl
  · rw [select_apply]
    unfold Scalar.select
    refine congrArg (fun z => if c (ix2 r l) = 1 then y (ix2 r l) else z) ?_
    exact Ideal.ofBits_zero_f32

theorem lower_half : ∀ j : Fin 128, IntOp.andi (IntOp.cmpi .sge (BitVec.ofNat 32 (0 * 128 + j.val)) 0#32) (IntOp.cmpi .slt (BitVec.ofNat 32 (0 * 128 + j.val)) 64#32)
    = if j.val < 64 then 1 else 0 := by
  decide +kernel

theorem upper_half : ∀ j : Fin 128, IntOp.andi (IntOp.cmpi .sge (BitVec.ofNat 32 (0 * 128 + j.val)) 64#32) (IntOp.cmpi .slt (BitVec.ofNat 32 (0 * 128 + j.val)) 128#32)
    = if j.val < 64 then 0 else 1 := by
  decide +kernel

/-- The lanes' numbers. -/
def numbers : IVec S1024x128 32 := iota .tc S1024x128 32 [1] iota_S1024x128_d1_w32

theorem lower_mask (r : Fin 1024) (h : Fin 2) (d : Fin 64) : (k0_pay9 numbers (ix2 r (lane h d)) = 1) ↔ h = 0 := by
  rw [show k0_pay9 numbers (ix2 r (lane h d)) = if (lane h d).val < 64 then 1 else 0 from lower_half (lane h d),
    show (lane h d).val = 64 * h.val + d.val from rfl]
  have hd := d.isLt
  fin_cases h <;> simp

theorem upper_mask (r : Fin 1024) (h : Fin 2) (d : Fin 64) : (k0_pay16 numbers (ix2 r (lane h d)) = 1) ↔ h = 1 := by
  rw [show k0_pay16 numbers (ix2 r (lane h d)) = if (lane h d).val < 64 then 0 else 1 from upper_half (lane h d),
    show (lane h d).val = 64 * h.val + d.val from rfl]
  have hd := d.isLt
  fin_cases h <;> simp

/-- A block moved by half its lanes: the other head. -/
theorem moved_apply (y : FVec Ideal S1024x128 .f32) (r : Fin 1024) (h h' : Fin 2) (hh : h ≠ h') (d : Fin 64) :
    dynamicRotate 1 64#32 none y rotates_S1024x128_d1 (ix2 r (lane h d)) = y (ix2 r (lane h' d)) := by
  refine dynamicRotate_apply _ _ _ _ _ (ix2 r _) fun b => ?_
  match b with
  | ⟨0, _⟩ => rfl
  | ⟨1, _⟩ =>
    show 64 * h'.val + d.val = (64 * h.val + d.val + 128 - 64 % 128) % 128
    have hd := d.isLt
    have h1 := h.isLt
    have h2 := h'.isLt
    have h3 : h.val ≠ h'.val := fun e => hh (Fin.ext e)
    omega

section Payloads
variable (v5 v7 : Vec Ideal S1024x128 .f32) (v9 : Vec Ideal S128x128 .bf16) (v11 : Vec Ideal S1024x256 .f32) (v12 : Vec Ideal S1x128 .f32)

/-- The first two heads of queries. -/
def fst (v11 : Vec Ideal S1024x256 .f32) : FVec Ideal S1024x128 .f32 := extractStridedSlice S1024x128 ![0, 0] v11 slices_S1024x256_o0_0_S1024x128
/-- The last two heads of queries. -/
def snd (v11 : Vec Ideal S1024x256 .f32) : FVec Ideal S1024x128 .f32 := extractStridedSlice S1024x128 ![0, 128] v11 slices_S1024x256_o0_128_S1024x128

theorem pay7_eq : k0_pay7 v5 v7 v9 v11 v12 = headsScaled (headsNormed v9 (fst v11) v12) v5 v7 := by
  unfold k0_pay7 k0_pay4 k0_pay5 k0_pay6
  simp only [shapeCast_self]
  rfl

theorem pay15_eq : k0_pay15 (k0_pay5 v7) (k0_pay13 k0_pay3 v9 v11 (k0_pay6 v12)) (k0_pay14 (k0_pay4 v5) v9 v11 (k0_pay6 v12))
    = headsScaled (headsNormed v9 (snd v11) v12) v5 v7 := by
  unfold k0_pay15 k0_pay14 k0_pay13 k0_pay4 k0_pay5 k0_pay6
  simp only [shapeCast_self]
  rfl

theorem pay1_eq (k : Vec Ideal S1024x128 .f32) :
    k0_pay1 k0_pay3 (k0_pay4 v5) (k0_pay5 v7) k (k0_pay19 v12) (k0_pay20 v9 k)
      = truncf .bf16 (headsTurned (headsNormed v9 k v12) v5 v7) bitsLt_bf16_f32 := by
  unfold k0_pay1 k0_pay4 k0_pay5 k0_pay19
  simp only [shapeCast_self]
  rfl

end Payloads

theorem zero_off : (![0, 0] : Fin 2 → ℕ) = fun _ => 0 := by funext a; fin_cases a <;> rfl

section Out
variable (x0 : Vec Ideal S1024x256 .f32) (x1 x2 x3 x4 : Vec Ideal S1024x128 .f32) (x5 x6 : Vec Ideal S1x128 .f32) (x7 : Vec Ideal S128x128 .bf16)

/-- The block of keys a point flushes. -/
theorem out9_apply (ho : Sums x7) (r : Fin 1024) (hx : ∀ k, ∃ a : ℝ, x1 (ix2 r k) = (a : EReal)) (h : Fin 2) (d : Fin 64) :
    out0_9 x0 x1 x2 x3 x4 x5 x6 x7 (ix2 r (lane h d))
      = turned (normed (fun d => x1 (ix2 r (lane h d))) fun d => x6 (ix2 0 (lane h d)))
          (fun d => x3 (ix2 r (lane h d))) (fun d => x4 (ix2 r (lane h d))) d := by
  unfold out0_9 k0_pay24 k0_pay23 k0_pay22
  rw [View.canon_unit_zero zero_off]
  simp only [View.ld_unit_zero (S := S1024x128) zero_off, View.ld_unit_zero (S := S128x128) zero_off, View.ld_unit_zero (S := S1x128) zero_off]
  rw [pay1_eq]
  refine (headsTurned_apply _ _ _ r h d).trans ?_
  exact congrArg (turned · _ _ d) (funext fun d => headsNormed_apply x7 ho x1 x6 r hx h d)

/-- The block of values a point flushes. -/
theorem out10_apply (l : Fin 128) (r : Fin 1024) : out0_10 x0 x1 x2 x3 x4 x5 x6 x7 (ix3 0 l r) = x2 (ix2 r l) := by
  unfold out0_10
  rw [Cert.Kernel7Ideal.Value.canon10_eq]
  simp only [View.ld_unit_zero (S := S1024x128) zero_off]
  refine congrArg x2 (funext fun a => ?_)
  match a with
  | ⟨0, _⟩ => rfl
  | ⟨1, _⟩ => rfl

/-- A head of queries of the block: its row, scaled. -/
def query (r : Fin 1024) (q : Fin 4) (d : Fin 64) : EReal :=
  turned (normed (fun d => x0 (ix2 r (⟨64 * q.val + d.val, by omega⟩ : Fin 256))) fun d => x5 (ix2 0 (lane ⟨q.val % 2, by omega⟩ d)))
    (fun d => x3 (ix2 r (lane ⟨q.val % 2, by omega⟩ d))) (fun d => x4 (ix2 r (lane ⟨q.val % 2, by omega⟩ d))) d * scale

theorem fst_apply (r : Fin 1024) (h : Fin 2) (d : Fin 64) : fst x0 (ix2 r (lane h d)) = x0 (ix2 r (⟨64 * h.val + d.val, by omega⟩ : Fin 256)) := by
  refine extractStridedSlice_apply _ _ _ _ _ fun a => ?_
  match a with
  | ⟨0, _⟩ => show r.val = 0 + r.val; omega
  | ⟨1, _⟩ => show 64 * h.val + d.val = 0 + (64 * h.val + d.val); omega

theorem snd_apply (r : Fin 1024) (h : Fin 2) (d : Fin 64) : snd x0 (ix2 r (lane h d)) = x0 (ix2 r (⟨64 * (2 + h.val) + d.val, by omega⟩ : Fin 256)) := by
  refine extractStridedSlice_apply _ _ _ _ _ fun a => ?_
  match a with
  | ⟨0, _⟩ => show r.val = 0 + r.val; omega
  | ⟨1, _⟩ => show 64 * (2 + h.val) + d.val = 128 + (64 * h.val + d.val); omega

theorem scaled_apply (ho : Sums x7) (x : FVec Ideal S1024x128 .f32) (r : Fin 1024) (h : Fin 2)
    (hx : ∀ k, ∃ a : ℝ, x (ix2 r k) = (a : EReal)) (q : Fin 4) (hq : q.val % 2 = h.val)
    (hs : ∀ d : Fin 64, x (ix2 r (lane h d)) = x0 (ix2 r (⟨64 * q.val + d.val, by omega⟩ : Fin 256))) (d : Fin 64) :
    headsScaled (headsNormed x7 x x5) x3 x4 (ix2 r (lane h d)) = query x0 x3 x4 x5 r q d := by
  have e : (⟨q.val % 2, by omega⟩ : Fin 2) = h := Fin.ext hq
  unfold query
  simp only [e]
  refine congrArg (· * scale) ((headsTurned_apply _ _ _ r _ d).trans ?_)
  refine congrArg (turned · _ _ d) (funext fun d => (headsNormed_apply x7 ho x x5 r hx _ d).trans ?_)
  exact congrArg (normed · _ d) (funext hs)

/-- The block of queries a point flushes. -/
theorem out8_apply (ho : Sums x7) (r : Fin 1024) (hx : ∀ k, ∃ a : ℝ, x0 (ix2 r k) = (a : EReal)) (q : Fin 4) (h : Fin 2) (d : Fin 64) :
    out0_8 x0 x1 x2 x3 x4 x5 x6 x7 (ix4 0 q (lane h d) r) = if q.val / 2 = h.val then query x0 x3 x4 x5 r q d else 0 := by
  have hf (k : Fin 128) : ∃ a : ℝ, fst x0 (ix2 r k) = (a : EReal) := by
    obtain ⟨h, d, rfl⟩ := exists_lane k
    rw [fst_apply]; exact hx _
  have hs (k : Fin 128) : ∃ a : ℝ, snd x0 (ix2 r k) = (a : EReal) := by
    obtain ⟨h, d, rfl⟩ := exists_lane k
    rw [snd_apply]; exact hx _
  unfold out0_8 k0_pay27 k0_pay26 k0_pay25 k0_pay24 k0_pay23 k0_pay22 k0_pay21
  simp only [View.ld_unit_zero (S := S1024x128) zero_off, View.ld_unit_zero (S := S128x128) zero_off, View.ld_unit_zero (S := S1x128) zero_off,
    View.ld_unit_zero (S := S1024x256) zero_off]
  have at0 (x : S1x1x128x1024.Idx) (n : ℕ) (hn : ∀ a, ((ix4 0 q (lane h d) r : S1x4x128x1024.Idx) a : ℕ) = (![0, n, 0, 0] : Fin 4 → ℕ) a + x a) :
      q.val = n ∧ x = ix4 0 0 (lane h d) r := by
    have h1 : q.val = n + (x 1).val := hn 1
    have h2 : (lane h d).val = 0 + (x 2).val := hn 2
    have h3 : r.val = 0 + (x 3).val := hn 3
    have b0 : (x 0).val < 1 := (x 0).isLt
    have b1 : (x 1).val < 1 := (x 1).isLt
    refine ⟨by omega, funext fun a => Fin.ext ?_⟩
    match a with
    | ⟨0, _⟩ => show (x 0).val = 0; omega
    | ⟨1, _⟩ => show (x 1).val = 0; omega
    | ⟨2, _⟩ => show (x 2).val = (lane h d).val; omega
    | ⟨3, _⟩ => show (x 3).val = r.val; omega
  refine View.canon_eq_of_allAt _ _ _ (cover0_8 _ _ _ _ _) ?_
  refine View.allAt_cons_unit _ _ _ _ _ (fun x hx => ?_) (View.allAt_cons_unit _ _ _ _ _ (fun x hx => ?_)
    (View.allAt_cons_unit _ _ _ _ _ (fun x hx => ?_) (View.allAt_cons_unit _ _ _ _ _ (fun x hx => ?_) (View.allAt_nil _ _))))
  · obtain ⟨hq, rfl⟩ := at0 x 3 hx
    refine (show _ = laidOut (k0_pay16 numbers) (k0_pay15 _ _ _) (ix4 0 0 (lane h d) r) from rfl).trans ?_
    rw [laidOut_apply, pay15_eq]
    by_cases hh : h = 1
    · subst hh
      rw [if_pos ((upper_mask r 1 d).mpr rfl), if_pos (by rw [hq]; rfl)]
      exact scaled_apply x0 x3 x4 x5 x7 ho _ r 1 hs q (by rw [hq]; rfl) (fun d => (snd_apply x0 r 1 d).trans (by simp [hq])) d
    · rw [if_neg (fun e => hh ((upper_mask r h d).mp e)), if_neg (fun e => hh (Fin.ext (by rw [← e, hq]; rfl)))]
  · obtain ⟨hq, rfl⟩ := at0 x 2 hx
    refine (show _ = laidOut (k0_pay16 numbers) (dynamicRotate 1 64#32 none (k0_pay15 _ _ _) rotates_S1024x128_d1) (ix4 0 0 (lane h d) r) from rfl).trans ?_
    rw [laidOut_apply, pay15_eq]
    by_cases hh : h = 1
    · subst hh
      rw [if_pos ((upper_mask r 1 d).mpr rfl), if_pos (by rw [hq]; rfl), moved_apply _ r 1 0 (by decide) d]
      exact scaled_apply x0 x3 x4 x5 x7 ho _ r 0 hs q (by rw [hq]; rfl) (fun d => (snd_apply x0 r 0 d).trans (by simp [hq])) d
    · rw [if_neg (fun e => hh ((upper_mask r h d).mp e)), if_neg (fun e => hh (Fin.ext (by rw [← e, hq]; rfl)))]
  · obtain ⟨hq, rfl⟩ := at0 x 1 hx
    refine (show _ = laidOut (k0_pay9 numbers) (dynamicRotate 1 64#32 none (k0_pay7 _ _ _ _ _) rotates_S1024x128_d1) (ix4 0 0 (lane h d) r) from rfl).trans ?_
    rw [laidOut_apply, pay7_eq]
    by_cases hh : h = 0
    · subst hh
      rw [if_pos ((lower_mask r 0 d).mpr rfl), if_pos (by rw [hq]; rfl), moved_apply _ r 0 1 (by decide) d]
      exact scaled_apply x0 x3 x4 x5 x7 ho _ r 1 hf q (by rw [hq]; rfl) (fun d => (fst_apply x0 r 1 d).trans (by simp [hq])) d
    · rw [if_neg (fun e => hh ((lower_mask r h d).mp e)), if_neg (fun e => hh (Fin.ext (by rw [← e, hq]; rfl)))]
  · obtain ⟨hq, rfl⟩ := at0 x 0 hx
    refine (show _ = laidOut (k0_pay9 numbers) (k0_pay7 _ _ _ _ _) (ix4 0 0 (lane h d) r) from rfl).trans ?_
    rw [laidOut_apply, pay7_eq]
    by_cases hh : h = 0
    · subst hh
      rw [if_pos ((lower_mask r 0 d).mpr rfl), if_pos (by rw [hq]; rfl)]
      exact scaled_apply x0 x3 x4 x5 x7 ho _ r 0 hf q (by rw [hq]; rfl) (fun d => (fst_apply x0 r 0 d).trans (by simp [hq])) d
    · rw [if_neg (fun e => hh ((lower_mask r h d).mp e)), if_neg (fun e => hh (Fin.ext (by rw [← e, hq]; rfl)))]

end Out

end Cert.Proof.Prep

end
-- ==== Proof.PrepTables.lean ====
/-
  The tables the preparation's host code lays out for the kernel: the angles' cosines and signed sines of each position,
  the gains of both heads, and the matrix that sums each head.
-/
module

public import proofs.«01_k».proof.Proof.PrepBody
public import Idealize.ShloMosaic.Lib.Claim
public import Idealize.ShloMosaic.Lib.IdealHost
public import Idealize.ShloMosaic.Init

@[expose] public section

noncomputable section

namespace Cert.Proof.Prep

open Idealize.ShloMosaic Cert.Kernel7Ideal Cert.Kernel7Ideal.Gen Idealize.ShloMosaic.ValueIdx Idealize.ShloMosaic.TcCoe

/-- The positions' exponents' bases: ten thousand to minus twice the number over thirty-two. -/
def bases : FVec Ideal S16 .f32 :=
  Host.powf (broadcastInDim S16 ![] bcast_S_S16 (constant S_ .f32 0x461C4000#32)) (Host.divf (Host.negf (addf
    (broadcastInDim S16 ![] bcast_S_S16 (constant S_ .f32 0x00000000#32)) (mulf (broadcastInDim S16 ![] bcast_S_S16 (constant S_ .f32 0x40000000#32))
      (sitofp .f32 (iotaInDim S16 32 0))))) (broadcastInDim S16 ![] bcast_S_S16 (constant S_ .f32 0x42000000#32)))

/-- A number of each position, times each base. -/
def angles (n : FVec Ideal S4096 .f32) : FVec Ideal S4096x16 .f32 :=
  mulf (broadcastInDim S4096x16 ![0, 1] bcast_S4096x1_S4096x16_0_1 (broadcastInDim S4096x1 ![0] bcast_S4096_S4096x1_0 n))
    (broadcastInDim S4096x16 ![0, 1] bcast_S1x16_S4096x16_0_1 (broadcastInDim S1x16 ![1] bcast_S16_S1x16_1 bases))

/-- The angles of the positions' rows. -/
def rowAngles : FVec Ideal S4096x16 .f32 :=
  angles (shapeCast S4096 (broadcastInDim S64x64 ![0] bcast_S64_S64x64_0 (sitofp .f32 (iotaInDim S64 32 0))) shapeCasts_S64x64_S4096)

/-- The columns' count, as the remainder's code reads it. -/
def count : IVec S_ 32 := select (cmpi .eq (id (constantI S_ 32 64#32)) (constantI S_ 32 0#32)) (constantI S_ 32 1#32) (id (constantI S_ 32 64#32))

/-- The positions' remainder, before its sign is mended. -/
def remainder : IVec S4096 32 := Host.remsi (iotaInDim S4096 32 0) (broadcastInDim S4096 ![] bcast_S_S4096 count)

/-- The angles of the positions' columns. -/
def columnAngles : FVec Ideal S4096x16 .f32 :=
  angles (sitofp .f32 (select (andi (cmpi .ne (cmpi .slt remainder (broadcastInDim S4096 ![] bcast_S_S4096 (constantI S_ 32 0#32)))
      (broadcastInDim S4096 ![] bcast_S_S4096 (cmpi .slt count (constantI S_ 32 0#32))))
      (cmpi .ne remainder (broadcastInDim S4096 ![] bcast_S_S4096 (constantI S_ 32 0#32))))
    (addi remainder (broadcastInDim S4096 ![] bcast_S_S4096 count)) remainder))

/-- Four tables side by side. -/
def sideBySide (a b c d : FVec Ideal S4096x16 .f32) : FVec Ideal S4096x64 .f32 :=
  concatenate S4096x64 1 [⟨S4096x16, a⟩, ⟨S4096x16, b⟩, ⟨S4096x16, c⟩, ⟨S4096x16, d⟩] concatenates_S4096x16_S4096x16_S4096x16_S4096x16_S4096x64_d1

/-- A table of one head, twice. -/
def twice (x : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 x shapeCasts_S4096x64_S1x4096x1x64)) shapeCasts_S1x4096x2x64_S4096x128

/-- One head's gains, twice. -/
def gains (g : FVec Ideal S64 .f32) : FVec Ideal S1x128 .f32 :=
  shapeCast S1x128 (shapeCast S128 (broadcastInDim S2x64 ![0, 1] bcast_S1x64_S2x64_0_1 (shapeCast S1x64 g shapeCasts_S64_S1x64)) shapeCasts_S2x64_S128) shapeCasts_S128_S1x128

/-- The matrix that sums each head: the table of the program's words. -/
def blocks : FVec Ideal S128x128 .bf16 := fun i => Ideal.ofBits .bf16 (lit0 (S128x128.rowMajor i))

variable (m : (ℓ : Loc nD τ sig) → Buf (Elt Ideal) ℓ)

theorem cosines_entry (c : Dev nD) : (V m c main_v40 : FVec Ideal S4096x128 .f32)
    = twice (sideBySide (Host.cos rowAngles) (Host.cos rowAngles) (Host.cos columnAngles) (Host.cos columnAngles)) := by
  show StableHlo.after (List.flatten [hostOps0, hostOps0_1, hostOps0_2]) (fun b => m (c, b)) (Proc.devRef .tc main_v40) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  refine (show _ = twice (sideBySide _ _ _ _) from rfl).trans ?_
  dsimp only [Matrix.cons_val]
  after_results_simp
  rfl

theorem sines_entry (c : Dev nD) : (V m c main_v43 : FVec Ideal S4096x128 .f32)
    = twice (sideBySide (Host.negf (Host.sin rowAngles)) (Host.sin rowAngles) (Host.negf (Host.sin columnAngles)) (Host.sin columnAngles)) := by
  show StableHlo.after (List.flatten [hostOps0, hostOps0_1, hostOps0_2]) (fun b => m (c, b)) (Proc.devRef .tc main_v43) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  refine (show _ = twice (sideBySide _ _ _ _) from rfl).trans ?_
  dsimp only [Matrix.cons_val]
  after_results_simp
  rfl

theorem blocks_entry (c : Dev nD) : (V m c main_cst : FVec Ideal S128x128 .bf16) = blocks := by
  show StableHlo.after (List.flatten [hostOps0, hostOps0_1, hostOps0_2]) (fun b => m (c, b)) (Proc.devRef .tc main_cst) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.reshape, StableHlo.TRef.toBuf, StableHlo.TRef.ofBuf, cast_eq]
  after_results_simp
  rfl

theorem queryGains_entry (c : Dev nD) : (V m c main_v47 : FVec Ideal S1x128 .f32) = gains (m ((c : Thread nD τ).loc main_arg1)) := by
  show StableHlo.after (List.flatten [hostOps0, hostOps0_1, hostOps0_2]) (fun b => m (c, b)) (Proc.devRef .tc main_v47) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

theorem keyGains_entry (c : Dev nD) : (V m c main_v51 : FVec Ideal S1x128 .f32) = gains (m ((c : Thread nD τ).loc main_arg2)) := by
  show StableHlo.after (List.flatten [hostOps0, hostOps0_1, hostOps0_2]) (fun b => m (c, b)) (Proc.devRef .tc main_v51) = _
  simp only [hostOps0, hostOps0_1, hostOps0_2, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp
  rfl

/-- A table of one head, twice, read. -/
theorem twice_apply (x : FVec Ideal S4096x64 .f32) (p : Fin 4096) (h : Fin 2) (d : Fin 64) : twice x (ix2 p (lane h d)) = x (ix2 p d) := by
  refine (shapeCast_apply _ _ _ (ix4 (0 : Fin 1) p h d) ?_).trans ((broadcastInDim_apply _ _ _ _ (ix4 (0 : Fin 1) p (0 : Fin 1) d) fun a => ?_).trans
    (shapeCast_apply _ _ _ (ix2 p d) ?_))
  · rw [Shape.rowMajor_val_four (d := S1x4096x2x64.size), Shape.rowMajor_val_two (d := S4096x128.size)]
    show ((0 * 4096 + p.val) * 2 + h.val) * 64 + d.val = p.val * 128 + (64 * h.val + d.val)
    omega
  · match a with
    | ⟨0, _⟩ => rfl
    | ⟨1, _⟩ => rfl
    | ⟨2, _⟩ => rfl
    | ⟨3, _⟩ => rfl
  · rw [Shape.rowMajor_val_two (d := S4096x64.size), Shape.rowMajor_val_four (d := S1x4096x1x64.size)]
    show p.val * 64 + d.val = ((0 * 4096 + p.val) * 1 + 0) * 64 + d.val
    omega

/-- Four tables side by side, read. -/
theorem sideBySide_apply (f : Fin 4 → FVec Ideal S4096x16 .f32) (p : Fin 4096) (d : Fin 64) (n : Fin 4) (hn : d.val / 16 = n.val) :
    sideBySide (f 0) (f 1) (f 2) (f 3) (ix2 p d) = f n (ix2 p ⟨d.val % 16, by omega⟩) :=
  concatenate_ofFn_apply (t := S4096x64) (s₁ := S4096x16) 1 f concatenates_S4096x16_S4096x16_S4096x16_S4096x16_S4096x64_d1 rfl 16 rfl (ix2 p d) n hn
    (ix2 p ⟨d.val % 16, by omega⟩) rfl fun b hb => by
      match b with
      | ⟨0, _⟩ => rfl
      | ⟨1, _⟩ => exact absurd rfl hb

/-- The table of cosines, read. -/
theorem cosines_apply (a b : FVec Ideal S4096x16 .f32) (p : Fin 4096) (h : Fin 2) (d : Fin 64) :
    twice (sideBySide (Host.cos a) (Host.cos a) (Host.cos b) (Host.cos b)) (ix2 p (lane h d)) = pick (Host.cos a) (Host.cos b) p d := by
  rw [twice_apply]
  unfold pick
  rcases (by omega : d.val / 16 = 0 ∨ d.val / 16 = 1 ∨ d.val / 16 = 2 ∨ d.val / 16 = 3) with e | e | e | e
  · rw [if_pos (by omega)]; exact sideBySide_apply ![Host.cos a, Host.cos a, Host.cos b, Host.cos b] p d 0 e
  · rw [if_pos (by omega)]; exact sideBySide_apply ![Host.cos a, Host.cos a, Host.cos b, Host.cos b] p d 1 e
  · rw [if_neg (by omega)]; exact sideBySide_apply ![Host.cos a, Host.cos a, Host.cos b, Host.cos b] p d 2 e
  · rw [if_neg (by omega)]; exact sideBySide_apply ![Host.cos a, Host.cos a, Host.cos b, Host.cos b] p d 3 e

/-- The table of signed sines, read. -/
theorem sines_apply (a b : FVec Ideal S4096x16 .f32) (p : Fin 4096) (h : Fin 2) (d : Fin 64) :
    twice (sideBySide (Host.negf (Host.sin a)) (Host.sin a) (Host.negf (Host.sin b)) (Host.sin b)) (ix2 p (lane h d)) = signed (Host.sin a) (Host.sin b) p d := by
  rw [twice_apply]
  unfold signed pick
  rcases (by omega : d.val / 16 = 0 ∨ d.val / 16 = 1 ∨ d.val / 16 = 2 ∨ d.val / 16 = 3) with e | e | e | e
  · rw [if_pos (by omega), if_pos (by omega)]; exact sideBySide_apply ![Host.negf (Host.sin a), Host.sin a, Host.negf (Host.sin b), Host.sin b] p d 0 e
  · rw [if_neg (by omega), if_pos (by omega)]; exact sideBySide_apply ![Host.negf (Host.sin a), Host.sin a, Host.negf (Host.sin b), Host.sin b] p d 1 e
  · rw [if_pos (by omega), if_neg (by omega)]; exact sideBySide_apply ![Host.negf (Host.sin a), Host.sin a, Host.negf (Host.sin b), Host.sin b] p d 2 e
  · rw [if_neg (by omega), if_neg (by omega)]; exact sideBySide_apply ![Host.negf (Host.sin a), Host.sin a, Host.negf (Host.sin b), Host.sin b] p d 3 e

/-- The gains of both heads, read. -/
theorem gains_apply (g : FVec Ideal S64 .f32) (h : Fin 2) (d : Fin 64) : gains g (ix2 0 (lane h d)) = g (ix1 d) := by
  refine (shapeCast_apply _ _ _ (ix1 (lane h d)) ?_).trans ((shapeCast_apply _ _ _ (ix2 h d) ?_).trans
    ((broadcastInDim_apply _ _ _ _ (ix2 (0 : Fin 1) d) fun a => ?_).trans (shapeCast_apply _ _ _ (ix1 d) ?_)))
  · rw [Shape.rowMajor_val_one (d := S128.size), Shape.rowMajor_val_two (d := S1x128.size)]
    show (lane h d).val = 0 * 128 + (lane h d).val
    omega
  · rw [Shape.rowMajor_val_two (d := S2x64.size), Shape.rowMajor_val_one (d := S128.size)]
    show h.val * 64 + d.val = 64 * h.val + d.val
    omega
  · match a with
    | ⟨0, _⟩ => rfl
    | ⟨1, _⟩ => rfl
  · rw [Shape.rowMajor_val_one (d := S64.size), Shape.rowMajor_val_two (d := S1x64.size)]
    show d.val = 0 * 64 + d.val
    omega

/-- The words of that table: one where row and column are of the same head, else zero. -/
theorem words : ∀ r c : Fin 128, lit0t (r.val * 128 + c.val) = if r.val / 64 = c.val / 64 then 0x3F80#16 else 0x0000#16 := by
  decide +kernel

/-- The matrix sums each head. -/
theorem blocks_sums : Sums blocks := fun h d h' d' => by
  have e : (S128x128.rowMajor (ix2 (lane h d) (lane h' d'))).val = (lane h d).val * 128 + (lane h' d').val := Shape.rowMajor_val_two _
  show Ideal.ofBits .bf16 (lit0t (S128x128.rowMajor (ix2 (lane h d) (lane h' d'))).val) = _
  rw [e, words, show (lane h d).val = 64 * h.val + d.val from rfl, show (lane h' d').val = 64 * h'.val + d'.val from rfl,
    show (64 * h.val + d.val) / 64 = h.val by omega, show (64 * h'.val + d'.val) / 64 = h'.val by omega]
  by_cases g : h = h'
  · rw [if_pos g, if_pos (congrArg Fin.val g), Ideal.ofBits_one_bf16]
  · rw [if_neg g, if_neg fun k => g (Fin.ext k), Ideal.ofBits_zero_bf16]

end Cert.Proof.Prep

end
-- ==== Proof.PrepArray.lean ====
/-
  The arrays the preparation ends with: the queries, the keys and the values, each block of them what a point flushes.
-/
module

public import proofs.«01_k».proof.Proof.PrepTables
public import Idealize.ShloMosaic.Lib.Claim
public import Idealize.ShloMosaic.Init

@[expose] public section

noncomputable section

namespace Cert.Proof.Prep

open Idealize.ShloMosaic Cert.Kernel7Ideal Cert.Kernel7Ideal.Gen Idealize.ShloMosaic.ValueIdx Idealize.ShloMosaic.TcCoe

/-- A head of queries, as the projections' row holds it. -/
def queryHead (x : FVec Ideal S32768x3840 .f32) (n : Fin 32768) (q : Fin 4) (k : Fin 64) : EReal :=
  x (ix2 n ⟨3328 + 64 * q.val + k.val, by omega⟩)

/-- A head of keys, as the projections' row holds it. -/
def keyHead (x : FVec Ideal S32768x3840 .f32) (n : Fin 32768) (h : Fin 2) (k : Fin 64) : EReal :=
  x (ix2 n ⟨3584 + 64 * h.val + k.val, by omega⟩)

/-- An entry of the queries: the head ready and scaled, in the lanes of its keys' head, and zero in the other's. -/
def queryAt (x : FVec Ideal S32768x3840 .f32) (g : FVec Ideal S64 .f32) (b : Fin 8) (q : Fin 4) (l : Fin 128) (p : Fin 4096) : EReal :=
  if q.val / 2 = l.val / 64 then
    ready rowAngles columnAngles (queryHead x ⟨4096 * b.val + p.val, by omega⟩ q) (fun d => g (ix1 d)) p ⟨l.val % 64, by omega⟩ * scale
  else 0

/-- An entry of the keys. -/
def keyAt (x : FVec Ideal S32768x3840 .f32) (g : FVec Ideal S64 .f32) (n : Fin 32768) (l : Fin 128) : EReal :=
  ready rowAngles columnAngles (keyHead x n ⟨l.val / 64, by omega⟩) (fun d => g (ix1 d)) ⟨n.val % 4096, by omega⟩ ⟨l.val % 64, by omega⟩

/-- An entry of the values. -/
def valueAt (x : FVec Ideal S32768x3840 .f32) (b : Fin 8) (l : Fin 128) (p : Fin 4096) : EReal :=
  x (ix2 ⟨4096 * b.val + p.val, by omega⟩ ⟨3712 + l.val, by omega⟩)

/-- The queries. -/
def queries (x : FVec Ideal S32768x3840 .f32) (g : FVec Ideal S64 .f32) : FVec Ideal S8x4x128x4096 .bf16 := fun i =>
  queryAt x g (i 0) (i 1) (i 2) (i 3)

/-- The keys. -/
def keys (x : FVec Ideal S32768x3840 .f32) (g : FVec Ideal S64 .f32) : FVec Ideal S32768x128 .bf16 := fun i => keyAt x g (i 0) (i 1)

/-- The values. -/
def values (x : FVec Ideal S32768x3840 .f32) : FVec Ideal S8x128x4096 .bf16 := fun i => valueAt x (i 0) (i 1) (i 2)

variable (m : (ℓ : Loc nD τ sig) → Buf (Elt Ideal) ℓ)

theorem lt_N (t : Fin cfg0.N) : t.val < 32 := t.isLt

theorem idx0 : ∀ t : Fin cfg0.N, win0_0.index t 0 = t.val ∧ win0_0.index t 1 = 13 := by decide +kernel
theorem idx1 : ∀ t : Fin cfg0.N, win0_1.index t 0 = t.val ∧ win0_1.index t 1 = 28 := by decide +kernel
theorem idx2 : ∀ t : Fin cfg0.N, win0_2.index t 0 = t.val ∧ win0_2.index t 1 = 29 := by decide +kernel
theorem idx3 : ∀ t : Fin cfg0.N, win0_3.index t 0 = t.val % 4 ∧ win0_3.index t 1 = 0 := by decide +kernel
theorem idx4 : ∀ t : Fin cfg0.N, win0_4.index t 0 = t.val % 4 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = t.val / 4 ∧ win0_8.index t 1 = 0 ∧ win0_8.index t 2 = 0 ∧ win0_8.index t 3 = t.val % 4 := by
  decide +kernel
theorem idx9 : ∀ t : Fin cfg0.N, win0_9.index t 0 = t.val ∧ win0_9.index t 1 = 0 := by decide +kernel
theorem idx10 : ∀ t : Fin cfg0.N, win0_10.index t 0 = t.val / 4 ∧ win0_10.index t 1 = 0 ∧ win0_10.index t 2 = t.val % 4 := by decide +kernel

/-- The block of queries at a point. -/
theorem block0 (c : Dev nD) (t : Fin cfg0.N) (r : Fin 1024) (k : Fin 256) :
    (iblk m c 0 t : FVec Ideal S1024x256 .f32) (ix2 r k) = (m ((c : Thread nD τ).loc main_arg0) : FVec Ideal S32768x3840 .f32)
      (ix2 ⟨1024 * t.val + r.val, by have := lt_N t; omega⟩ ⟨3328 + k.val, by omega⟩) := by
  obtain ⟨h0, h1⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = 1024 * t.val + r.val; omega
  | ⟨1, _⟩ => show win0_0.index t 1 * 256 + 1 * k.val = 3328 + k.val; omega

/-- The block of keys at a point. -/
theorem block1 (c : Dev nD) (t : Fin cfg0.N) (r : Fin 1024) (k : Fin 128) :
    (iblk m c 1 t : FVec Ideal S1024x128 .f32) (ix2 r k) = (m ((c : Thread nD τ).loc main_arg0) : FVec Ideal S32768x3840 .f32)
      (ix2 ⟨1024 * t.val + r.val, by have := lt_N t; omega⟩ ⟨3584 + k.val, by omega⟩) := by
  obtain ⟨h0, h1⟩ := idx1 t
  unfold iblk
  rw [View.read_apply]
  show V m c main_arg0 _ = m ((c : Thread nD τ).loc main_arg0) _
  rw [V_main_arg0]
  congr 1
  funext a
  apply Fin.ext
  match a with
  | ⟨0, _⟩ => show win0_1.index t 0 * 1024 + 1 * r.val = 1024 * t.val + r.val; omega
  | ⟨1, _⟩ => show win0_1.index t 1 * 128 + 1 * k.val = 3584 + k.val; omega

/-- The block of values at a point. -/
theorem block2 (c : Dev nD) (t : Fin cfg0.N) (r : Fin 1024) (k : Fin 128) :
    (iblk m c 2 t : FVec Ideal S1024x128 .f32) (ix2 r k) = (m ((c : Thread nD τ).loc main_arg0) : FVec Ideal S32768x3840 .f32)
      (ix2 ⟨1024 * t.val + r.val, by have := lt_N t; omega⟩ ⟨3712 + k.val, by omega⟩) := by
  obtain ⟨h0, h1⟩ := idx2 t
  unfold iblk
  rw [View.read_apply]
  show V m c main_arg0 _ = m ((c : Thread nD τ).loc main_arg0) _
  rw [V_main_arg0]
  congr 1
  funext a
  apply Fin.ext
  match a with
  | ⟨0, _⟩ => show win0_2.index t 0 * 1024 + 1 * r.val = 1024 * t.val + r.val; omega
  | ⟨1, _⟩ => show win0_2.index t 1 * 128 + 1 * k.val = 3712 + k.val; omega

/-- The position of a row of a point's block. -/
def position (t : Fin cfg0.N) (r : Fin 1024) : Fin 4096 := ⟨1024 * (t.val % 4) + r.val, by omega⟩

/-- The block of cosines at a point. -/
theorem block3 (c : Dev nD) (t : Fin cfg0.N) (r : Fin 1024) (h : Fin 2) (d : Fin 64) :
    (iblk m c 3 t : FVec Ideal S1024x128 .f32) (ix2 r (lane h d)) = pick (Host.cos rowAngles) (Host.cos columnAngles) (position t r) d := by
  obtain ⟨h0, h1⟩ := idx3 t
  unfold iblk
  rw [View.read_apply]
  show (V m c main_v40 : FVec Ideal S4096x128 .f32) _ = _
  rw [cosines_entry]
  refine Eq.trans (congrArg _ ?_) (cosines_apply rowAngles columnAngles (position t r) h d)
  funext a
  apply Fin.ext
  match a with
  | ⟨0, _⟩ => show win0_3.index t 0 * 1024 + 1 * r.val = 1024 * (t.val % 4) + r.val; omega
  | ⟨1, _⟩ => show win0_3.index t 1 * 128 + 1 * (lane h d).val = (lane h d).val; omega

/-- The block of signed sines at a point. -/
theorem block4 (c : Dev nD) (t : Fin cfg0.N) (r : Fin 1024) (h : Fin 2) (d : Fin 64) :
    (iblk m c 4 t : FVec Ideal S1024x128 .f32) (ix2 r (lane h d)) = signed (Host.sin rowAngles) (Host.sin columnAngles) (position t r) d := by
  obtain ⟨h0, h1⟩ := idx4 t
  unfold iblk
  rw [View.read_apply]
  show (V m c main_v43 : FVec Ideal S4096x128 .f32) _ = _
  rw [sines_entry]
  refine Eq.trans (congrArg _ ?_) (sines_apply rowAngles columnAngles (position t r) h d)
  funext a
  apply Fin.ext
  match a with
  | ⟨0, _⟩ => show win0_4.index t 0 * 1024 + 1 * r.val = 1024 * (t.val % 4) + r.val; omega
  | ⟨1, _⟩ => show win0_4.index t 1 * 128 + 1 * (lane h d).val = (lane h d).val; omega

/-- The block of the queries' gains. -/
theorem block5 (c : Dev nD) (t : Fin cfg0.N) (h : Fin 2) (d : Fin 64) :
    (iblk m c 5 t : FVec Ideal S1x128 .f32) (ix2 0 (lane h d)) = (m ((c : Thread nD τ).loc main_arg1) : FVec Ideal S64 .f32) (ix1 d) := by
  obtain ⟨h0, h1⟩ := idx5 t
  unfold iblk
  rw [View.read_apply]
  show (V m c main_v47 : FVec Ideal S1x128 .f32) _ = _
  rw [queryGains_entry]
  refine Eq.trans (congrArg _ ?_) (gains_apply _ h d)
  funext a
  apply Fin.ext
  match a with
  | ⟨0, _⟩ => show win0_5.index t 0 * 1 + 1 * 0 = 0; omega
  | ⟨1, _⟩ => show win0_5.index t 1 * 128 + 1 * (lane h d).val = (lane h d).val; omega

/-- The block of the keys' gains. -/
theorem block6 (c : Dev nD) (t : Fin cfg0.N) (h : Fin 2) (d : Fin 64) :
    (iblk m c 6 t : FVec Ideal S1x128 .f32) (ix2 0 (lane h d)) = (m ((c : Thread nD τ).loc main_arg2) : FVec Ideal S64 .f32) (ix1 d) := by
  obtain ⟨h0, h1⟩ := idx6 t
  unfold iblk
  rw [View.read_apply]
  show (V m c main_v51 : FVec Ideal S1x128 .f32) _ = _
  rw [keyGains_entry]
  refine Eq.trans (congrArg _ ?_) (gains_apply _ h d)
  funext a
  apply Fin.ext
  match a with
  | ⟨0, _⟩ => show win0_6.index t 0 * 1 + 1 * 0 = 0; omega
  | ⟨1, _⟩ => show win0_6.index t 1 * 128 + 1 * (lane h d).val = (lane h d).val; omega

/-- The block of the matrix that sums each head. -/
theorem block7 (c : Dev nD) (t : Fin cfg0.N) : Sums (iblk m c 7 t) := fun h d h' d' => by
  obtain ⟨h0, h1⟩ := idx7 t
  unfold iblk
  rw [View.read_apply]
  show (V m c main_cst : FVec Ideal S128x128 .bf16) _ = _
  rw [blocks_entry]
  refine Eq.trans (congrArg _ ?_) (blocks_sums h d h' d')
  funext a
  apply Fin.ext
  match a with
  | ⟨0, _⟩ => show win0_7.index t 0 * 128 + 1 * (lane h d).val = (lane h d).val; omega
  | ⟨1, _⟩ => show win0_7.index t 1 * 128 + 1 * (lane h' d').val = (lane h' d').val; omega

/-- The projections are real. -/
def Real (c : Dev nD) : Prop :=
  ∀ i, ∃ r : ℝ, (m ((c.tc : Thread nD τ).loc main_arg0) : FVec Ideal S32768x3840 .f32) i = (r : EReal)

/-- What a point flushes of the queries is its block of them. -/
theorem flushed8_eq (c : Dev nD) (hreal : Real m c) (t : Fin cfg0.N) (hf : (cfg0.win 8).flush t = true) :
    (dats m 0 c).flushed 8 t = ((cfg0.win 8).blk t).view.read (Elt Ideal)
      (queries (m ((c : Thread nD τ).loc main_arg0)) (m ((c : Thread nD τ).loc main_arg1))) := by
  obtain ⟨i0, i1, i2, i3⟩ := idx8 t
  have ht := lt_N t
  rw [Cert.Kernel7Ideal.Value.flushed8]
  refine funext fun (i : S1x4x128x1024.Idx) => ?_
  rw [View.read_apply]
  obtain ⟨z, q, l, r, rfl⟩ : ∃ z q l r, i = ix4 z q l r := ⟨i 0, i 1, i 2, i 3, eq_ix4 i⟩
  obtain ⟨h, d, rfl⟩ := exists_lane l
  obtain rfl : z = 0 := Subsingleton.elim _ _
  have hr := r.isLt
  have e : ((cfg0.win 8).blk t).view.emb (ix4 0 q (lane h d) r)
      = (ix4 (⟨t.val / 4, by omega⟩ : Fin 8) q (lane h d) (position t r) : S8x4x128x4096.Idx) := by
    funext a
    apply Fin.ext
    match a with
    | ⟨0, _⟩ => show win0_8.index t 0 * 1 + 1 * 0 = t.val / 4; omega
    | ⟨1, _⟩ => show win0_8.index t 1 * 4 + 1 * q.val = q.val; omega
    | ⟨2, _⟩ => show win0_8.index t 2 * 128 + 1 * (lane h d).val = (lane h d).val; omega
    | ⟨3, _⟩ => show win0_8.index t 3 * 1024 + 1 * r.val = 1024 * (t.val % 4) + r.val; omega
  refine Eq.trans ?_ (congrArg (queries _ _) e.symm)
  refine (out8_apply (iblk m c 0 t) (iblk m c 1 t) (iblk m c 2 t) (iblk m c 3 t) (iblk m c 4 t) (iblk m c 5 t) (iblk m c 6 t) (iblk m c 7 t)
    (block7 m c t) r (fun k => ?_) q h d).trans ?_
  · rw [block0]; exact hreal _
  have hl : (lane h d).val = 64 * h.val + d.val := rfl
  show _ = queryAt _ _ _ _ _ _
  unfold queryAt
  have hd : (⟨(lane h d).val % 64, by omega⟩ : Fin 64) = d := Fin.ext (by show (lane h d).val % 64 = d.val; omega)
  rw [show (lane h d).val / 64 = h.val by omega, hd]
  refine if_congr Iff.rfl ?_ rfl
  unfold query ready
  simp only [block0, block3, block4, block5]
  refine congrArg (· * scale) (congrArg (fun x => turned (normed x _) _ _ d) (funext fun k => ?_))
  unfold queryHead
  refine congrArg _ (funext fun a => Fin.ext ?_)
  match a with
  | ⟨0, _⟩ => show 1024 * t.val + r.val = 4096 * (t.val / 4) + (1024 * (t.val % 4) + r.val); omega
  | ⟨1, _⟩ => show 3328 + (64 * q.val + k.val) = 3328 + 64 * q.val + k.val; omega

/-- The queries' array ends holding the queries. -/
theorem final8 (c : Dev nD) (hreal : Real m c) :
    (dats m 0 c).arrAt 8 cfg0.N = queries (m ((c : Thread nD τ).loc main_arg0)) (m ((c : Thread nD τ).loc main_arg1)) :=
  (dats m 0 c).arrAt_eq_of_cover 8 _ (flushed8_eq m c hreal) fun (i : S8x4x128x4096.Idx) => by
    have h0 : (i 0).val < 8 := (i 0).isLt
    have h1 : (i 1).val < 4 := (i 1).isLt
    have h2 : (i 2).val < 128 := (i 2).isLt
    have h3 : (i 3).val < 4096 := (i 3).isLt
    let t : Fin cfg0.N := ⟨4 * (i 0).val + (i 3).val / 1024, by show 4 * (i 0).val + (i 3).val / 1024 < 32; omega⟩
    have ht : t.val = 4 * (i 0).val + (i 3).val / 1024 := rfl
    obtain ⟨i0, i1, i2, i3⟩ := idx8 t
    refine ⟨t, flush0_8 t, ?_⟩
    show i ∈ ((View.whole main_v52_0).slice (win0_8.rect t)).set
    rw [View.set_slice_whole, Rect.mem_set_unit]
    intro a
    match a with
    | ⟨0, _⟩ => show win0_8.index t 0 * 1 ≤ (i 0).val ∧ (i 0).val < win0_8.index t 0 * 1 + 1; omega
    | ⟨1, _⟩ => show win0_8.index t 1 * 4 ≤ (i 1).val ∧ (i 1).val < win0_8.index t 1 * 4 + 4; omega
    | ⟨2, _⟩ => show win0_8.index t 2 * 128 ≤ (i 2).val ∧ (i 2).val < win0_8.index t 2 * 128 + 128; omega
    | ⟨3, _⟩ => show win0_8.index t 3 * 1024 ≤ (i 3).val ∧ (i 3).val < win0_8.index t 3 * 1024 + 1024; omega

/-- What a point flushes of the keys is its block of them. -/
theorem flushed9_eq (c : Dev nD) (hreal : Real m c) (t : Fin cfg0.N) (hf : (cfg0.win 9).flush t = true) :
    (dats m 0 c).flushed 9 t = ((cfg0.win 9).blk t).view.read (Elt Ideal)
      (keys (m ((c : Thread nD τ).loc main_arg0)) (m ((c : Thread nD τ).loc main_arg2))) := by
  obtain ⟨i0, i1⟩ := idx9 t
  have ht := lt_N t
  rw [Cert.Kernel7Ideal.Value.flushed9]
  refine funext fun (i : S1024x128.Idx) => ?_
  rw [View.read_apply]
  obtain ⟨r, l, rfl⟩ : ∃ r l, i = ix2 r l := ⟨i 0, i 1, eq_ix2 i⟩
  obtain ⟨h, d, rfl⟩ := exists_lane l
  have hr := r.isLt
  have e : ((cfg0.win 9).blk t).view.emb (ix2 r (lane h d))
      = (ix2 (⟨1024 * t.val + r.val, by omega⟩ : Fin 32768) (lane h d) : S32768x128.Idx) := by
    funext a
    apply Fin.ext
    match a with
    | ⟨0, _⟩ => show win0_9.index t 0 * 1024 + 1 * r.val = 1024 * t.val + r.val; omega
    | ⟨1, _⟩ => show win0_9.index t 1 * 128 + 1 * (lane h d).val = (lane h d).val; omega
  refine Eq.trans ?_ (congrArg (keys _ _) e.symm)
  refine (out9_apply (iblk m c 0 t) (iblk m c 1 t) (iblk m c 2 t) (iblk m c 3 t) (iblk m c 4 t) (iblk m c 5 t) (iblk m c 6 t) (iblk m c 7 t)
    (block7 m c t) r (fun k => ?_) h d).trans ?_
  · rw [block1]; exact hreal _
  have hl : (lane h d).val = 64 * h.val + d.val := rfl
  show _ = keyAt _ _ _ _
  unfold keyAt
  have hd : (⟨(lane h d).val % 64, by omega⟩ : Fin 64) = d := Fin.ext (by show (lane h d).val % 64 = d.val; omega)
  have hh : (⟨(lane h d).val / 64, by omega⟩ : Fin 2) = h := Fin.ext (by show (lane h d).val / 64 = h.val; omega)
  have hp : (⟨(1024 * t.val + r.val) % 4096, by omega⟩ : Fin 4096) = position t r := Fin.ext (by
    show (1024 * t.val + r.val) % 4096 = 1024 * (t.val % 4) + r.val; omega)
  rw [hd, hh]
  refine Eq.trans ?_ (congrArg (fun p => ready rowAngles columnAngles _ _ p d) hp.symm)
  unfold ready
  simp only [block1, block3, block4, block6]
  refine congrArg (fun x => turned (normed x _) _ _ d) (funext fun k => ?_)
  unfold keyHead
  refine congrArg _ (funext fun a => Fin.ext ?_)
  match a with
  | ⟨0, _⟩ => rfl
  | ⟨1, _⟩ => show 3584 + (64 * h.val + k.val) = 3584 + 64 * h.val + k.val; omega

/-- The keys' array ends holding the keys. -/
theorem final9 (c : Dev nD) (hreal : Real m c) :
    (dats m 0 c).arrAt 9 cfg0.N = keys (m ((c : Thread nD τ).loc main_arg0)) (m ((c : Thread nD τ).loc main_arg2)) :=
  (dats m 0 c).arrAt_eq_of_cover 9 _ (flushed9_eq m c hreal) fun (i : S32768x128.Idx) => by
    have h0 : (i 0).val < 32768 := (i 0).isLt
    have h1 : (i 1).val < 128 := (i 1).isLt
    let t : Fin cfg0.N := ⟨(i 0).val / 1024, by show (i 0).val / 1024 < 32; omega⟩
    have ht : t.val = (i 0).val / 1024 := rfl
    obtain ⟨i0, i1⟩ := idx9 t
    refine ⟨t, flush0_9 t, ?_⟩
    show i ∈ ((View.whole main_v52_1).slice (win0_9.rect t)).set
    rw [View.set_slice_whole, Rect.mem_set_unit]
    intro a
    match a with
    | ⟨0, _⟩ => show win0_9.index t 0 * 1024 ≤ (i 0).val ∧ (i 0).val < win0_9.index t 0 * 1024 + 1024; omega
    | ⟨1, _⟩ => show win0_9.index t 1 * 128 ≤ (i 1).val ∧ (i 1).val < win0_9.index t 1 * 128 + 128; omega

/-- What a point flushes of the values is its block of them. -/
theorem flushed10_eq (c : Dev nD) (t : Fin cfg0.N) (hf : (cfg0.win 10).flush t = true) :
    (dats m 0 c).flushed 10 t = ((cfg0.win 10).blk t).view.read (Elt Ideal) (values (m ((c : Thread nD τ).loc main_arg0))) := by
  obtain ⟨i0, i1, i2⟩ := idx10 t
  have ht := lt_N t
  rw [Cert.Kernel7Ideal.Value.flushed10]
  refine funext fun (i : S1x128x1024.Idx) => ?_
  rw [View.read_apply]
  obtain ⟨z, l, r, rfl⟩ : ∃ z l r, i = ix3 z l r := ⟨i 0, i 1, i 2, eq_ix3 i⟩
  obtain rfl : z = 0 := Subsingleton.elim _ _
  have hr := r.isLt
  have e : ((cfg0.win 10).blk t).view.emb (ix3 0 l r)
      = (ix3 (⟨t.val / 4, by omega⟩ : Fin 8) l (position t r) : S8x128x4096.Idx) := by
    funext a
    apply Fin.ext
    match a with
    | ⟨0, _⟩ => show win0_10.index t 0 * 1 + 1 * 0 = t.val / 4; omega
    | ⟨1, _⟩ => show win0_10.index t 1 * 128 + 1 * l.val = l.val; omega
    | ⟨2, _⟩ => show win0_10.index t 2 * 1024 + 1 * r.val = 1024 * (t.val % 4) + r.val; omega
  refine Eq.trans ?_ (congrArg (values _) e.symm)
  refine (out10_apply (iblk m c 0 t) (iblk m c 1 t) (iblk m c 2 t) (iblk m c 3 t) (iblk m c 4 t) (iblk m c 5 t) (iblk m c 6 t) (iblk m c 7 t) l r).trans ?_
  rw [block2]
  show _ = valueAt _ _ _ _
  unfold valueAt
  refine congrArg _ (funext fun a => Fin.ext ?_)
  match a with
  | ⟨0, _⟩ => show 1024 * t.val + r.val = 4096 * (t.val / 4) + (1024 * (t.val % 4) + r.val); omega
  | ⟨1, _⟩ => rfl

/-- The values' array ends holding the values. -/
theorem final10 (c : Dev nD) : (dats m 0 c).arrAt 10 cfg0.N = values (m ((c : Thread nD τ).loc main_arg0)) :=
  (dats m 0 c).arrAt_eq_of_cover 10 _ (flushed10_eq m c) fun (i : S8x128x4096.Idx) => by
    have h0 : (i 0).val < 8 := (i 0).isLt
    have h1 : (i 1).val < 128 := (i 1).isLt
    have h2 : (i 2).val < 4096 := (i 2).isLt
    let t : Fin cfg0.N := ⟨4 * (i 0).val + (i 2).val / 1024, by show 4 * (i 0).val + (i 2).val / 1024 < 32; omega⟩
    have ht : t.val = 4 * (i 0).val + (i 2).val / 1024 := rfl
    obtain ⟨i0, i1, i2⟩ := idx10 t
    refine ⟨t, flush0_10 t, ?_⟩
    show i ∈ ((View.whole main_v52_2).slice (win0_10.rect t)).set
    rw [View.set_slice_whole, Rect.mem_set_unit]
    intro a
    match a with
    | ⟨0, _⟩ => show win0_10.index t 0 * 1 ≤ (i 0).val ∧ (i 0).val < win0_10.index t 0 * 1 + 1; omega
    | ⟨1, _⟩ => show win0_10.index t 1 * 128 ≤ (i 1).val ∧ (i 1).val < win0_10.index t 1 * 128 + 128; omega
    | ⟨2, _⟩ => show win0_10.index t 2 * 1024 ≤ (i 2).val ∧ (i 2).val < win0_10.index t 2 * 1024 + 1024; omega

end Cert.Proof.Prep

end
-- ==== Proof.PrepHost.lean ====
/-
  The reference's preparation of the heads, for any number of heads: their normalisation, and the turn of their pairs of
  entries, each read at an entry as the row's.
-/
module

public import proofs.«01_k».proof.Proof.PrepRow
public import Idealize.ShloMosaic.Lib.Claim
public import Idealize.ShloMosaic.Lib.IdealHost
public import Idealize.ShloMosaic.Lib.StackMember
public import Idealize.ShloMosaic.Init

@[expose] public section

noncomputable section

namespace Cert.Proof.Prep.Host

open Idealize.ShloMosaic Idealize.ShloMosaic.ValueIdx Cert.Proof.Prep

/-- Every position's heads, of some entries each. -/
abbrev Heads (H k : ℕ) : Shape := ⟨4, ![8, 4096, H, k]⟩

/-- One number of each head. -/
abbrev PerHead (H : ℕ) : Shape := ⟨3, ![8, 4096, H]⟩

/-- The scalar shape. -/
abbrev Sc : Shape := ⟨0, ![]⟩

/-- The angles' shape. -/
abbrev Angles : Shape := ⟨2, ![4096, 16]⟩

variable {H : ℕ}

section Turn

variable (ha : Angles.BroadcastsInDim ⟨3, ![4096, 1, 16]⟩ ![0, 2]) (hb : (⟨3, ![4096, 1, 16]⟩ : Shape).BroadcastsInDim ⟨4, ![1, 4096, 1, 16]⟩ ![1, 2, 3])
  (hc : (⟨4, ![1, 4096, 1, 16]⟩ : Shape).BroadcastsInDim (Heads H 16) ![0, 1, 2, 3]) (hj : Shape.Concatenates [Heads H 16, Heads H 16] (Heads H 32) 3)
  (hk : Shape.Concatenates [Heads H 32, Heads H 32] (Heads H 64) 3)
  (h0 : (Heads H 64).Slices ![0, 0, 0, 0] (Heads H 32)) (h32 : (Heads H 64).Slices ![0, 0, 0, 32] (Heads H 32))
  (g0 : (Heads H 32).Slices ![0, 0, 0, 0] (Heads H 16)) (g16 : (Heads H 32).Slices ![0, 0, 0, 16] (Heads H 16))

/-- A table of the positions, spread over the heads. -/
def spread (x : FVec Ideal Angles .f32) : FVec Ideal (Heads H 16) .f32 :=
  broadcastInDim (Heads H 16) ![0, 1, 2, 3] hc (broadcastInDim ⟨4, ![1, 4096, 1, 16]⟩ ![1, 2, 3] hb (broadcastInDim ⟨3, ![4096, 1, 16]⟩ ![0, 2] ha x))

theorem spread_apply (x : FVec Ideal Angles .f32) (b : Fin 8) (p : Fin 4096) (h : Fin H) (j : Fin 16) :
    spread ha hb hc x (ix4 b p h j) = x (ix2 p j) := by
  refine (broadcastInDim_apply _ _ _ _ (ix4 (0 : Fin 1) p (0 : Fin 1) j) fun a => ?_).trans
    ((broadcastInDim_apply _ _ _ _ (ix3 p (0 : Fin 1) j) fun a => ?_).trans (broadcastInDim_apply _ _ _ _ (ix2 p j) fun a => ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
  · match a with
    | ⟨0, _⟩ => rfl
    | ⟨1, _⟩ => rfl

/-- Half a head turned: its two sixteens by the cosines and sines. -/
def half (y : FVec Ideal (Heads H 32) .f32) (x : FVec Ideal Angles .f32) : FVec Ideal (Heads H 32) .f32 :=
  concatenate (Heads H 32) 3
    [⟨Heads H 16, subf (mulf (extractStridedSlice (Heads H 16) ![0, 0, 0, 0] y g0) (spread ha hb hc (Host.cos x)))
      (mulf (extractStridedSlice (Heads H 16) ![0, 0, 0, 16] y g16) (spread ha hb hc (Host.sin x)))⟩,
     ⟨Heads H 16, addf (mulf (extractStridedSlice (Heads H 16) ![0, 0, 0, 16] y g16) (spread ha hb hc (Host.cos x)))
      (mulf (extractStridedSlice (Heads H 16) ![0, 0, 0, 0] y g0) (spread ha hb hc (Host.sin x)))⟩] hj

/-- The heads turned. -/
def turn (y : FVec Ideal (Heads H 64) .f32) (a b : FVec Ideal Angles .f32) : FVec Ideal (Heads H 64) .f32 :=
  concatenate (Heads H 64) 3
    [⟨Heads H 32, half ha hb hc hj g0 g16 (extractStridedSlice (Heads H 32) ![0, 0, 0, 0] y h0) a⟩,
     ⟨Heads H 32, half ha hb hc hj g0 g16 (extractStridedSlice (Heads H 32) ![0, 0, 0, 32] y h32) b⟩] hk

/-- Part of the entries of each head, read. -/
theorem slice_apply {k l : ℕ} (o : ℕ) (y : FVec Ideal (Heads H k) .f32) (hs : (Heads H k).Slices ![0, 0, 0, o] (Heads H l)) (b : Fin 8) (p : Fin 4096)
    (h : Fin H) (j : Fin l) (i : Fin k) (hi : i.val = o + j.val) :
    extractStridedSlice (Heads H l) ![0, 0, 0, o] y hs (ix4 b p h j) = y (ix4 b p h i) :=
  extractStridedSlice_apply _ _ _ _ _ fun a => by
    match a with
    | ⟨0, _⟩ => show b.val = 0 + b.val; omega
    | ⟨1, _⟩ => show p.val = 0 + p.val; omega
    | ⟨2, _⟩ => show h.val = 0 + h.val; omega
    | ⟨3, _⟩ => exact hi

theorem half_left (y : FVec Ideal (Heads H 32) .f32) (x : FVec Ideal Angles .f32) (b : Fin 8) (p : Fin 4096) (h : Fin H) (i i' : Fin 32) (j : Fin 16)
    (hi : i.val = j.val) (hi' : i'.val = 16 + j.val) :
    half ha hb hc hj g0 g16 y x (ix4 b p h i) = y (ix4 b p h i) * Host.cos x (ix2 p j) - y (ix4 b p h i') * Host.sin x (ix2 p j) := by
  refine (concatenate_pair_apply_left 3 _ _ hj (ix4 b p h i) rfl (ix4 b p h j) fun c => ?_).trans ?_
  · match c with
    | ⟨0, _⟩ => rfl
    | ⟨1, _⟩ => rfl
    | ⟨2, _⟩ => rfl
    | ⟨3, _⟩ => exact hi.symm
  refine congrArg₂ (· - ·) (congrArg₂ (· * ·) (slice_apply 0 y g0 b p h j i (by omega)) (spread_apply ha hb hc _ b p h j))
    (congrArg₂ (· * ·) (slice_apply 16 y g16 b p h j i' hi') (spread_apply ha hb hc _ b p h j))

theorem half_right (y : FVec Ideal (Heads H 32) .f32) (x : FVec Ideal Angles .f32) (b : Fin 8) (p : Fin 4096) (h : Fin H) (i i' : Fin 32) (j : Fin 16)
    (hi : i.val = 16 + j.val) (hi' : i'.val = j.val) :
    half ha hb hc hj g0 g16 y x (ix4 b p h i) = y (ix4 b p h i) * Host.cos x (ix2 p j) + y (ix4 b p h i') * Host.sin x (ix2 p j) := by
  refine (concatenate_pair_apply_right 3 _ _ hj (ix4 b p h i) rfl rfl (ix4 b p h j) (fun c hc => ?_) ?_).trans ?_
  · match c with
    | ⟨0, _⟩ => rfl
    | ⟨1, _⟩ => rfl
    | ⟨2, _⟩ => rfl
    | ⟨3, _⟩ => exact absurd rfl hc
  · show j.val + 16 = i.val
    omega
  refine congrArg₂ (· + ·) (congrArg₂ (· * ·) (slice_apply 16 y g16 b p h j i hi) (spread_apply ha hb hc _ b p h j))
    (congrArg₂ (· * ·) (slice_apply 0 y g0 b p h j i' (by omega)) (spread_apply ha hb hc _ b p h j))

theorem turn_left (y : FVec Ideal (Heads H 64) .f32) (x x' : FVec Ideal Angles .f32) (b : Fin 8) (p : Fin 4096) (h : Fin H) (d : Fin 64) (i : Fin 32)
    (hi : d.val = i.val) :
    turn ha hb hc hj hk h0 h32 g0 g16 y x x' (ix4 b p h d) = half ha hb hc hj g0 g16 (extractStridedSlice (Heads H 32) ![0, 0, 0, 0] y h0) x (ix4 b p h i) :=
  concatenate_pair_apply_left 3 _ _ hk (ix4 b p h d) rfl (ix4 b p h i) fun c => by
    match c with
    | ⟨0, _⟩ => rfl
    | ⟨1, _⟩ => rfl
    | ⟨2, _⟩ => rfl
    | ⟨3, _⟩ => exact hi.symm

theorem turn_right (y : FVec Ideal (Heads H 64) .f32) (x x' : FVec Ideal Angles .f32) (b : Fin 8) (p : Fin 4096) (h : Fin H) (d : Fin 64) (i : Fin 32)
    (hi : d.val = 32 + i.val) :
    turn ha hb hc hj hk h0 h32 g0 g16 y x x' (ix4 b p h d) = half ha hb hc hj g0 g16 (extractStridedSlice (Heads H 32) ![0, 0, 0, 32] y h32) x' (ix4 b p h i) :=
  concatenate_pair_apply_right 3 _ _ hk (ix4 b p h d) rfl rfl (ix4 b p h i) (fun c hc => by
    match c with
    | ⟨0, _⟩ => rfl
    | ⟨1, _⟩ => rfl
    | ⟨2, _⟩ => rfl
    | ⟨3, _⟩ => exact absurd rfl hc) (by
    show i.val + 32 = d.val
    omega)

/-- The heads turned, read: each entry with its partner. -/
theorem turn_apply (y : FVec Ideal (Heads H 64) .f32) (x x' : FVec Ideal Angles .f32) (b : Fin 8) (p : Fin 4096) (h : Fin H) (d : Fin 64) :
    turn ha hb hc hj hk h0 h32 g0 g16 y x x' (ix4 b p h d)
      = turned (fun k => y (ix4 b p h k)) (pick (Host.cos x) (Host.cos x') p) (signed (Host.sin x) (Host.sin x') p) d := by
  have hd := d.isLt
  unfold turned signed pick partner
  by_cases c1 : d.val < 32
  · rw [turn_left ha hb hc hj hk h0 h32 g0 g16 y x x' b p h d ⟨d.val, c1⟩ rfl]
    by_cases c2 : d.val % 32 < 16
    · rw [half_left ha hb hc hj g0 g16 _ x b p h ⟨d.val, c1⟩ ⟨d.val + 16, by omega⟩ ⟨d.val % 16, by omega⟩ (by show d.val = d.val % 16; omega)
          (by show d.val + 16 = 16 + d.val % 16; omega),
        slice_apply 0 y h0 b p h _ d (by show d.val = 0 + d.val; omega), slice_apply 0 y h0 b p h _ ⟨d.val + 16, by omega⟩ (by show d.val + 16 = 0 + (d.val + 16); omega)]
      simp only [c1, c2, if_true, dif_pos]
      rw [mul_neg, sub_eq_add_neg]
    · rw [half_right ha hb hc hj g0 g16 _ x b p h ⟨d.val, c1⟩ ⟨d.val - 16, by omega⟩ ⟨d.val % 16, by omega⟩ (by show d.val = 16 + d.val % 16; omega)
          (by show d.val - 16 = d.val % 16; omega),
        slice_apply 0 y h0 b p h _ d (by show d.val = 0 + d.val; omega), slice_apply 0 y h0 b p h _ ⟨d.val - 16, by omega⟩ (by show d.val - 16 = 0 + (d.val - 16); omega)]
      simp only [c1, c2, if_true, if_false, dif_neg, not_false_eq_true]
  · rw [turn_right ha hb hc hj hk h0 h32 g0 g16 y x x' b p h d ⟨d.val - 32, by omega⟩ (by show d.val = 32 + (d.val - 32); omega)]
    by_cases c2 : d.val % 32 < 16
    · rw [half_left ha hb hc hj g0 g16 _ x' b p h ⟨d.val - 32, by omega⟩ ⟨d.val - 32 + 16, by omega⟩ ⟨d.val % 16, by omega⟩ (by show d.val - 32 = d.val % 16; omega)
          (by show d.val - 32 + 16 = 16 + d.val % 16; omega),
        slice_apply 32 y h32 b p h _ d (by show d.val = 32 + (d.val - 32); omega), slice_apply 32 y h32 b p h _ ⟨d.val + 16, by omega⟩ (by show d.val + 16 = 32 + (d.val - 32 + 16); omega)]
      simp only [c1, c2, if_true, if_false, dif_pos]
      rw [mul_neg, sub_eq_add_neg]
    · rw [half_right ha hb hc hj g0 g16 _ x' b p h ⟨d.val - 32, by omega⟩ ⟨d.val - 32 - 16, by omega⟩ ⟨d.val % 16, by omega⟩ (by show d.val - 32 = 16 + d.val % 16; omega)
          (by show d.val - 32 - 16 = d.val % 16; omega),
        slice_apply 32 y h32 b p h _ d (by show d.val = 32 + (d.val - 32); omega), slice_apply 32 y h32 b p h _ ⟨d.val - 16, by omega⟩ (by show d.val - 16 = 32 + (d.val - 32 - 16); omega)]
      simp only [c1, c2, if_false, dif_neg, not_false_eq_true]

end Turn

section Norm

variable (hr : (Heads H 64).ReducesTo [3] (PerHead H)) (hu : 0 < Sc.numel) (he : (PerHead H).BroadcastsInDim (Heads H 1) ![0, 1, 2])
  (hs : Sc.BroadcastsInDim (Heads H 1) ![]) (hw : (Heads H 1).BroadcastsInDim (Heads H 64) ![0, 1, 2, 3])
  (hg : (⟨1, ![64]⟩ : Shape).BroadcastsInDim ⟨4, ![1, 1, 1, 64]⟩ ![3]) (hv : (⟨4, ![1, 1, 1, 64]⟩ : Shape).BroadcastsInDim (Heads H 64) ![0, 1, 2, 3])

/-- The mean square of each head. -/
def meanSquare (x : FVec Ideal (Heads H 64) .f32) : FVec Ideal (Heads H 1) .f32 :=
  Host.divf (broadcastInDim (Heads H 1) ![0, 1, 2] he (Host.reduceAdd (mulf x x) (constant Sc .f32 0x00000000#32) hr hu))
    (broadcastInDim (Heads H 1) ![] hs (constant Sc .f32 0x42800000#32))

/-- The heads normalised. -/
def norm (x : FVec Ideal (Heads H 64) .f32) (g : FVec Ideal ⟨1, ![64]⟩ .f32) : FVec Ideal (Heads H 64) .f32 :=
  mulf (mulf x (broadcastInDim (Heads H 64) ![0, 1, 2, 3] hw (Host.rsqrt (addf (meanSquare hr hu he hs x)
    (broadcastInDim (Heads H 1) ![] hs (constant Sc .f32 0x358637BD#32))))))
    (broadcastInDim (Heads H 64) ![0, 1, 2, 3] hv (broadcastInDim ⟨4, ![1, 1, 1, 64]⟩ ![3] hg g))

theorem lift_eq (hd : (Heads H 64).Reduces [3] (PerHead H)) (b : Fin 8) (p : Fin 4096) (h : Fin H) (k : Fin 64) :
    hd.lift (ix3 b p h) k = ix4 b p h k := by
  funext c; apply Fin.ext
  fin_cases c <;> rfl

theorem meanSquare_apply (hd : (Heads H 64).Reduces [3] (PerHead H)) (x : FVec Ideal (Heads H 64) .f32) (b : Fin 8) (p : Fin 4096) (h : Fin H) :
    meanSquare hr hu he hs x (ix4 b p h 0) = (∑ k : Fin 64, x (ix4 b p h k) * x (ix4 b p h k)) * Ideal.ofBits .f32 0x3C800000#32 := by
  unfold meanSquare
  rw [hostDivf_apply, broadcastInDim_scalar_apply]
  refine (show _ = Ideal.div _ (Ideal.ofBits .f32 0x42800000#32) from rfl).trans ?_
  rw [div_64]
  refine congrArg (· * Ideal.ofBits .f32 0x3C800000#32) ?_
  refine (broadcastInDim_apply _ _ _ _ (ix3 b p h) fun a => ?_).trans ?_
  · match a with
    | ⟨0, _⟩ => rfl
    | ⟨1, _⟩ => rfl
    | ⟨2, _⟩ =>
      show h.val = if H = 1 then 0 else h.val
      split <;> omega
  · rw [hostReduceAdd_apply, Ideal.hostReduceAdd_single _ hd]
    refine (congrArg (· + _) Ideal.ofBits_zero_f32).trans ((zero_add _).trans ?_)
    exact Finset.sum_congr rfl fun k _ => congrArg (fun i => x i * x i) (lift_eq hd b p h k)

/-- The heads normalised, read. -/
theorem norm_apply (hd : (Heads H 64).Reduces [3] (PerHead H)) (x : FVec Ideal (Heads H 64) .f32) (g : FVec Ideal ⟨1, ![64]⟩ .f32) (b : Fin 8) (p : Fin 4096)
    (h : Fin H) (d : Fin 64) : norm hr hu he hs hw hg hv x g (ix4 b p h d) = normed (fun k => x (ix4 b p h k)) (fun k => g (ix1 k)) d := by
  unfold norm normed
  refine congrArg₂ (· * ·) (congrArg (x (ix4 b p h d) * ·) ?_) ?_
  · refine (broadcastInDim_apply _ _ _ _ (ix4 b p h (0 : Fin 1)) fun a => ?_).trans ?_
    · match a with
      | ⟨0, _⟩ => rfl
      | ⟨1, _⟩ => rfl
      | ⟨2, _⟩ =>
        show h.val = if H = 1 then 0 else h.val
        split <;> omega
      | ⟨3, _⟩ => rfl
    · show Ideal.rsqrt (meanSquare hr hu he hs x (ix4 b p h 0) + broadcastInDim (Heads H 1) ![] hs (constant (F := Ideal) Sc .f32 0x358637BD#32) (ix4 b p h 0)) = _
      rw [meanSquare_apply hr hu he hs hd, broadcastInDim_scalar_apply]
      rfl
  · refine (broadcastInDim_apply _ _ _ _ (ix4 (0 : Fin 1) (0 : Fin 1) (0 : Fin 1) d) fun a => ?_).trans (broadcastInDim_apply _ _ _ _ (ix1 d) fun a => ?_)
    · match a with
      | ⟨0, _⟩ => rfl
      | ⟨1, _⟩ => rfl
      | ⟨2, _⟩ => rfl
      | ⟨3, _⟩ => rfl
    · match a with
      | ⟨0, _⟩ => rfl

end Norm

end Cert.Proof.Prep.Host

end
-- ==== Proof.PrepReference.lean ====
/-
  The reference's queries, keys and values are the kernel's.
-/
module

public import proofs.«01_k».proof.Proof.PrepArray
public import proofs.«01_k».proof.Proof.PrepHost
public import proofs.«01_k».proof.Proof.Gen.Reference7Ideal.Run
public import Idealize.ShloMosaic.Lib.Claim
public import Idealize.ShloMosaic.Init

@[expose] public section

noncomputable section

namespace Cert.Proof.Prep

open Idealize.ShloMosaic Cert.Reference7Ideal Cert.Reference7Ideal.Gen Idealize.ShloMosaic.ValueIdx

/-- The reference's heads of queries, as the projections hold them. -/
def hostQueryHeads (x : FVec Ideal S32768x3840 .f32) : FVec Ideal S8x4096x4x64 .f32 :=
  shapeCast S8x4096x4x64 (extractStridedSlice S32768x256 ![0, 3328] x facts.slices_S32768x3840_S32768x256_0_3328) facts.shapeCasts_S32768x256_S8x4096x4x64

/-- The reference's heads of keys, as the projections hold them. -/
def hostKeyHeads (x : FVec Ideal S32768x3840 .f32) : FVec Ideal S8x4096x2x64 .f32 :=
  shapeCast S8x4096x2x64 (extractStridedSlice S32768x128 ![0, 3584] x facts.slices_S32768x3840_S32768x128_0_3584) facts.shapeCasts_S32768x128_S8x4096x2x64

/-- The reference's heads of queries, normalised and turned. -/
def hostQueriesTurned (x : FVec Ideal S32768x3840 .f32) (g : FVec Ideal S64 .f32) : FVec Ideal S8x4096x4x64 .f32 :=
  Host.turn (H := 4) facts.bcast_S4096x16_S4096x1x16_0_2 facts.bcast_S4096x1x16_S1x4096x1x16_1_2_3 facts.bcast_S1x4096x1x16_S8x4096x4x16_0_1_2_3
    facts.concatenates_S8x4096x4x16_S8x4096x4x16_S8x4096x4x32_d3 facts.concatenates_S8x4096x4x32_S8x4096x4x32_S8x4096x4x64_d3
    facts.slices_S8x4096x4x64_S8x4096x4x32_0_0_0_0 facts.slices_S8x4096x4x64_S8x4096x4x32_0_0_0_32
    facts.slices_S8x4096x4x32_S8x4096x4x16_0_0_0_0 facts.slices_S8x4096x4x32_S8x4096x4x16_0_0_0_16
    (Host.norm (H := 4) facts.reducesTo_S8x4096x4x64_S8x4096x4_d3 facts.h_S_ facts.bcast_S8x4096x4_S8x4096x4x1_0_1_2 facts.bcast_S_S8x4096x4x1
      facts.bcast_S8x4096x4x1_S8x4096x4x64_0_1_2_3 facts.bcast_S64_S1x1x1x64_3 facts.bcast_S1x1x1x64_S8x4096x4x64_0_1_2_3 (hostQueryHeads x) g)
    rowAngles columnAngles

/-- The reference's heads of keys, normalised and turned. -/
def hostKeysTurned (x : FVec Ideal S32768x3840 .f32) (g : FVec Ideal S64 .f32) : FVec Ideal S8x4096x2x64 .f32 :=
  Host.turn (H := 2) facts.bcast_S4096x16_S4096x1x16_0_2 facts.bcast_S4096x1x16_S1x4096x1x16_1_2_3 facts.bcast_S1x4096x1x16_S8x4096x2x16_0_1_2_3
    facts.concatenates_S8x4096x2x16_S8x4096x2x16_S8x4096x2x32_d3 facts.concatenates_S8x4096x2x32_S8x4096x2x32_S8x4096x2x64_d3
    facts.slices_S8x4096x2x64_S8x4096x2x32_0_0_0_0 facts.slices_S8x4096x2x64_S8x4096x2x32_0_0_0_32
    facts.slices_S8x4096x2x32_S8x4096x2x16_0_0_0_0 facts.slices_S8x4096x2x32_S8x4096x2x16_0_0_0_16
    (Host.norm (H := 2) facts.reducesTo_S8x4096x2x64_S8x4096x2_d3 facts.h_S_ facts.bcast_S8x4096x2_S8x4096x2x1_0_1_2 facts.bcast_S_S8x4096x2x1
      facts.bcast_S8x4096x2x1_S8x4096x2x64_0_1_2_3 facts.bcast_S64_S1x1x1x64_3 facts.bcast_S1x1x1x64_S8x4096x2x64_0_1_2_3 (hostKeyHeads x) g)
    rowAngles columnAngles

/-- The reference's queries before they are set in their lanes: each head a column of the positions, scaled. -/
def hostColumns (x : FVec Ideal S32768x3840 .f32) (g : FVec Ideal S64 .f32) : FVec Ideal S8x4x64x4096 .f32 :=
  transpose S8x4x64x4096 [0, 2, 3, 1] (mulf (hostQueriesTurned x g)
    (broadcastInDim S8x4096x4x64 ![] facts.bcast_S_S8x4096x4x64 (constant S_ .f32 0x3E38AA3B#32))) facts.transposes_S8x4096x4x64_S8x4x64x4096_0_2_3_1

/-- The reference's zero lanes. -/
def hostZeros : FVec Ideal S8x2x64x4096 .f32 := broadcastInDim S8x2x64x4096 ![] facts.bcast_S_S8x2x64x4096 (constant S_ .f32 0x00000000#32)

/-- The queries of the first two heads in the first lanes. -/
def hostFirst (x : FVec Ideal S8x4x64x4096 .f32) : FVec Ideal S8x2x128x4096 .f32 :=
  concatenate S8x2x128x4096 2 [⟨S8x2x64x4096, extractStridedSlice S8x2x64x4096 ![0, 0, 0, 0] x facts.slices_S8x4x64x4096_S8x2x64x4096_0_0_0_0⟩,
    ⟨S8x2x64x4096, hostZeros⟩] facts.concatenates_S8x2x64x4096_S8x2x64x4096_S8x2x128x4096_d2

/-- The queries of the last two heads in the last lanes. -/
def hostSecond (x : FVec Ideal S8x4x64x4096 .f32) : FVec Ideal S8x2x128x4096 .f32 :=
  concatenate S8x2x128x4096 2 [⟨S8x2x64x4096, hostZeros⟩,
    ⟨S8x2x64x4096, extractStridedSlice S8x2x64x4096 ![0, 2, 0, 0] x facts.slices_S8x4x64x4096_S8x2x64x4096_0_2_0_0⟩]
    facts.concatenates_S8x2x64x4096_S8x2x64x4096_S8x2x128x4096_d2

/-- The queries in their lanes. -/
def hostLanes (x : FVec Ideal S8x4x64x4096 .f32) : FVec Ideal S8x4x128x4096 .f32 :=
  concatenate S8x4x128x4096 1 [⟨S8x2x128x4096, hostFirst x⟩, ⟨S8x2x128x4096, hostSecond x⟩]
    facts.concatenates_S8x2x128x4096_S8x2x128x4096_S8x4x128x4096_d1

/-- The reference's queries. -/
def hostQueries (x : FVec Ideal S32768x3840 .f32) (g : FVec Ideal S64 .f32) : FVec Ideal S8x4x128x4096 .bf16 :=
  truncf .bf16 (hostLanes (hostColumns x g)) facts.bitsLt_bf16_f32

/-- The reference's keys. -/
def hostKeys (x : FVec Ideal S32768x3840 .f32) (g : FVec Ideal S64 .f32) : FVec Ideal S32768x128 .bf16 :=
  truncf .bf16 (shapeCast S32768x128 (hostKeysTurned x g) facts.shapeCasts_S8x4096x2x64_S32768x128) facts.bitsLt_bf16_f32

/-- The reference's rows of values. -/
def hostValueRows (x : FVec Ideal S32768x3840 .f32) : FVec Ideal S8x128x4096 .f32 :=
  transpose S8x128x4096 [0, 2, 1] (shapeCast S8x4096x128 (extractStridedSlice S32768x128 ![0, 3712] x facts.slices_S32768x3840_S32768x128_0_3712)
    facts.shapeCasts_S32768x128_S8x4096x128) facts.transposes_S8x4096x128_S8x128x4096_0_2_1

/-- The reference's values. -/
def hostValues (x : FVec Ideal S32768x3840 .f32) : FVec Ideal S8x128x4096 .bf16 := truncf .bf16 (hostValueRows x) facts.bitsLt_bf16_f32

theorem reduces4 : (Host.Heads 4 64).Reduces [3] (Host.PerHead 4) := by decide
theorem reduces2 : (Host.Heads 2 64).Reduces [3] (Host.PerHead 2) := by decide

theorem hostQueryHeads_apply (x : FVec Ideal S32768x3840 .f32) (b : Fin 8) (p : Fin 4096) (q : Fin 4) (k : Fin 64) :
    hostQueryHeads x (ix4 b p q k) = queryHead x ⟨4096 * b.val + p.val, by omega⟩ q k := by
  refine (shapeCast_apply _ _ _ (ix2 (⟨4096 * b.val + p.val, by omega⟩ : Fin 32768) (⟨64 * q.val + k.val, by omega⟩ : Fin 256)) ?_).trans
    (extractStridedSlice_apply _ _ _ _ _ fun a => ?_)
  · rw [Shape.rowMajor_val_two (d := S32768x256.size), Shape.rowMajor_val_four (d := S8x4096x4x64.size)]
    show (4096 * b.val + p.val) * 256 + (64 * q.val + k.val) = ((b.val * 4096 + p.val) * 4 + q.val) * 64 + k.val
    omega
  · match a with
    | ⟨0, _⟩ => show 4096 * b.val + p.val = 0 + (4096 * b.val + p.val); omega
    | ⟨1, _⟩ => show 3328 + 64 * q.val + k.val = 3328 + (64 * q.val + k.val); omega

theorem hostKeyHeads_apply (x : FVec Ideal S32768x3840 .f32) (b : Fin 8) (p : Fin 4096) (h : Fin 2) (k : Fin 64) :
    hostKeyHeads x (ix4 b p h k) = keyHead x ⟨4096 * b.val + p.val, by omega⟩ h k := by
  refine (shapeCast_apply _ _ _ (ix2 (⟨4096 * b.val + p.val, by omega⟩ : Fin 32768) (lane h k)) ?_).trans
    (extractStridedSlice_apply _ _ _ _ _ fun a => ?_)
  · rw [Shape.rowMajor_val_two (d := S32768x128.size), Shape.rowMajor_val_four (d := S8x4096x2x64.size)]
    show (4096 * b.val + p.val) * 128 + (64 * h.val + k.val) = ((b.val * 4096 + p.val) * 2 + h.val) * 64 + k.val
    omega
  · match a with
    | ⟨0, _⟩ => show 4096 * b.val + p.val = 0 + (4096 * b.val + p.val); omega
    | ⟨1, _⟩ => show 3584 + 64 * h.val + k.val = 3584 + (64 * h.val + k.val); omega

theorem hostQueriesTurned_apply (x : FVec Ideal S32768x3840 .f32) (g : FVec Ideal S64 .f32) (b : Fin 8) (p : Fin 4096) (q : Fin 4) (d : Fin 64) :
    hostQueriesTurned x g (ix4 b p q d)
      = ready rowAngles columnAngles (queryHead x ⟨4096 * b.val + p.val, by omega⟩ q) (fun d => g (ix1 d)) p d := by
  unfold hostQueriesTurned ready
  rw [Host.turn_apply]
  refine congrArg (fun y => turned y _ _ d) (funext fun k => ?_)
  rw [Host.norm_apply _ _ _ _ _ _ _ reduces4]
  exact congrArg (fun y => normed y _ k) (funext fun k => hostQueryHeads_apply x b p q k)

theorem hostKeysTurned_apply (x : FVec Ideal S32768x3840 .f32) (g : FVec Ideal S64 .f32) (b : Fin 8) (p : Fin 4096) (h : Fin 2) (d : Fin 64) :
    hostKeysTurned x g (ix4 b p h d)
      = ready rowAngles columnAngles (keyHead x ⟨4096 * b.val + p.val, by omega⟩ h) (fun d => g (ix1 d)) p d := by
  unfold hostKeysTurned ready
  rw [Host.turn_apply]
  refine congrArg (fun y => turned y _ _ d) (funext fun k => ?_)
  rw [Host.norm_apply _ _ _ _ _ _ _ reduces2]
  exact congrArg (fun y => normed y _ k) (funext fun k => hostKeyHeads_apply x b p h k)

theorem hostColumns_apply (x : FVec Ideal S32768x3840 .f32) (g : FVec Ideal S64 .f32) (b : Fin 8) (q : Fin 4) (d : Fin 64) (p : Fin 4096) :
    hostColumns x g (ix4 b q d p)
      = ready rowAngles columnAngles (queryHead x ⟨4096 * b.val + p.val, by omega⟩ q) (fun d => g (ix1 d)) p d * scale := by
  refine (transpose_apply _ _ _ _ (ix4 b p q d) fun a => ?_).trans
    (congrArg₂ (· * ·) (hostQueriesTurned_apply x g b p q d) (broadcastInDim_scalar_apply _ _ _))
  match a with
  | ⟨0, _⟩ => rfl
  | ⟨1, _⟩ => rfl
  | ⟨2, _⟩ => rfl
  | ⟨3, _⟩ => rfl

theorem hostZeros_apply (i : S8x2x64x4096.Idx) : hostZeros i = 0 := (broadcastInDim_scalar_apply _ _ _).trans Ideal.ofBits_zero_f32

theorem hostFirst_apply (x : FVec Ideal S8x4x64x4096 .f32) (b : Fin 8) (q : Fin 2) (h : Fin 2) (d : Fin 64) (p : Fin 4096) (q' : Fin 4)
    (hq : q'.val = q.val) : hostFirst x (ix4 b q (lane h d) p) = if 0 = h.val then x (ix4 b q' d p) else 0 := by
  unfold hostFirst
  split_ifs with hh
  · refine (concatenate_pair_apply_left (s₁ := S8x2x64x4096) (s₂ := S8x2x64x4096) 2 _ _ _ (ix4 b q (lane h d) p) rfl (ix4 b q d p) fun c => ?_).trans
      (extractStridedSlice_apply _ _ _ _ _ fun a => ?_)
    · match c with
      | ⟨0, _⟩ => rfl
      | ⟨1, _⟩ => rfl
      | ⟨2, _⟩ => show d.val = 64 * h.val + d.val; omega
      | ⟨3, _⟩ => rfl
    · match a with
      | ⟨0, _⟩ => show b.val = 0 + b.val; omega
      | ⟨1, _⟩ => show q'.val = 0 + q.val; omega
      | ⟨2, _⟩ => show d.val = 0 + d.val; omega
      | ⟨3, _⟩ => show p.val = 0 + p.val; omega
  · refine (concatenate_pair_apply_right (s₁ := S8x2x64x4096) (s₂ := S8x2x64x4096) 2 _ _ _ (ix4 b q (lane h d) p) rfl rfl (ix4 b q d p) (fun c hc => ?_) ?_).trans (hostZeros_apply _)
    · match c with
      | ⟨0, _⟩ => rfl
      | ⟨1, _⟩ => rfl
      | ⟨2, _⟩ => exact absurd rfl hc
      | ⟨3, _⟩ => rfl
    · show d.val + 64 = 64 * h.val + d.val
      omega

theorem hostSecond_apply (x : FVec Ideal S8x4x64x4096 .f32) (b : Fin 8) (q : Fin 2) (h : Fin 2) (d : Fin 64) (p : Fin 4096) (q' : Fin 4)
    (hq : q'.val = 2 + q.val) : hostSecond x (ix4 b q (lane h d) p) = if 1 = h.val then x (ix4 b q' d p) else 0 := by
  unfold hostSecond
  split_ifs with hh
  · refine (concatenate_pair_apply_right (s₁ := S8x2x64x4096) (s₂ := S8x2x64x4096) 2 _ _ _ (ix4 b q (lane h d) p) rfl rfl (ix4 b q d p) (fun c hc => ?_) ?_).trans
      (extractStridedSlice_apply _ _ _ _ _ fun a => ?_)
    · match c with
      | ⟨0, _⟩ => rfl
      | ⟨1, _⟩ => rfl
      | ⟨2, _⟩ => exact absurd rfl hc
      | ⟨3, _⟩ => rfl
    · show d.val + 64 = 64 * h.val + d.val
      omega
    · match a with
      | ⟨0, _⟩ => show b.val = 0 + b.val; omega
      | ⟨1, _⟩ => exact hq
      | ⟨2, _⟩ => show d.val = 0 + d.val; omega
      | ⟨3, _⟩ => show p.val = 0 + p.val; omega
  · refine (concatenate_pair_apply_left (s₁ := S8x2x64x4096) (s₂ := S8x2x64x4096) 2 _ _ _ (ix4 b q (lane h d) p) rfl (ix4 b q d p) fun c => ?_).trans (hostZeros_apply _)
    match c with
    | ⟨0, _⟩ => rfl
    | ⟨1, _⟩ => rfl
    | ⟨2, _⟩ => show d.val = 64 * h.val + d.val; omega
    | ⟨3, _⟩ => rfl

theorem hostLanes_apply (x : FVec Ideal S8x4x64x4096 .f32) (b : Fin 8) (q : Fin 4) (h : Fin 2) (d : Fin 64) (p : Fin 4096) :
    hostLanes x (ix4 b q (lane h d) p) = if q.val / 2 = h.val then x (ix4 b q d p) else 0 := by
  unfold hostLanes
  by_cases hq : q.val < 2
  · refine (concatenate_pair_apply_left (s₁ := S8x2x128x4096) (s₂ := S8x2x128x4096) 1 _ _ _ (ix4 b q (lane h d) p) rfl (ix4 b (⟨q.val, hq⟩ : Fin 2) (lane h d) p) fun c => ?_).trans
      ((hostFirst_apply x b ⟨q.val, hq⟩ h d p q rfl).trans ?_)
    · match c with
      | ⟨0, _⟩ => rfl
      | ⟨1, _⟩ => rfl
      | ⟨2, _⟩ => rfl
      | ⟨3, _⟩ => rfl
    · rw [show q.val / 2 = 0 by omega]
  · refine (concatenate_pair_apply_right (s₁ := S8x2x128x4096) (s₂ := S8x2x128x4096) 1 _ _ _ (ix4 b q (lane h d) p) rfl rfl (ix4 b (⟨q.val - 2, by omega⟩ : Fin 2) (lane h d) p) (fun c hc => ?_) ?_).trans
      ((hostSecond_apply x b ⟨q.val - 2, by omega⟩ h d p q (by show q.val = 2 + (q.val - 2); omega)).trans ?_)
    · match c with
      | ⟨0, _⟩ => rfl
      | ⟨1, _⟩ => exact absurd rfl hc
      | ⟨2, _⟩ => rfl
      | ⟨3, _⟩ => rfl
    · show q.val - 2 + 2 = q.val
      omega
    · rw [show q.val / 2 = 1 by omega]

/-- The reference's queries are the kernel's. -/
theorem hostQueries_eq (x : FVec Ideal S32768x3840 .f32) (g : FVec Ideal S64 .f32) : hostQueries x g = queries x g := by
  refine funext fun (i : S8x4x128x4096.Idx) => ?_
  obtain ⟨b, q, l, p, rfl⟩ : ∃ b q l p, i = ix4 b q l p := ⟨i 0, i 1, i 2, i 3, eq_ix4 i⟩
  obtain ⟨h, d, rfl⟩ := exists_lane l
  show hostLanes (hostColumns x g) (ix4 b q (lane h d) p) = queryAt x g b q (lane h d) p
  rw [hostLanes_apply, hostColumns_apply]
  unfold queryAt
  have hl : (lane h d).val = 64 * h.val + d.val := rfl
  have hd : (⟨(lane h d).val % 64, by omega⟩ : Fin 64) = d := Fin.ext (by show (lane h d).val % 64 = d.val; omega)
  rw [show (lane h d).val / 64 = h.val by omega, hd]

/-- The reference's keys are the kernel's. -/
theorem hostKeys_eq (x : FVec Ideal S32768x3840 .f32) (g : FVec Ideal S64 .f32) : hostKeys x g = keys x g := by
  refine funext fun (i : S32768x128.Idx) => ?_
  obtain ⟨n, l, rfl⟩ : ∃ n l, i = ix2 n l := ⟨i 0, i 1, eq_ix2 i⟩
  obtain ⟨h, d, rfl⟩ := exists_lane l
  show shapeCast S32768x128 (hostKeysTurned x g) facts.shapeCasts_S8x4096x2x64_S32768x128 (ix2 n (lane h d)) = keyAt x g n (lane h d)
  have hl : (lane h d).val = 64 * h.val + d.val := rfl
  refine (shapeCast_apply _ _ _ (ix4 (⟨n.val / 4096, by omega⟩ : Fin 8) (⟨n.val % 4096, by omega⟩ : Fin 4096) h d) ?_).trans
    ((hostKeysTurned_apply x g _ _ h d).trans ?_)
  · rw [Shape.rowMajor_val_four (d := S8x4096x2x64.size), Shape.rowMajor_val_two (d := S32768x128.size)]
    show ((n.val / 4096 * 4096 + n.val % 4096) * 2 + h.val) * 64 + d.val = n.val * 128 + (64 * h.val + d.val)
    omega
  unfold keyAt
  have hd : (⟨(lane h d).val % 64, by omega⟩ : Fin 64) = d := Fin.ext (by show (lane h d).val % 64 = d.val; omega)
  have hh : (⟨(lane h d).val / 64, by omega⟩ : Fin 2) = h := Fin.ext (by show (lane h d).val / 64 = h.val; omega)
  have hn : (⟨4096 * (n.val / 4096) + n.val % 4096, by omega⟩ : Fin 32768) = n := Fin.ext (by
    show 4096 * (n.val / 4096) + n.val % 4096 = n.val; omega)
  rw [hd, hh]
  exact congrArg (fun n' => ready rowAngles columnAngles (keyHead x n' h) _ _ d) hn

/-- The reference's values are the kernel's. -/
theorem hostValues_eq (x : FVec Ideal S32768x3840 .f32) : hostValues x = values x := by
  refine funext fun (i : S8x128x4096.Idx) => ?_
  obtain ⟨b, l, p, rfl⟩ : ∃ b l p, i = ix3 b l p := ⟨i 0, i 1, i 2, eq_ix3 i⟩
  show hostValueRows x (ix3 b l p) = valueAt x b l p
  refine (transpose_apply _ _ _ _ (ix3 b p l) fun a => ?_).trans
    ((shapeCast_apply _ _ _ (ix2 (⟨4096 * b.val + p.val, by omega⟩ : Fin 32768) l) ?_).trans (extractStridedSlice_apply _ _ _ _ _ fun a => ?_))
  · match a with
    | ⟨0, _⟩ => rfl
    | ⟨1, _⟩ => rfl
    | ⟨2, _⟩ => rfl
  · rw [Shape.rowMajor_val_two (d := S32768x128.size), Shape.rowMajor_val_three (d := S8x4096x128.size)]
    show (4096 * b.val + p.val) * 128 + l.val = (b.val * 4096 + p.val) * 128 + l.val
    omega
  · match a with
    | ⟨0, _⟩ => show 4096 * b.val + p.val = 0 + (4096 * b.val + p.val); omega
    | ⟨1, _⟩ => rfl

end Cert.Proof.Prep

end
-- ==== Proof.Prep.lean ====
/-
  The preparation of the attention's queries, keys and values: the kernel's claims. Over the reals the squares' split in
  a high and a low part changes nothing, so the kernel's product with the matrix of ones is each head's sum of squares,
  and its two rotations of the lanes bring each entry its partner.
-/
module

public import proofs.«01_k».proof.Defs
public import proofs.«01_k».proof.Proof.Gen.Kernel7.Frame
public import proofs.«01_k».proof.Proof.Gen.Pre_finite_heads
public import proofs.«01_k».proof.Proof.GqaPre
public import proofs.«01_k».proof.Proof.PrepReference
public import Idealize.ShloMosaic.Lib.Claim
public import Idealize.ShloMosaic.Adequacy
public import Idealize.ShloMosaic.Init

@[expose] public section

noncomputable section

namespace Cert.Proof.Prep

open Idealize.ShloMosaic Idealize.ShloMosaic.ValueIdx Idealize.ShloMosaic.TcCoe
open Idealize.SL.Sem

instance : Subsingleton Cert.Pre_finite_heads.S_.Idx := ⟨fun _ _ => funext fun a => a.elim0⟩

/-- The precondition, decoded. -/
theorem pre_real (m : (ℓ : Loc Cert.Kernel7Ideal.nD Cert.Kernel7Ideal.τ Cert.Kernel7Ideal.sig) → Buf (Elt Ideal) ℓ) (c : Dev Cert.Kernel7Ideal.nD)
    (h : Cert.Pre_Kernel7Ideal_finite_heads m) : Real m c := fun i =>
  Gqa.real_of_abs_lt (Host.reduce_andi_all _ _ _ _ _ (congrFun (h c) ix0) i)

/-- The kernel's frame. -/
theorem frame_kernel : Cert.quiescent_Kernel7 := fun m g _ => Cert.Kernel7.Gen.frame m g

/-- The kernel's frame at the extended reals. -/
theorem frame_kernelIdeal : Cert.quiescent_Kernel7Ideal := fun m g _ => Cert.Kernel7Ideal.Gen.frame m g

/-- The same, of finite arguments. -/
theorem frame_kernelIdeal_pre : Cert.quiescent_Kernel7Ideal_pre_finite_heads := fun m g _ => Cert.Kernel7Ideal.Gen.frame m g

/-- The reference's frame at the extended reals. -/
theorem frame_referenceIdeal : Cert.quiescent_Reference7Ideal := fun m g _ =>
  (θ_run Cert.Reference7Ideal.defs _ _).mono (fun r h => ⟨fun c => (h c).2.2.2, sem_eq_zero_of_no_sems (by decide) r.2⟩)
    (Cert.Reference7Ideal.Value.run (F := Ideal) m g)

/-- The same, of finite arguments. -/
theorem frame_referenceIdeal_pre : Cert.quiescent_Reference7Ideal_pre_finite_heads := fun m g _ => frame_referenceIdeal m g trivial

/-- The kernel and the reference end with equal results. -/
theorem algebraic : Cert.algebraic_Kernel7Ideal_Reference7Ideal_pre_finite_heads := by
  intro m g m' g' hpre hagree
  refine ⟨fun c => queries (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg1)),
    fun c => keys (m ((c.tc : Thread Cert.Kernel7Ideal.nD Cert.Kernel7Ideal.τ).loc Cert.Kernel7Ideal.main_arg0))
      (m ((c.tc : Thread Cert.Kernel7Ideal.nD Cert.Kernel7Ideal.τ).loc Cert.Kernel7Ideal.main_arg2)),
    fun c => values (m ((c.tc : Thread Cert.Kernel7Ideal.nD Cert.Kernel7Ideal.τ).loc Cert.Kernel7Ideal.main_arg0)), ?_, ?_⟩
  · refine (θ_run Cert.Kernel7Ideal.defs _ _).mono (fun r h c => ?_) (Cert.Kernel7Ideal.Value.run_blocks (F := Ideal) m g)
    exact ⟨(h c).1.trans (final8 m c (pre_real m c hpre)), (h c).2.1.trans (final9 m c (pre_real m c hpre)), (h c).2.2.1.trans (final10 m c), (h c).2.2.2⟩
  · refine (θ_run Cert.Reference7Ideal.defs _ _).mono (fun r h c => ?_) (Cert.Reference7Ideal.Value.run (F := Ideal) m' g')
    obtain ⟨a0, a1, a2⟩ := hagree c
    refine ⟨(h c).1.trans ?_, (h c).2.1.trans ?_, (h c).2.2.1.trans ?_, (h c).2.2.2⟩
    · refine (show _ = hostQueries (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg1)) from rfl).trans ?_
      rw [a0, a1]
      exact hostQueries_eq _ _
    · refine (show _ = hostKeys (m' ((c.tc : Thread Cert.Reference7Ideal.nD Cert.Reference7Ideal.τ).loc Cert.Reference7Ideal.main_arg0))
        (m' ((c.tc : Thread Cert.Reference7Ideal.nD Cert.Reference7Ideal.τ).loc Cert.Reference7Ideal.main_arg2)) from rfl).trans ?_
      rw [a0, a2]
      exact hostKeys_eq _ _
    · refine (show _ = hostValues (m' ((c.tc : Thread Cert.Reference7Ideal.nD Cert.Reference7Ideal.τ).loc Cert.Reference7Ideal.main_arg0)) from rfl).trans ?_
      rw [a0]
      exact hostValues_eq _

end Cert.Proof.Prep

end
-- ==== Proof.lean ====
module

public import proofs.«01_k».proof.Proof.Gen.Kernel6.Frame
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Pre_finite_heads
public import proofs.«01_k».proof.Proof.Gen.Kernel6Ideal.Value
public import proofs.«01_k».proof.Proof.Gen.Reference6Ideal.Run
public import proofs.«01_k».proof.Proof.Gen.Pre_finite_router
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_finite_scores
public import proofs.«01_k».proof.Proof.Gen.KernelIdeal.Value
public import proofs.«01_k».proof.Proof.Gen.ReferenceIdeal.Run
public import proofs.«01_k».proof.Proof.Gen.Reference.Run
public import proofs.«01_k».proof.Proof.GqaClaim
public import proofs.«01_k».proof.Proof.InProj
public import proofs.«01_k».proof.Proof.MergeClaim
public import proofs.«01_k».proof.Proof.ResLn
public import proofs.«01_k».proof.Proof.LnIn
public import proofs.«01_k».proof.Proof.Router
public import proofs.«01_k».proof.Proof.Prep
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite_scores.Gen.facts, Cert.Pre_finite_router.Gen.facts, Cert.Pre_finite_heads.Gen.facts,
  Gqa.frame_kernel, Gqa.frame_kernelIdeal, Gqa.frame_kernelIdeal_pre, Gqa.frame_referenceIdeal, Gqa.frame_referenceIdeal_pre,
  Gqa.frame_reference,
  InProj.frame_kernel, InProj.frame_kernelIdeal, InProj.frame_referenceIdeal,
  Merge.frame_kernel, Merge.frame_kernelIdeal, Merge.frame_referenceIdeal,
  ResLn.frame_kernel, ResLn.frame_kernelIdeal, ResLn.frame_referenceIdeal,
  LnIn.frame_kernel, LnIn.frame_kernelIdeal, LnIn.frame_referenceIdeal,
  Router.frame_kernel, Router.frame_kernelIdeal, Router.frame_kernelIdeal_pre, Router.frame_referenceIdeal,
  Router.frame_referenceIdeal_pre,
  Prep.frame_kernel, Prep.frame_kernelIdeal, Prep.frame_kernelIdeal_pre, Prep.frame_referenceIdeal, Prep.frame_referenceIdeal_pre,
  trivial, trivial, Gqa.algebraic, trivial, InProj.algebraic, Merge.preserves, Merge.algebraic, trivial, ResLn.algebraic, trivial, LnIn.algebraic,
  trivial, Router.algebraic, trivial, Prep.algebraic⟩

end Cert.Proof

end
